-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Ffn [hPre_experts_named : Cert.Pre_experts_named.Facts] (m : (ℓ : Loc Cert.Ffn.nD Cert.Ffn.τ Cert.Ffn.sig) → Buf (Elt Bits) ℓ) : Prop :=
  ∀ c : Dev Cert.Ffn.nD,
    (Cert.Pre_experts_named.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5))) = (fun _ => 1#1)

def Pre_FfnIdeal [hPre_experts_named : Cert.Pre_experts_named.Facts] (m : (ℓ : Loc Cert.FfnIdeal.nD Cert.FfnIdeal.τ Cert.FfnIdeal.sig) → Buf (Elt Ideal) ℓ) : Prop :=
  ∀ c : Dev Cert.FfnIdeal.nD,
    (Cert.Pre_experts_named.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_experts_named [hPre_experts_named : Cert.Pre_experts_named.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_experts_named.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_TailB (m : (ℓ : Loc Cert.TailB.nD Cert.TailB.τ Cert.TailB.sig) → Buf (Elt Bits) ℓ) : Prop :=
  True

def Pre_TailBIdeal (m : (ℓ : Loc Cert.TailBIdeal.nD Cert.TailBIdeal.τ Cert.TailBIdeal.sig) → Buf (Elt Ideal) ℓ) : Prop :=
  True

def Pre_TailBRefIdeal (m : (ℓ : Loc Cert.TailBRefIdeal.nD Cert.TailBRefIdeal.τ Cert.TailBRefIdeal.sig) → Buf (Elt Ideal) ℓ) : Prop :=
  True

def Pre_MixS (m : (ℓ : Loc Cert.MixS.nD Cert.MixS.τ Cert.MixS.sig) → Buf (Elt Bits) ℓ) : Prop :=
  True

def Pre_MixSIdeal (m : (ℓ : Loc Cert.MixSIdeal.nD Cert.MixSIdeal.τ Cert.MixSIdeal.sig) → Buf (Elt Ideal) ℓ) : Prop :=
  True

def Pre_MixSRefIdeal (m : (ℓ : Loc Cert.MixSRefIdeal.nD Cert.MixSRefIdeal.τ Cert.MixSRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_Ffn [hFfn : Cert.Ffn.Facts] [hPre_experts_named : Cert.Pre_experts_named.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] [hPre_experts_named : Cert.Pre_experts_named.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_experts_named [hFfnRefIdeal : Cert.FfnRefIdeal.Facts] [hPre_experts_named : Cert.Pre_experts_named.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_experts_named m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1)
      ∧ r.2.mem ((c.tc : Thread Cert.ProjBRefIdeal.nD Cert.ProjBRefIdeal.τ).loc Cert.ProjBRefIdeal.main_arg2) = m ((c.tc : Thread Cert.ProjBRefIdeal.nD Cert.ProjBRefIdeal.τ).loc Cert.ProjBRefIdeal.main_arg2))
      ∧ r.2.sem = fun _ => 0)

def quiescent_TailB [hTailB : Cert.TailB.Facts] : Prop :=
  ∀ (m : (ℓ : Loc Cert.TailB.nD Cert.TailB.τ Cert.TailB.sig) → Buf (Elt Bits) ℓ) (g : Dev Cert.TailB.nD → PrngReg), Pre_TailB m →
    θ_run (Cert.TailB.defs (F := Bits)) (onTc (τ := Cert.TailB.τ) (Cert.TailB.main (F := Bits))) ⟨m, fun _ => 0, g⟩ (fun r => (∀ c : Dev Cert.TailB.nD,
      r.2.mem ((c.tc : Thread Cert.TailB.nD Cert.TailB.τ).loc Cert.TailB.main_arg0) = m ((c.tc : Thread Cert.TailB.nD Cert.TailB.τ).loc Cert.TailB.main_arg0)
      ∧ r.2.mem ((c.tc : Thread Cert.TailB.nD Cert.TailB.τ).loc Cert.TailB.main_arg1) = m ((c.tc : Thread Cert.TailB.nD Cert.TailB.τ).loc Cert.TailB.main_arg1)
      ∧ r.2.mem ((c.tc : Thread Cert.TailB.nD Cert.TailB.τ).loc Cert.TailB.main_arg2) = m ((c.tc : Thread Cert.TailB.nD Cert.TailB.τ).loc Cert.TailB.main_arg2)
      ∧ r.2.mem ((c.tc : Thread Cert.TailB.nD Cert.TailB.τ).loc Cert.TailB.main_arg3) = m ((c.tc : Thread Cert.TailB.nD Cert.TailB.τ).loc Cert.TailB.main_arg3)
      ∧ r.2.mem ((c.tc : Thread Cert.TailB.nD Cert.TailB.τ).loc Cert.TailB.main_arg4) = m ((c.tc : Thread Cert.TailB.nD Cert.TailB.τ).loc Cert.TailB.main_arg4))
      ∧ r.2.sem = fun _ => 0)

def quiescent_TailBIdeal [hTailBIdeal : Cert.TailBIdeal.Facts] : Prop :=
  ∀ (m : (ℓ : Loc Cert.TailBIdeal.nD Cert.TailBIdeal.τ Cert.TailBIdeal.sig) → Buf (Elt Ideal) ℓ) (g : Dev Cert.TailBIdeal.nD → PrngReg), Pre_TailBIdeal m →
    θ_run (Cert.TailBIdeal.defs (F := Ideal)) (onTc (τ := Cert.TailBIdeal.τ) (Cert.TailBIdeal.main (F := Ideal))) ⟨m, fun _ => 0, g⟩ (fun r => (∀ c : Dev Cert.TailBIdeal.nD,
      r.2.mem ((c.tc : Thread Cert.TailBIdeal.nD Cert.TailBIdeal.τ).loc Cert.TailBIdeal.main_arg0) = m ((c.tc : Thread Cert.TailBIdeal.nD Cert.TailBIdeal.τ).loc Cert.TailBIdeal.main_arg0)
      ∧ r.2.mem ((c.tc : Thread Cert.TailBIdeal.nD Cert.TailBIdeal.τ).loc Cert.TailBIdeal.main_arg1) = m ((c.tc : Thread Cert.TailBIdeal.nD Cert.TailBIdeal.τ).loc Cert.TailBIdeal.main_arg1)
      ∧ r.2.mem ((c.tc : Thread Cert.TailBIdeal.nD Cert.TailBIdeal.τ).loc Cert.TailBIdeal.main_arg2) = m ((c.tc : Thread Cert.TailBIdeal.nD Cert.TailBIdeal.τ).loc Cert.TailBIdeal.main_arg2)
      ∧ r.2.mem ((c.tc : Thread Cert.TailBIdeal.nD Cert.TailBIdeal.τ).loc Cert.TailBIdeal.main_arg3) = m ((c.tc : Thread Cert.TailBIdeal.nD Cert.TailBIdeal.τ).loc Cert.TailBIdeal.main_arg3)
      ∧ r.2.mem ((c.tc : Thread Cert.TailBIdeal.nD Cert.TailBIdeal.τ).loc Cert.TailBIdeal.main_arg4) = m ((c.tc : Thread Cert.TailBIdeal.nD Cert.TailBIdeal.τ).loc Cert.TailBIdeal.main_arg4))
      ∧ r.2.sem = fun _ => 0)

def quiescent_TailBRefIdeal [hTailBRefIdeal : Cert.TailBRefIdeal.Facts] : Prop :=
  ∀ (m : (ℓ : Loc Cert.TailBRefIdeal.nD Cert.TailBRefIdeal.τ Cert.TailBRefIdeal.sig) → Buf (Elt Ideal) ℓ) (g : Dev Cert.TailBRefIdeal.nD → PrngReg), Pre_TailBRefIdeal m →
    θ_run (Cert.TailBRefIdeal.defs (F := Ideal)) (onTc (τ := Cert.TailBRefIdeal.τ) (Cert.TailBRefIdeal.main (F := Ideal))) ⟨m, fun _ => 0, g⟩ (fun r => (∀ c : Dev Cert.TailBRefIdeal.nD,
      r.2.mem ((c.tc : Thread Cert.TailBRefIdeal.nD Cert.TailBRefIdeal.τ).loc Cert.TailBRefIdeal.main_arg0) = m ((c.tc : Thread Cert.TailBRefIdeal.nD Cert.TailBRefIdeal.τ).loc Cert.TailBRefIdeal.main_arg0)
      ∧ r.2.mem ((c.tc : Thread Cert.TailBRefIdeal.nD Cert.TailBRefIdeal.τ).loc Cert.TailBRefIdeal.main_arg1) = m ((c.tc : Thread Cert.TailBRefIdeal.nD Cert.TailBRefIdeal.τ).loc Cert.TailBRefIdeal.main_arg1)
      ∧ r.2.mem ((c.tc : Thread Cert.TailBRefIdeal.nD Cert.TailBRefIdeal.τ).loc Cert.TailBRefIdeal.main_arg2) = m ((c.tc : Thread Cert.TailBRefIdeal.nD Cert.TailBRefIdeal.τ).loc Cert.TailBRefIdeal.main_arg2)
      ∧ r.2.mem ((c.tc : Thread Cert.TailBRefIdeal.nD Cert.TailBRefIdeal.τ).loc Cert.TailBRefIdeal.main_arg3) = m ((c.tc : Thread Cert.TailBRefIdeal.nD Cert.TailBRefIdeal.τ).loc Cert.TailBRefIdeal.main_arg3)
      ∧ r.2.mem ((c.tc : Thread Cert.TailBRefIdeal.nD Cert.TailBRefIdeal.τ).loc Cert.TailBRefIdeal.main_arg4) = m ((c.tc : Thread Cert.TailBRefIdeal.nD Cert.TailBRefIdeal.τ).loc Cert.TailBRefIdeal.main_arg4))
      ∧ r.2.sem = fun _ => 0)

def quiescent_MixS [hMixS : Cert.MixS.Facts] : Prop :=
  ∀ (m : (ℓ : Loc Cert.MixS.nD Cert.MixS.τ Cert.MixS.sig) → Buf (Elt Bits) ℓ) (g : Dev Cert.MixS.nD → PrngReg), Pre_MixS m →
    θ_run (Cert.MixS.defs (F := Bits)) (onTc (τ := Cert.MixS.τ) (Cert.MixS.main (F := Bits))) ⟨m, fun _ => 0, g⟩ (fun r => (∀ c : Dev Cert.MixS.nD,
      r.2.mem ((c.tc : Thread Cert.MixS.nD Cert.MixS.τ).loc Cert.MixS.main_arg0) = m ((c.tc : Thread Cert.MixS.nD Cert.MixS.τ).loc Cert.MixS.main_arg0)
      ∧ r.2.mem ((c.tc : Thread Cert.MixS.nD Cert.MixS.τ).loc Cert.MixS.main_arg1) = m ((c.tc : Thread Cert.MixS.nD Cert.MixS.τ).loc Cert.MixS.main_arg1)
      ∧ r.2.mem ((c.tc : Thread Cert.MixS.nD Cert.MixS.τ).loc Cert.MixS.main_arg2) = m ((c.tc : Thread Cert.MixS.nD Cert.MixS.τ).loc Cert.MixS.main_arg2)
      ∧ r.2.mem ((c.tc : Thread Cert.MixS.nD Cert.MixS.τ).loc Cert.MixS.main_arg3) = m ((c.tc : Thread Cert.MixS.nD Cert.MixS.τ).loc Cert.MixS.main_arg3)
      ∧ r.2.mem ((c.tc : Thread Cert.MixS.nD Cert.MixS.τ).loc Cert.MixS.main_arg4) = m ((c.tc : Thread Cert.MixS.nD Cert.MixS.τ).loc Cert.MixS.main_arg4)
      ∧ r.2.mem ((c.tc : Thread Cert.MixS.nD Cert.MixS.τ).loc Cert.MixS.main_arg5) = m ((c.tc : Thread Cert.MixS.nD Cert.MixS.τ).loc Cert.MixS.main_arg5)
      ∧ r.2.mem ((c.tc : Thread Cert.MixS.nD Cert.MixS.τ).loc Cert.MixS.main_arg6) = m ((c.tc : Thread Cert.MixS.nD Cert.MixS.τ).loc Cert.MixS.main_arg6)
      ∧ r.2.mem ((c.tc : Thread Cert.MixS.nD Cert.MixS.τ).loc Cert.MixS.main_arg7) = m ((c.tc : Thread Cert.MixS.nD Cert.MixS.τ).loc Cert.MixS.main_arg7))
      ∧ r.2.sem = fun _ => 0)

def quiescent_MixSIdeal [hMixSIdeal : Cert.MixSIdeal.Facts] : Prop :=
  ∀ (m : (ℓ : Loc Cert.MixSIdeal.nD Cert.MixSIdeal.τ Cert.MixSIdeal.sig) → Buf (Elt Ideal) ℓ) (g : Dev Cert.MixSIdeal.nD → PrngReg), Pre_MixSIdeal m →
    θ_run (Cert.MixSIdeal.defs (F := Ideal)) (onTc (τ := Cert.MixSIdeal.τ) (Cert.MixSIdeal.main (F := Ideal))) ⟨m, fun _ => 0, g⟩ (fun r => (∀ c : Dev Cert.MixSIdeal.nD,
      r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
      ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
      ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
      ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
      ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
      ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
      ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6)
      ∧ r.2.mem ((c.tc : Thread Cert.MixSIdeal.nD Cert.MixSIdeal.τ).loc Cert.MixSIdeal.main_arg7) = m ((c.tc : Thread Cert.MixSIdeal.nD Cert.MixSIdeal.τ).loc Cert.MixSIdeal.main_arg7))
      ∧ r.2.sem = fun _ => 0)

def quiescent_MixSRefIdeal [hMixSRefIdeal : Cert.MixSRefIdeal.Facts] : Prop :=
  ∀ (m : (ℓ : Loc Cert.MixSRefIdeal.nD Cert.MixSRefIdeal.τ Cert.MixSRefIdeal.sig) → Buf (Elt Ideal) ℓ) (g : Dev Cert.MixSRefIdeal.nD → PrngReg), Pre_MixSRefIdeal m →
    θ_run (Cert.MixSRefIdeal.defs (F := Ideal)) (onTc (τ := Cert.MixSRefIdeal.τ) (Cert.MixSRefIdeal.main (F := Ideal))) ⟨m, fun _ => 0, g⟩ (fun r => (∀ c : Dev Cert.MixSRefIdeal.nD,
      r.2.mem ((c.tc : Thread Cert.MixSRefIdeal.nD Cert.MixSRefIdeal.τ).loc Cert.MixSRefIdeal.main_arg0) = m ((c.tc : Thread Cert.MixSRefIdeal.nD Cert.MixSRefIdeal.τ).loc Cert.MixSRefIdeal.main_arg0)
      ∧ r.2.mem ((c.tc : Thread Cert.MixSRefIdeal.nD Cert.MixSRefIdeal.τ).loc Cert.MixSRefIdeal.main_arg1) = m ((c.tc : Thread Cert.MixSRefIdeal.nD Cert.MixSRefIdeal.τ).loc Cert.MixSRefIdeal.main_arg1)
      ∧ r.2.mem ((c.tc : Thread Cert.MixSRefIdeal.nD Cert.MixSRefIdeal.τ).loc Cert.MixSRefIdeal.main_arg2) = m ((c.tc : Thread Cert.MixSRefIdeal.nD Cert.MixSRefIdeal.τ).loc Cert.MixSRefIdeal.main_arg2)
      ∧ r.2.mem ((c.tc : Thread Cert.MixSRefIdeal.nD Cert.MixSRefIdeal.τ).loc Cert.MixSRefIdeal.main_arg3) = m ((c.tc : Thread Cert.MixSRefIdeal.nD Cert.MixSRefIdeal.τ).loc Cert.MixSRefIdeal.main_arg3)
      ∧ r.2.mem ((c.tc : Thread Cert.MixSRefIdeal.nD Cert.MixSRefIdeal.τ).loc Cert.MixSRefIdeal.main_arg4) = m ((c.tc : Thread Cert.MixSRefIdeal.nD Cert.MixSRefIdeal.τ).loc Cert.MixSRefIdeal.main_arg4)
      ∧ r.2.mem ((c.tc : Thread Cert.MixSRefIdeal.nD Cert.MixSRefIdeal.τ).loc Cert.MixSRefIdeal.main_arg5) = m ((c.tc : Thread Cert.MixSRefIdeal.nD Cert.MixSRefIdeal.τ).loc Cert.MixSRefIdeal.main_arg5)
      ∧ r.2.mem ((c.tc : Thread Cert.MixSRefIdeal.nD Cert.MixSRefIdeal.τ).loc Cert.MixSRefIdeal.main_arg6) = m ((c.tc : Thread Cert.MixSRefIdeal.nD Cert.MixSRefIdeal.τ).loc Cert.MixSRefIdeal.main_arg6)
      ∧ r.2.mem ((c.tc : Thread Cert.MixSRefIdeal.nD Cert.MixSRefIdeal.τ).loc Cert.MixSRefIdeal.main_arg7) = m ((c.tc : Thread Cert.MixSRefIdeal.nD Cert.MixSRefIdeal.τ).loc Cert.MixSRefIdeal.main_arg7))
      ∧ r.2.sem = fun _ => 0)

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v2) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v105) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v13) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v13) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_Ffn_FfnIdeal : Prop :=
  True

def algebraic_FfnIdeal_FfnRefIdeal [hFfnIdeal : Cert.FfnIdeal.Facts] [hFfnRefIdeal : Cert.FfnRefIdeal.Facts] [hPre_experts_named : Cert.Pre_experts_named.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v139) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)) →
    ∃ (v0 : (c : Dev Cert.DenseIdeal.nD) → Buf (Elt Ideal) ((c.tc : Thread Cert.DenseIdeal.nD Cert.DenseIdeal.τ).loc Cert.DenseIdeal.main_v3)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v3) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v21) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)
      ∧ m' ((c.tc : Thread Cert.ProjBRefIdeal.nD Cert.ProjBRefIdeal.τ).loc Cert.ProjBRefIdeal.main_arg2) = m ((c.tc : Thread Cert.ProjBIdeal.nD Cert.ProjBIdeal.τ).loc Cert.ProjBIdeal.main_arg2)) →
    ∃ (v0 : (c : Dev Cert.ProjBIdeal.nD) → Buf (Elt Ideal) ((c.tc : Thread Cert.ProjBIdeal.nD Cert.ProjBIdeal.τ).loc Cert.ProjBIdeal.main_v2)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v2) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v13) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1)
          ∧ r.2.mem ((c.tc : Thread Cert.ProjBRefIdeal.nD Cert.ProjBRefIdeal.τ).loc Cert.ProjBRefIdeal.main_arg2) = m' ((c.tc : Thread Cert.ProjBRefIdeal.nD Cert.ProjBRefIdeal.τ).loc Cert.ProjBRefIdeal.main_arg2))

def preserves_TailB_TailBIdeal : Prop :=
  True

def algebraic_TailBIdeal_TailBRefIdeal [hTailBIdeal : Cert.TailBIdeal.Facts] [hTailBRefIdeal : Cert.TailBRefIdeal.Facts] : Prop :=
  ∀ (m : (ℓ : Loc Cert.TailBIdeal.nD Cert.TailBIdeal.τ Cert.TailBIdeal.sig) → Buf (Elt Ideal) ℓ) (g : Dev Cert.TailBIdeal.nD → PrngReg)
    (m' : (ℓ : Loc Cert.TailBRefIdeal.nD Cert.TailBRefIdeal.τ Cert.TailBRefIdeal.sig) → Buf (Elt Ideal) ℓ) (g' : Dev Cert.TailBRefIdeal.nD → PrngReg), Pre_TailBIdeal m →
    (∀ c : Dev Cert.TailBIdeal.nD,
      m' ((c.tc : Thread Cert.TailBRefIdeal.nD Cert.TailBRefIdeal.τ).loc Cert.TailBRefIdeal.main_arg0) = m ((c.tc : Thread Cert.TailBIdeal.nD Cert.TailBIdeal.τ).loc Cert.TailBIdeal.main_arg0)
      ∧ m' ((c.tc : Thread Cert.TailBRefIdeal.nD Cert.TailBRefIdeal.τ).loc Cert.TailBRefIdeal.main_arg1) = m ((c.tc : Thread Cert.TailBIdeal.nD Cert.TailBIdeal.τ).loc Cert.TailBIdeal.main_arg1)
      ∧ m' ((c.tc : Thread Cert.TailBRefIdeal.nD Cert.TailBRefIdeal.τ).loc Cert.TailBRefIdeal.main_arg2) = m ((c.tc : Thread Cert.TailBIdeal.nD Cert.TailBIdeal.τ).loc Cert.TailBIdeal.main_arg2)
      ∧ m' ((c.tc : Thread Cert.TailBRefIdeal.nD Cert.TailBRefIdeal.τ).loc Cert.TailBRefIdeal.main_arg3) = m ((c.tc : Thread Cert.TailBIdeal.nD Cert.TailBIdeal.τ).loc Cert.TailBIdeal.main_arg3)
      ∧ m' ((c.tc : Thread Cert.TailBRefIdeal.nD Cert.TailBRefIdeal.τ).loc Cert.TailBRefIdeal.main_arg4) = m ((c.tc : Thread Cert.TailBIdeal.nD Cert.TailBIdeal.τ).loc Cert.TailBIdeal.main_arg4)) →
    ∃ (v0 : (c : Dev Cert.TailBIdeal.nD) → Buf (Elt Ideal) ((c.tc : Thread Cert.TailBIdeal.nD Cert.TailBIdeal.τ).loc Cert.TailBIdeal.main_v1)),
      θ_run (Cert.TailBIdeal.defs (F := Ideal)) (onTc (τ := Cert.TailBIdeal.τ) (Cert.TailBIdeal.main (F := Ideal))) ⟨m, fun _ => 0, g⟩ (fun r => ∀ c : Dev Cert.TailBIdeal.nD,
          r.2.mem ((c.tc : Thread Cert.TailBIdeal.nD Cert.TailBIdeal.τ).loc Cert.TailBIdeal.main_v1) = v0 c
          ∧ r.2.mem ((c.tc : Thread Cert.TailBIdeal.nD Cert.TailBIdeal.τ).loc Cert.TailBIdeal.main_arg0) = m ((c.tc : Thread Cert.TailBIdeal.nD Cert.TailBIdeal.τ).loc Cert.TailBIdeal.main_arg0)
          ∧ r.2.mem ((c.tc : Thread Cert.TailBIdeal.nD Cert.TailBIdeal.τ).loc Cert.TailBIdeal.main_arg1) = m ((c.tc : Thread Cert.TailBIdeal.nD Cert.TailBIdeal.τ).loc Cert.TailBIdeal.main_arg1)
          ∧ r.2.mem ((c.tc : Thread Cert.TailBIdeal.nD Cert.TailBIdeal.τ).loc Cert.TailBIdeal.main_arg2) = m ((c.tc : Thread Cert.TailBIdeal.nD Cert.TailBIdeal.τ).loc Cert.TailBIdeal.main_arg2)
          ∧ r.2.mem ((c.tc : Thread Cert.TailBIdeal.nD Cert.TailBIdeal.τ).loc Cert.TailBIdeal.main_arg3) = m ((c.tc : Thread Cert.TailBIdeal.nD Cert.TailBIdeal.τ).loc Cert.TailBIdeal.main_arg3)
          ∧ r.2.mem ((c.tc : Thread Cert.TailBIdeal.nD Cert.TailBIdeal.τ).loc Cert.TailBIdeal.main_arg4) = m ((c.tc : Thread Cert.TailBIdeal.nD Cert.TailBIdeal.τ).loc Cert.TailBIdeal.main_arg4))
      ∧ θ_run (Cert.TailBRefIdeal.defs (F := Ideal)) (onTc (τ := Cert.TailBRefIdeal.τ) (Cert.TailBRefIdeal.main (F := Ideal))) ⟨m', fun _ => 0, g'⟩ (fun r => ∀ c : Dev Cert.TailBRefIdeal.nD,
          r.2.mem ((c.tc : Thread Cert.TailBRefIdeal.nD Cert.TailBRefIdeal.τ).loc Cert.TailBRefIdeal.main_v31) = v0 c
          ∧ r.2.mem ((c.tc : Thread Cert.TailBRefIdeal.nD Cert.TailBRefIdeal.τ).loc Cert.TailBRefIdeal.main_arg0) = m' ((c.tc : Thread Cert.TailBRefIdeal.nD Cert.TailBRefIdeal.τ).loc Cert.TailBRefIdeal.main_arg0)
          ∧ r.2.mem ((c.tc : Thread Cert.TailBRefIdeal.nD Cert.TailBRefIdeal.τ).loc Cert.TailBRefIdeal.main_arg1) = m' ((c.tc : Thread Cert.TailBRefIdeal.nD Cert.TailBRefIdeal.τ).loc Cert.TailBRefIdeal.main_arg1)
          ∧ r.2.mem ((c.tc : Thread Cert.TailBRefIdeal.nD Cert.TailBRefIdeal.τ).loc Cert.TailBRefIdeal.main_arg2) = m' ((c.tc : Thread Cert.TailBRefIdeal.nD Cert.TailBRefIdeal.τ).loc Cert.TailBRefIdeal.main_arg2)
          ∧ r.2.mem ((c.tc : Thread Cert.TailBRefIdeal.nD Cert.TailBRefIdeal.τ).loc Cert.TailBRefIdeal.main_arg3) = m' ((c.tc : Thread Cert.TailBRefIdeal.nD Cert.TailBRefIdeal.τ).loc Cert.TailBRefIdeal.main_arg3)
          ∧ r.2.mem ((c.tc : Thread Cert.TailBRefIdeal.nD Cert.TailBRefIdeal.τ).loc Cert.TailBRefIdeal.main_arg4) = m' ((c.tc : Thread Cert.TailBRefIdeal.nD Cert.TailBRefIdeal.τ).loc Cert.TailBRefIdeal.main_arg4))

def preserves_MixS_MixSIdeal : Prop :=
  True

def algebraic_MixSIdeal_MixSRefIdeal [hMixSIdeal : Cert.MixSIdeal.Facts] [hMixSRefIdeal : Cert.MixSRefIdeal.Facts] : Prop :=
  ∀ (m : (ℓ : Loc Cert.MixSIdeal.nD Cert.MixSIdeal.τ Cert.MixSIdeal.sig) → Buf (Elt Ideal) ℓ) (g : Dev Cert.MixSIdeal.nD → PrngReg)
    (m' : (ℓ : Loc Cert.MixSRefIdeal.nD Cert.MixSRefIdeal.τ Cert.MixSRefIdeal.sig) → Buf (Elt Ideal) ℓ) (g' : Dev Cert.MixSRefIdeal.nD → PrngReg), Pre_MixSIdeal m →
    (∀ c : Dev Cert.MixSIdeal.nD,
      m' ((c.tc : Thread Cert.MixSRefIdeal.nD Cert.MixSRefIdeal.τ).loc Cert.MixSRefIdeal.main_arg0) = m ((c.tc : Thread Cert.MixSIdeal.nD Cert.MixSIdeal.τ).loc Cert.MixSIdeal.main_arg0)
      ∧ m' ((c.tc : Thread Cert.MixSRefIdeal.nD Cert.MixSRefIdeal.τ).loc Cert.MixSRefIdeal.main_arg1) = m ((c.tc : Thread Cert.MixSIdeal.nD Cert.MixSIdeal.τ).loc Cert.MixSIdeal.main_arg1)
      ∧ m' ((c.tc : Thread Cert.MixSRefIdeal.nD Cert.MixSRefIdeal.τ).loc Cert.MixSRefIdeal.main_arg2) = m ((c.tc : Thread Cert.MixSIdeal.nD Cert.MixSIdeal.τ).loc Cert.MixSIdeal.main_arg2)
      ∧ m' ((c.tc : Thread Cert.MixSRefIdeal.nD Cert.MixSRefIdeal.τ).loc Cert.MixSRefIdeal.main_arg3) = m ((c.tc : Thread Cert.MixSIdeal.nD Cert.MixSIdeal.τ).loc Cert.MixSIdeal.main_arg3)
      ∧ m' ((c.tc : Thread Cert.MixSRefIdeal.nD Cert.MixSRefIdeal.τ).loc Cert.MixSRefIdeal.main_arg4) = m ((c.tc : Thread Cert.MixSIdeal.nD Cert.MixSIdeal.τ).loc Cert.MixSIdeal.main_arg4)
      ∧ m' ((c.tc : Thread Cert.MixSRefIdeal.nD Cert.MixSRefIdeal.τ).loc Cert.MixSRefIdeal.main_arg5) = m ((c.tc : Thread Cert.MixSIdeal.nD Cert.MixSIdeal.τ).loc Cert.MixSIdeal.main_arg5)
      ∧ m' ((c.tc : Thread Cert.MixSRefIdeal.nD Cert.MixSRefIdeal.τ).loc Cert.MixSRefIdeal.main_arg6) = m ((c.tc : Thread Cert.MixSIdeal.nD Cert.MixSIdeal.τ).loc Cert.MixSIdeal.main_arg6)
      ∧ m' ((c.tc : Thread Cert.MixSRefIdeal.nD Cert.MixSRefIdeal.τ).loc Cert.MixSRefIdeal.main_arg7) = m ((c.tc : Thread Cert.MixSIdeal.nD Cert.MixSIdeal.τ).loc Cert.MixSIdeal.main_arg7)) →
    ∃ (v0 : (c : Dev Cert.MixSIdeal.nD) → Buf (Elt Ideal) ((c.tc : Thread Cert.MixSIdeal.nD Cert.MixSIdeal.τ).loc Cert.MixSIdeal.main_v2_0)) (v1 : (c : Dev Cert.MixSIdeal.nD) → Buf (Elt Ideal) ((c.tc : Thread Cert.MixSIdeal.nD Cert.MixSIdeal.τ).loc Cert.MixSIdeal.main_v2_1)) (v2 : (c : Dev Cert.MixSIdeal.nD) → Buf (Elt Ideal) ((c.tc : Thread Cert.MixSIdeal.nD Cert.MixSIdeal.τ).loc Cert.MixSIdeal.main_v2_2)),
      θ_run (Cert.MixSIdeal.defs (F := Ideal)) (onTc (τ := Cert.MixSIdeal.τ) (Cert.MixSIdeal.main (F := Ideal))) ⟨m, fun _ => 0, g⟩ (fun r => ∀ c : Dev Cert.MixSIdeal.nD,
          r.2.mem ((c.tc : Thread Cert.MixSIdeal.nD Cert.MixSIdeal.τ).loc Cert.MixSIdeal.main_v2_0) = v0 c
          ∧ r.2.mem ((c.tc : Thread Cert.MixSIdeal.nD Cert.MixSIdeal.τ).loc Cert.MixSIdeal.main_v2_1) = v1 c
          ∧ r.2.mem ((c.tc : Thread Cert.MixSIdeal.nD Cert.MixSIdeal.τ).loc Cert.MixSIdeal.main_v2_2) = v2 c
          ∧ r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
          ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
          ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
          ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
          ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
          ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
          ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6)
          ∧ r.2.mem ((c.tc : Thread Cert.MixSIdeal.nD Cert.MixSIdeal.τ).loc Cert.MixSIdeal.main_arg7) = m ((c.tc : Thread Cert.MixSIdeal.nD Cert.MixSIdeal.τ).loc Cert.MixSIdeal.main_arg7))
      ∧ θ_run (Cert.MixSRefIdeal.defs (F := Ideal)) (onTc (τ := Cert.MixSRefIdeal.τ) (Cert.MixSRefIdeal.main (F := Ideal))) ⟨m', fun _ => 0, g'⟩ (fun r => ∀ c : Dev Cert.MixSRefIdeal.nD,
          r.2.mem ((c.tc : Thread Cert.MixSRefIdeal.nD Cert.MixSRefIdeal.τ).loc Cert.MixSRefIdeal.main_v79) = v0 c
          ∧ r.2.mem ((c.tc : Thread Cert.MixSRefIdeal.nD Cert.MixSRefIdeal.τ).loc Cert.MixSRefIdeal.main_v80) = v1 c
          ∧ r.2.mem ((c.tc : Thread Cert.MixSRefIdeal.nD Cert.MixSRefIdeal.τ).loc Cert.MixSRefIdeal.main_v81) = v2 c
          ∧ r.2.mem ((c.tc : Thread Cert.MixSRefIdeal.nD Cert.MixSRefIdeal.τ).loc Cert.MixSRefIdeal.main_arg0) = m' ((c.tc : Thread Cert.MixSRefIdeal.nD Cert.MixSRefIdeal.τ).loc Cert.MixSRefIdeal.main_arg0)
          ∧ r.2.mem ((c.tc : Thread Cert.MixSRefIdeal.nD Cert.MixSRefIdeal.τ).loc Cert.MixSRefIdeal.main_arg1) = m' ((c.tc : Thread Cert.MixSRefIdeal.nD Cert.MixSRefIdeal.τ).loc Cert.MixSRefIdeal.main_arg1)
          ∧ r.2.mem ((c.tc : Thread Cert.MixSRefIdeal.nD Cert.MixSRefIdeal.τ).loc Cert.MixSRefIdeal.main_arg2) = m' ((c.tc : Thread Cert.MixSRefIdeal.nD Cert.MixSRefIdeal.τ).loc Cert.MixSRefIdeal.main_arg2)
          ∧ r.2.mem ((c.tc : Thread Cert.MixSRefIdeal.nD Cert.MixSRefIdeal.τ).loc Cert.MixSRefIdeal.main_arg3) = m' ((c.tc : Thread Cert.MixSRefIdeal.nD Cert.MixSRefIdeal.τ).loc Cert.MixSRefIdeal.main_arg3)
          ∧ r.2.mem ((c.tc : Thread Cert.MixSRefIdeal.nD Cert.MixSRefIdeal.τ).loc Cert.MixSRefIdeal.main_arg4) = m' ((c.tc : Thread Cert.MixSRefIdeal.nD Cert.MixSRefIdeal.τ).loc Cert.MixSRefIdeal.main_arg4)
          ∧ r.2.mem ((c.tc : Thread Cert.MixSRefIdeal.nD Cert.MixSRefIdeal.τ).loc Cert.MixSRefIdeal.main_arg5) = m' ((c.tc : Thread Cert.MixSRefIdeal.nD Cert.MixSRefIdeal.τ).loc Cert.MixSRefIdeal.main_arg5)
          ∧ r.2.mem ((c.tc : Thread Cert.MixSRefIdeal.nD Cert.MixSRefIdeal.τ).loc Cert.MixSRefIdeal.main_arg6) = m' ((c.tc : Thread Cert.MixSRefIdeal.nD Cert.MixSRefIdeal.τ).loc Cert.MixSRefIdeal.main_arg6)
          ∧ r.2.mem ((c.tc : Thread Cert.MixSRefIdeal.nD Cert.MixSRefIdeal.τ).loc Cert.MixSRefIdeal.main_arg7) = m' ((c.tc : Thread Cert.MixSRefIdeal.nD Cert.MixSRefIdeal.τ).loc Cert.MixSRefIdeal.main_arg7))

def Claim : Prop :=
  ∃ (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hMemKv : Cert.MemKv.Facts) (hMemKvIdeal : Cert.MemKvIdeal.Facts) (hMemKvRefIdeal : Cert.MemKvRefIdeal.Facts) (hFfn : Cert.Ffn.Facts) (hFfnIdeal : Cert.FfnIdeal.Facts) (hFfnRefIdeal : Cert.FfnRefIdeal.Facts) (hDense : Cert.Dense.Facts) (hDenseIdeal : Cert.DenseIdeal.Facts) (hDenseRefIdeal : Cert.DenseRefIdeal.Facts) (hProjB : Cert.ProjB.Facts) (hProjBIdeal : Cert.ProjBIdeal.Facts) (hProjBRefIdeal : Cert.ProjBRefIdeal.Facts) (hTailB : Cert.TailB.Facts) (hTailBIdeal : Cert.TailBIdeal.Facts) (hTailBRefIdeal : Cert.TailBRefIdeal.Facts) (hMixS : Cert.MixS.Facts) (hMixSIdeal : Cert.MixSIdeal.Facts) (hMixSRefIdeal : Cert.MixSRefIdeal.Facts) (hPre_experts_named : Cert.Pre_experts_named.Facts),
    quiescent_Attn (hAttn := hAttn)
    ∧ quiescent_AttnIdeal (hAttnIdeal := hAttnIdeal)
    ∧ quiescent_AttnRefIdeal (hAttnRefIdeal := hAttnRefIdeal)
    ∧ quiescent_Proj (hProj := hProj)
    ∧ quiescent_ProjIdeal (hProjIdeal := hProjIdeal)
    ∧ quiescent_ProjRefIdeal (hProjRefIdeal := hProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Ffn (hFfn := hFfn) (hPre_experts_named := hPre_experts_named)
    ∧ quiescent_FfnIdeal (hFfnIdeal := hFfnIdeal) (hPre_experts_named := hPre_experts_named)
    ∧ quiescent_FfnRefIdeal (hFfnRefIdeal := hFfnRefIdeal)
    ∧ quiescent_FfnRefIdeal_pre_experts_named (hFfnRefIdeal := hFfnRefIdeal) (hPre_experts_named := hPre_experts_named)
    ∧ quiescent_Dense (hDense := hDense)
    ∧ quiescent_DenseIdeal (hDenseIdeal := hDenseIdeal)
    ∧ quiescent_DenseRefIdeal (hDenseRefIdeal := hDenseRefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_TailB (hTailB := hTailB)
    ∧ quiescent_TailBIdeal (hTailBIdeal := hTailBIdeal)
    ∧ quiescent_TailBRefIdeal (hTailBRefIdeal := hTailBRefIdeal)
    ∧ quiescent_MixS (hMixS := hMixS)
    ∧ quiescent_MixSIdeal (hMixSIdeal := hMixSIdeal)
    ∧ quiescent_MixSRefIdeal (hMixSRefIdeal := hMixSRefIdeal)
    ∧ preserves_Attn_AttnIdeal
    ∧ algebraic_AttnIdeal_AttnRefIdeal (hAttnIdeal := hAttnIdeal) (hAttnRefIdeal := hAttnRefIdeal)
    ∧ preserves_Proj_ProjIdeal
    ∧ algebraic_ProjIdeal_ProjRefIdeal (hProjIdeal := hProjIdeal) (hProjRefIdeal := hProjRefIdeal)
    ∧ preserves_MemKv_MemKvIdeal
    ∧ algebraic_MemKvIdeal_MemKvRefIdeal (hMemKvIdeal := hMemKvIdeal) (hMemKvRefIdeal := hMemKvRefIdeal)
    ∧ preserves_Ffn_FfnIdeal
    ∧ algebraic_FfnIdeal_FfnRefIdeal (hFfnIdeal := hFfnIdeal) (hFfnRefIdeal := hFfnRefIdeal) (hPre_experts_named := hPre_experts_named)
    ∧ preserves_Dense_DenseIdeal
    ∧ algebraic_DenseIdeal_DenseRefIdeal (hDenseIdeal := hDenseIdeal) (hDenseRefIdeal := hDenseRefIdeal)
    ∧ preserves_ProjB_ProjBIdeal
    ∧ algebraic_ProjBIdeal_ProjBRefIdeal (hProjBIdeal := hProjBIdeal) (hProjBRefIdeal := hProjBRefIdeal)
    ∧ preserves_TailB_TailBIdeal
    ∧ algebraic_TailBIdeal_TailBRefIdeal (hTailBIdeal := hTailBIdeal) (hTailBRefIdeal := hTailBRefIdeal)
    ∧ preserves_MixS_MixSIdeal
    ∧ algebraic_MixSIdeal_MixSRefIdeal (hMixSIdeal := hMixSIdeal) (hMixSRefIdeal := hMixSRefIdeal)
-- ==== Pre_experts_named.lean ====
abbrev S41984x1024 : Shape := ⟨2, ![41984, 1024]⟩
abbrev S1024 : Shape := ⟨1, ![1024]⟩
abbrev S8x1024x7168 : Shape := ⟨3, ![8, 1024, 7168]⟩
abbrev S8x3584x1024 : Shape := ⟨3, ![8, 3584, 1024]⟩
abbrev S41 : Shape := ⟨1, ![41]⟩
abbrev S1 : Shape := ⟨1, ![1]⟩
abbrev S_ : Shape := ⟨0, ![]⟩

class Facts : Prop where
  bcast_S_S41 : S_.BroadcastsInDim S41 (![] : Fin 0 → Fin S41.rank)
  shapeCasts_S1_S_ : S1.ShapeCasts S_

variable [Facts]

def fn {F : FTy → Type} [FloatOps F] (main_arg0 : FVec F S41984x1024 .f32) (main_arg1 : FVec F S1024 .f32) (main_arg2 : FVec F S8x1024x7168 .f32) (main_arg3 : FVec F S8x3584x1024 .f32) (main_arg4 : IVec S41 32) (main_arg5 : IVec S1 32) : IVec S41 1 :=
  let main_c : IVec S_ 32 := constantI S_ 32 0#32
  let main_v0 : IVec S41 32 := broadcastInDim S41 ![] bcast_S_S41 main_c
  let main_v1 : IVec S41 1 := cmpi .sge main_arg4 main_v0
  let main_c_0 : IVec S_ 32 := constantI S_ 32 8#32
  let main_v2 : IVec S41 32 := broadcastInDim S41 ![] bcast_S_S41 main_c_0
  let main_v3 : IVec S41 1 := cmpi .slt main_arg4 main_v2
  let main_v4 : IVec S41 1 := andi main_v1 main_v3
  let main_v5 : IVec S_ 32 := shapeCast S_ main_arg5 shapeCasts_S1_S_
  let main_c_1 : IVec S_ 32 := constantI S_ 32 1#32
  let main_v6 : IVec S_ 1 := cmpi .sge main_v5 main_c_1
  let main_v7 : IVec S41 1 := broadcastInDim S41 ![] bcast_S_S41 main_v6
  let main_v8 : IVec S41 1 := andi main_v4 main_v7
  main_v8
-- ==== Attn.lean ====
abbrev S16384x1536 : Shape := ⟨2, ![16384, 1536]⟩
abbrev S16384x1024 : Shape := ⟨2, ![16384, 1024]⟩
abbrev S512x512 : Shape := ⟨2, ![512, 512]⟩
abbrev S12 : Shape := ⟨1, ![12]⟩
abbrev S1024x1024 : Shape := ⟨2, ![1024, 1024]⟩
abbrev S1x12 : Shape := ⟨2, ![1, 12]⟩
abbrev S128x768 : Shape := ⟨2, ![128, 768]⟩
abbrev S128x256 : Shape := ⟨2, ![128, 256]⟩
abbrev S128x1024 : Shape := ⟨2, ![128, 1024]⟩
abbrev S256x256 : Shape := ⟨2, ![256, 256]⟩
abbrev S384x256 : Shape := ⟨2, ![384, 256]⟩
abbrev S128x64 : Shape := ⟨2, ![128, 64]⟩
abbrev S384x64 : Shape := ⟨2, ![384, 64]⟩
abbrev S256x64 : Shape := ⟨2, ![256, 64]⟩
abbrev S384x1 : Shape := ⟨2, ![384, 1]⟩
abbrev S1x1 : Shape := ⟨2, ![1, 1]⟩
abbrev S384 : Shape := ⟨1, ![384]⟩
abbrev S128 : Shape := ⟨1, ![128]⟩
abbrev S128x1 : Shape := ⟨2, ![128, 1]⟩

abbrev nBuf : Space → Nat
  | .hbm => 8
  | .vmem => 22
  | .smem => 1
  | _ => 0

abbrev bufTy : (tb : Table) → Fin (tcTables nBuf tb) → BufTy
  | .hbm, ⟨0, _⟩ => ⟨S16384x1536, .f32⟩
  | .hbm, ⟨1, _⟩ => ⟨S16384x1024, .f32⟩
  | .hbm, ⟨2, _⟩ => ⟨S512x512, .f32⟩
  | .hbm, ⟨3, _⟩ => ⟨S12, .f32⟩
  | .hbm, ⟨4, _⟩ => ⟨S1024x1024, .f32⟩
  | .hbm, ⟨5, _⟩ => ⟨S1x12, .f32⟩
  | .hbm, ⟨6, _⟩ => ⟨S1024x1024, .bf16⟩
  | .hbm, ⟨7, _⟩ => ⟨S16384x1024, .f32⟩
  | .local _ .vmem, ⟨0, _⟩ => ⟨S128x768, .f32⟩
  | .local _ .vmem, ⟨1, _⟩ => ⟨S128x768, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x1024, .f32⟩
  | .local _ .vmem, ⟨13, _⟩ => ⟨S128x1024, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S1024x1024, .bf16⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .smem, ⟨0, _⟩ => ⟨S1x12, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c3_i32 : BitVec 32 := 3#32
  let c0_i32_0 : BitVec 32 := 0#32
  ![v3.toNat, c3_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  ![v3.toNat, c4_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c4_i32 : BitVec 32 := 4#32
  let c0_i32 : BitVec 32 := 0#32
  ![v1.toNat, c4_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c5_i32 : BitVec 32 := 5#32
  let c0_i32 : BitVec 32 := 0#32
  ![v1.toNat, c5_i32.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S1x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AttnRefIdeal.lean ====
abbrev S16384x1536 : Shape := ⟨2, ![16384, 1536]⟩
abbrev S16384x1024 : Shape := ⟨2, ![16384, 1024]⟩
abbrev S512x512 : Shape := ⟨2, ![512, 512]⟩
abbrev S12 : Shape := ⟨1, ![12]⟩
abbrev S1024x1024 : Shape := ⟨2, ![1024, 1024]⟩
abbrev S2x8192x1536 : Shape := ⟨3, ![2, 8192, 1536]⟩
abbrev S2x256x512 : Shape := ⟨3, ![2, 256, 512]⟩
abbrev S2x256x256 : Shape := ⟨3, ![2, 256, 256]⟩
abbrev S2x256x4x64 : Shape := ⟨4, ![2, 256, 4, 64]⟩
abbrev S2x8192x768 : Shape := ⟨3, ![2, 8192, 768]⟩
abbrev S2x8192x256 : Shape := ⟨3, ![2, 8192, 256]⟩
abbrev S2x8192x4x64 : Shape := ⟨4, ![2, 8192, 4, 64]⟩
abbrev S4x3 : Shape := ⟨2, ![4, 3]⟩
abbrev S2x64x128x4x3x64 : Shape := ⟨6, ![2, 64, 128, 4, 3, 64]⟩
abbrev S2x64x128x4x64 : Shape := ⟨5, ![2, 64, 128, 4, 64]⟩
abbrev S2x1x128x4x64 : Shape := ⟨5, ![2, 1, 128, 4, 64]⟩
abbrev S_ : Shape := ⟨0, ![]⟩
abbrev S2x63x128x4x64 : Shape := ⟨5, ![2, 63, 128, 4, 64]⟩
abbrev S2x64x256x4x64 : Shape := ⟨5, ![2, 64, 256, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S2x64x4x256x128x3 : Shape := ⟨6, ![2, 64, 4, 256, 128, 3]⟩
abbrev S2x64x4x3x128x256 : Shape := ⟨6, ![2, 64, 4, 3, 128, 256]⟩
abbrev S4x3x1x1 : Shape := ⟨4, ![4, 3, 1, 1]⟩
abbrev S2x64x4x3x128 : Shape := ⟨5, ![2, 64, 4, 3, 128]⟩
abbrev S2x64x4x3x128x1 : Shape := ⟨6, ![2, 64, 4, 3, 128, 1]⟩
abbrev S1x1x4x3x1x1 : Shape := ⟨6, ![1, 1, 4, 3, 1, 1]⟩
abbrev S2x64x4x64x3x128 : Shape := ⟨6, ![2, 64, 4, 64, 3, 128]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩
abbrev S2x8192x1024 : Shape := ⟨3, ![2, 8192, 1024]⟩

abbrev nBuf : Space → Nat
  | .hbm => 130
  | .vmem => 0
  | .smem => 0
  | _ => 0

abbrev hbmTy0_0 (i : Nat) : BufTy := match i % 128 with
  | 0 => ⟨S16384x1536, .f32⟩
  | 1 => ⟨S16384x1024, .f32⟩
  | 2 => ⟨S512x512, .f32⟩
  | 3 => ⟨S12, .f32⟩
  | 4 => ⟨S1024x1024, .f32⟩
  | 5 => ⟨S2x8192x1536, .f32⟩
  | 6 => ⟨S2x256x512, .f32⟩
  | 7 => ⟨S2x256x256, .f32⟩
  | 8 => ⟨S2x256x4x64, .f32⟩
  | 9 => ⟨S2x256x256, .f32⟩
  | 10 => ⟨S2x256x4x64, .f32⟩
  | 11 => ⟨S2x8192x768, .f32⟩
  | 12 => ⟨S2x8192x256, .f32⟩
  | 13 => ⟨S2x8192x4x64, .f32⟩
  | 14 => ⟨S2x8192x256, .f32⟩
  | 15 => ⟨S2x8192x4x64, .f32⟩
  | 16 => ⟨S2x8192x256, .f32⟩
  | 17 => ⟨S4x3, .f32⟩
  | 18 => ⟨S2x64x128x4x3x64, .f32⟩
  | 19 => ⟨S2x64x128x4x64, .f32⟩
  | 20 => ⟨S2x64x128x4x64, .f32⟩
  | 21 => ⟨S2x1x128x4x64, .f32⟩
  | 22 => ⟨S_, .f32⟩
  | 23 => ⟨S2x1x128x4x64, .f32⟩
  | 24 => ⟨S2x63x128x4x64, .f32⟩
  | 25 => ⟨S2x64x128x4x64, .f32⟩
  | 26 => ⟨S2x64x256x4x64, .f32⟩
  | 27 => ⟨S2x1x128x4x64, .f32⟩
  | 28 => ⟨S_, .f32⟩
  | 29 => ⟨S2x1x128x4x64, .f32⟩
  | 30 => ⟨S2x63x128x4x64, .f32⟩
  | 31 => ⟨S2x64x128x4x64, .f32⟩
  | 32 => ⟨S2x64x256x4x64, .f32⟩
  | 33 => ⟨S128, .i32⟩
  | 34 => ⟨S128x1, .i32⟩
  | 35 => ⟨S256, .i32⟩
  | 36 => ⟨S1x256, .i32⟩
  | 37 => ⟨S_, .i32⟩
  | 38 => ⟨S128x1, .i32⟩
  | 39 => ⟨S128x1, .i32⟩
  | 40 => ⟨S128x256, .i32⟩
  | 41 => ⟨S128x256, .i32⟩
  | 42 => ⟨S128x256, .i32⟩
  | 43 => ⟨S64, .i32⟩
  | 44 => ⟨S64x1x1, .i32⟩
  | 45 => ⟨S_, .i32⟩
  | 46 => ⟨S64x1x1, .i32⟩
  | 47 => ⟨S64x1x1, .i32⟩
  | 48 => ⟨S1x1x256, .i32⟩
  | 49 => ⟨S64x1x256, .i32⟩
  | 50 => ⟨S64x1x256, .i32⟩
  | 51 => ⟨S64x1x256, .i32⟩
  | 52 => ⟨S_, .i32⟩
  | 53 => ⟨S64x1x256, .i32⟩
  | 54 => ⟨S64x1x256, .i32⟩
  | 55 => ⟨S_, .i32⟩
  | 56 => ⟨S128x256, .i32⟩
  | 57 => ⟨S128x256, .i1⟩
  | 58 => ⟨S_, .i32⟩
  | 59 => ⟨S128x256, .i32⟩
  | 60 => ⟨S128x256, .i1⟩
  | 61 => ⟨S128x256, .i1⟩
  | 62 => ⟨S_, .i32⟩
  | 63 => ⟨S64x1x256, .i32⟩
  | 64 => ⟨S64x1x256, .i1⟩
  | 65 => ⟨S1x128x256, .i1⟩
  | 66 => ⟨S64x128x256, .i1⟩
  | 67 => ⟨S64x128x256, .i1⟩
  | 68 => ⟨S64x128x256, .i1⟩
  | 69 => ⟨S64x1x1x128x256, .i1⟩
  | 70 => ⟨S2x64x4x256x128x3, .f32⟩
  | 71 => ⟨S2x64x4x3x128x256, .f32⟩
  | 72 => ⟨S_, .f32⟩
  | 73 => ⟨S2x64x4x3x128x256, .f32⟩
  | 74 => ⟨S2x64x4x3x128x256, .f32⟩
  | 75 => ⟨S_, .f32⟩
  | 76 => ⟨S_, .f32⟩
  | 77 => ⟨S2x64x4x3x128x256, .i1⟩
  | 78 => ⟨S2x64x4x3x128x256, .f32⟩
  | 79 => ⟨S2x64x4x3x128x256, .f32⟩
  | 80 => ⟨S4x3x1x1, .f32⟩
  | 81 => ⟨S_, .f32⟩
  | 82 => ⟨S2x64x4x3x128, .f32⟩
  | 83 => ⟨S2x64x4x3x128x1, .f32⟩
  | 84 => ⟨S1x1x4x3x1x1, .f32⟩
  | 85 => ⟨S2x64x4x3x128x1, .f32⟩
  | 86 => ⟨S2x64x4x3x128x1, .f32⟩
  | 87 => ⟨S2x64x4x3x128x256, .f32⟩
  | 88 => ⟨S2x64x4x3x128x256, .f32⟩
  | 89 => ⟨S2x64x4x3x128x256, .f32⟩
  | 90 => ⟨S_, .f32⟩
  | 91 => ⟨S2x64x4x3x128, .f32⟩
  | 92 => ⟨S2x64x4x3x128x1, .f32⟩
  | 93 => ⟨S1x1x4x3x1x1, .f32⟩
  | 94 => ⟨S2x64x4x3x128x1, .f32⟩
  | 95 => ⟨S2x64x4x3x128x1, .f32⟩
  | 96 => ⟨S2x64x4x3x128x1, .f32⟩
  | 97 => ⟨S2x64x4x3x128x1, .f32⟩
  | 98 => ⟨S2x64x4x3x128x256, .f32⟩
  | 99 => ⟨S2x64x4x3x128x256, .f32⟩
  | 100 => ⟨S2x64x4x64x3x128, .f32⟩
  | 101 => ⟨S2x64x128x4x3x64, .f32⟩
  | 102 => ⟨S2x8192x768, .f32⟩
  | 103 => ⟨S2x8192x4x64, .f32⟩
  | 104 => ⟨S2x4x8192x256, .f32⟩
  | 105 => ⟨S_, .f32⟩
  | 106 => ⟨S2x4x8192x256, .f32⟩
  | 107 => ⟨S2x4x8192x256, .f32⟩
  | 108 => ⟨S_, .f32⟩
  | 109 => ⟨S2x4x8192, .f32⟩
  | 110 => ⟨S_, .f32⟩
  | 111 => ⟨S2x4x8192, .f32⟩
  | 112 => ⟨S2x4x8192, .f32⟩
  | 113 => ⟨S2x4x8192x1, .f32⟩
  | 114 => ⟨S2x4x8192x256, .f32⟩
  | 115 => ⟨S2x4x8192x256, .f32⟩
  | 116 => ⟨S2x4x8192x256, .f32⟩
  | 117 => ⟨S_, .f32⟩
  | 118 => ⟨S2x4x8192, .f32⟩
  | 119 => ⟨S2x4x8192x1, .f32⟩
  | 120 => ⟨S2x4x8192x256, .f32⟩
  | 121 => ⟨S2x4x8192x256, .f32⟩
  | 122 => ⟨S2x4x64x8192, .f32⟩
  | 123 => ⟨S2x8192x4x64, .f32⟩
  | 124 => ⟨S2x8192x256, .f32⟩
  | 125 => ⟨S2x8192x1024, .f32⟩
  | 126 => ⟨S2x8192x1024, .f32⟩
  | 127 => ⟨S2x8192x1024, .f32⟩
  | _ => ⟨S16384x1536, .f32⟩

abbrev hbmTy0_1 (i : Nat) : BufTy := match i % 128 with
  | 0 => ⟨S2x8192x1024, .f32⟩
  | 1 => ⟨S16384x1024, .f32⟩
  | _ => ⟨S16384x1536, .f32⟩

abbrev hbmTy (i : Nat) : BufTy := match i / 128 with
  | 0 => hbmTy0_0 i
  | 1 => hbmTy0_1 i
  | _ => ⟨S16384x1536, .f32⟩

abbrev bufTy : (tb : Table) → Fin (tcTables nBuf tb) → BufTy
  | .hbm, ⟨i, _⟩ => hbmTy i
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_1 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_c_2 : Ref sig .tc := ⟨.hbm, 52, rfl⟩
abbrev main_v43 : Ref sig .tc := ⟨.hbm, 53, rfl⟩
abbrev main_v44 : Ref sig .tc := ⟨.hbm, 54, rfl⟩
abbrev main_c_3 : Ref sig .tc := ⟨.hbm, 55, rfl⟩
abbrev main_v45 : Ref sig .tc := ⟨.hbm, 56, rfl⟩
abbrev main_v46 : Ref sig .tc := ⟨.hbm, 57, rfl⟩
abbrev main_c_4 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_cst_7 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_v61 : Ref sig .tc := ⟨.hbm, 79, rfl⟩
abbrev main_v62 : Ref sig .tc := ⟨.hbm, 80, rfl⟩
abbrev main_cst_8 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_9 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_10 : Ref sig .tc := ⟨.hbm, 105, rfl⟩
abbrev main_v85 : Ref sig .tc := ⟨.hbm, 106, rfl⟩
abbrev main_v86 : Ref sig .tc := ⟨.hbm, 107, rfl⟩
abbrev main_cst_11 : Ref sig .tc := ⟨.hbm, 108, rfl⟩
abbrev main_v87 : Ref sig .tc := ⟨.hbm, 109, rfl⟩
abbrev main_cst_12 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_13 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x1536 : Shape := ⟨2, ![1024, 1536]⟩
abbrev S1x1024 : Shape := ⟨2, ![1, 1024]⟩
abbrev S16384x1536 : Shape := ⟨2, ![16384, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S1x1024, .f32⟩
  | .hbm, ⟨4, _⟩ => ⟨S1024x1536, .bf16⟩
  | .hbm, ⟨5, _⟩ => ⟨S16384x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S512x1536, .f32⟩
  | .local _ .vmem, ⟨5, _⟩ => ⟨S512x1536, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjRefIdeal.lean ====
abbrev S16384x1024 : Shape := ⟨2, ![16384, 1024]⟩
abbrev S1024 : Shape := ⟨1, ![1024]⟩
abbrev S1024x1536 : Shape := ⟨2, ![1024, 1536]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1536 : Shape := ⟨2, ![16384, 1536]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1536, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== MemKv.lean ====
abbrev S512x1024 : Shape := ⟨2, ![512, 1024]⟩
abbrev S1024 : Shape := ⟨1, ![1024]⟩
abbrev S1024x512 : Shape := ⟨2, ![1024, 512]⟩
abbrev S1x1024 : Shape := ⟨2, ![1, 1024]⟩
abbrev S512x512 : Shape := ⟨2, ![512, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x512, .f32⟩
  | .hbm, ⟨3, _⟩ => ⟨S1x1024, .f32⟩
  | .hbm, ⟨4, _⟩ => ⟨S1024x512, .bf16⟩
  | .hbm, ⟨5, _⟩ => ⟨S512x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x512, .bf16⟩
  | .local _ .vmem, ⟨4, _⟩ => ⟨S256x512, .f32⟩
  | .local _ .vmem, ⟨5, _⟩ => ⟨S256x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemKvRefIdeal.lean ====
abbrev S512x1024 : Shape := ⟨2, ![512, 1024]⟩
abbrev S1024 : Shape := ⟨1, ![1024]⟩
abbrev S1024x512 : Shape := ⟨2, ![1024, 512]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x512 : Shape := ⟨2, ![512, 512]⟩

abbrev nBuf : Space → Nat
  | .hbm => 20
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x512, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S1x1024, .f32⟩
  | .hbm, ⟨17, _⟩ => ⟨S512x1024, .f32⟩
  | .hbm, ⟨18, _⟩ => ⟨S512x1024, .f32⟩
  | .hbm, ⟨19, _⟩ => ⟨S512x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Ffn.lean ====
abbrev S41984x1024 : Shape := ⟨2, ![41984, 1024]⟩
abbrev S1024 : Shape := ⟨1, ![1024]⟩
abbrev S8x1024x7168 : Shape := ⟨3, ![8, 1024, 7168]⟩
abbrev S8x3584x1024 : Shape := ⟨3, ![8, 3584, 1024]⟩
abbrev S41 : Shape := ⟨1, ![41]⟩
abbrev S1 : Shape := ⟨1, ![1]⟩
abbrev S1x1024 : Shape := ⟨2, ![1, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 6
  | .vmem => 13
  | .smem => 2
  | _ => 0

abbrev bufTy : (tb : Table) → Fin (tcTables nBuf tb) → BufTy
  | .hbm, ⟨0, _⟩ => ⟨S41984x1024, .f32⟩
  | .hbm, ⟨1, _⟩ => ⟨S1024, .f32⟩
  | .hbm, ⟨2, _⟩ => ⟨S8x1024x7168, .f32⟩
  | .hbm, ⟨3, _⟩ => ⟨S8x3584x1024, .f32⟩
  | .hbm, ⟨4, _⟩ => ⟨S1x1024, .f32⟩
  | .hbm, ⟨5, _⟩ => ⟨S41984x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x512x1024, .f32⟩
  | .local _ .vmem, ⟨8, _⟩ => ⟨S1x512x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | .local _ .smem, ⟨0, _⟩ => ⟨S41, .i32⟩
  | .local _ .smem, ⟨1, _⟩ => ⟨S1, .i32⟩
  | _, _ => ⟨S41984x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_arg4 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![41, 7], ![false, false]⟩

abbrev pre0 : Pipeline.Prefetch sig := ⟨2, ![main_arg4.idx, main_arg5.idx], fun | 0 => main_arg4.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c6_i32 : BitVec 32 := 6#32
  let v35 : BitVec 1 := Scalar.cmpi .eq arg1 c6_i32
  let v36 : BitVec 32 := Scalar.extui v35
  let c0_i32_22 : BitVec 32 := 0#32
  let v37 : BitVec 1 := Scalar.cmpi .ne v36 c0_i32_22
  v37

def k0_cond4 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S41.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S41) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S41.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S41) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c7_i32 : BitVec 32 := 7#32
  let v5 : BitVec 32 := Scalar.addi c7_i32 v4
  let c0_i32 : BitVec 32 := 0#32
  let c0_i32_0 : BitVec 32 := 0#32
  ![v1.toNat, c0_i32.toNat, v5.toNat]

def cc0_transform_4 (k0_off1_inb : ∀ i : grid0.Coords, ∀ a, (k0_off1 i) a + S1.size a ≤ S41.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S41) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S41984x1024 : Shape := ⟨2, ![41984, 1024]⟩
abbrev S1024 : Shape := ⟨1, ![1024]⟩
abbrev S8x1024x7168 : Shape := ⟨3, ![8, 1024, 7168]⟩
abbrev S8x3584x1024 : Shape := ⟨3, ![8, 3584, 1024]⟩
abbrev S41 : Shape := ⟨1, ![41]⟩
abbrev S1 : Shape := ⟨1, ![1]⟩
abbrev S_ : Shape := ⟨0, ![]⟩
abbrev S41984 : Shape := ⟨1, ![41984]⟩
abbrev S41984x1 : Shape := ⟨2, ![41984, 1]⟩
abbrev S1x1024 : Shape := ⟨2, ![1, 1024]⟩
abbrev S1x8 : Shape := ⟨2, ![1, 8]⟩
abbrev S41984x8 : Shape := ⟨2, ![41984, 8]⟩
abbrev S1x1024x7168 : Shape := ⟨3, ![1, 1024, 7168]⟩
abbrev S1024x7168 : Shape := ⟨2, ![1024, 7168]⟩
abbrev S1x3584x1024 : Shape := ⟨3, ![1, 3584, 1024]⟩
abbrev S3584x1024 : Shape := ⟨2, ![3584, 1024]⟩
abbrev S41984x7168 : Shape := ⟨2, ![41984, 7168]⟩
abbrev S41984x3584 : Shape := ⟨2, ![41984, 3584]⟩

abbrev nBuf : Space → Nat
  | .hbm => 241
  | .vmem => 0
  | .smem => 0
  | _ => 0

abbrev hbmTy0_0 (i : Nat) : BufTy := match i % 128 with
  | 0 => ⟨S41984x1024, .f32⟩
  | 1 => ⟨S1024, .f32⟩
  | 2 => ⟨S8x1024x7168, .f32⟩
  | 3 => ⟨S8x3584x1024, .f32⟩
  | 4 => ⟨S41, .i32⟩
  | 5 => ⟨S1, .i32⟩
  | 6 => ⟨S41984x1024, .f32⟩
  | 7 => ⟨S_, .f32⟩
  | 8 => ⟨S41984, .f32⟩
  | 9 => ⟨S41984x1, .f32⟩
  | 10 => ⟨S_, .f32⟩
  | 11 => ⟨S41984x1, .f32⟩
  | 12 => ⟨S41984x1, .f32⟩
  | 13 => ⟨S_, .f32⟩
  | 14 => ⟨S41984x1, .f32⟩
  | 15 => ⟨S41984x1, .f32⟩
  | 16 => ⟨S41984x1, .f32⟩
  | 17 => ⟨S41984x1024, .f32⟩
  | 18 => ⟨S41984x1024, .f32⟩
  | 19 => ⟨S1x1024, .f32⟩
  | 20 => ⟨S41984x1024, .f32⟩
  | 21 => ⟨S41984x1024, .f32⟩
  | 22 => ⟨S41984, .i32⟩
  | 23 => ⟨S_, .i32⟩
  | 24 => ⟨S_, .i32⟩
  | 25 => ⟨S41984, .i32⟩
  | 26 => ⟨S41984, .i32⟩
  | 27 => ⟨S41984, .i32⟩
  | 28 => ⟨S_, .i32⟩
  | 29 => ⟨S41984, .i32⟩
  | 30 => ⟨S41984, .i1⟩
  | 31 => ⟨S41984, .i32⟩
  | 32 => ⟨S41984, .i32⟩
  | 33 => ⟨S_, .i32⟩
  | 34 => ⟨S41984, .i32⟩
  | 35 => ⟨S41984, .i1⟩
  | 36 => ⟨S41984, .i1⟩
  | 37 => ⟨S_, .i32⟩
  | 38 => ⟨S41984, .i32⟩
  | 39 => ⟨S41984, .i32⟩
  | 40 => ⟨S41984, .i32⟩
  | 41 => ⟨S_, .i32⟩
  | 42 => ⟨S41984, .i32⟩
  | 43 => ⟨S41984, .i1⟩
  | 44 => ⟨S_, .i32⟩
  | 45 => ⟨S41984, .i32⟩
  | 46 => ⟨S41984, .i1⟩
  | 47 => ⟨S_, .i32⟩
  | 48 => ⟨S41984, .i32⟩
  | 49 => ⟨S41984, .i32⟩
  | 50 => ⟨S41984, .i32⟩
  | 51 => ⟨S41984x1, .i32⟩
  | 52 => ⟨S41984, .i32⟩
  | 53 => ⟨S_, .i32⟩
  | 54 => ⟨S_, .i32⟩
  | 55 => ⟨S41984, .i32⟩
  | 56 => ⟨S41984, .i32⟩
  | 57 => ⟨S41984x1, .i32⟩
  | 58 => ⟨S1x8, .i32⟩
  | 59 => ⟨S41984x8, .i32⟩
  | 60 => ⟨S41984x8, .i32⟩
  | 61 => ⟨S41984x8, .i1⟩
  | 62 => ⟨S41984x8, .f32⟩
  | 63 => ⟨S_, .f32⟩
  | 64 => ⟨S41984x1024, .f32⟩
  | 65 => ⟨S41984x1, .f32⟩
  | 66 => ⟨S1x1024x7168, .f32⟩
  | 67 => ⟨S1024x7168, .f32⟩
  | 68 => ⟨S1x3584x1024, .f32⟩
  | 69 => ⟨S3584x1024, .f32⟩
  | 70 => ⟨S41984x7168, .f32⟩
  | 71 => ⟨S41984x3584, .f32⟩
  | 72 => ⟨S41984x3584, .f32⟩
  | 73 => ⟨S41984x3584, .f32⟩
  | 74 => ⟨S_, .f32⟩
  | 75 => ⟨S41984x3584, .f32⟩
  | 76 => ⟨S41984x3584, .f32⟩
  | 77 => ⟨S_, .f32⟩
  | 78 => ⟨S41984x3584, .f32⟩
  | 79 => ⟨S41984x3584, .f32⟩
  | 80 => ⟨S41984x3584, .f32⟩
  | 81 => ⟨S41984x3584, .f32⟩
  | 82 => ⟨S41984x3584, .f32⟩
  | 83 => ⟨S41984x1024, .f32⟩
  | 84 => ⟨S41984x1024, .f32⟩
  | 85 => ⟨S41984x1024, .f32⟩
  | 86 => ⟨S41984x1024, .f32⟩
  | 87 => ⟨S41984x1, .f32⟩
  | 88 => ⟨S1x1024x7168, .f32⟩
  | 89 => ⟨S1024x7168, .f32⟩
  | 90 => ⟨S1x3584x1024, .f32⟩
  | 91 => ⟨S3584x1024, .f32⟩
  | 92 => ⟨S41984x7168, .f32⟩
  | 93 => ⟨S41984x3584, .f32⟩
  | 94 => ⟨S41984x3584, .f32⟩
  | 95 => ⟨S41984x3584, .f32⟩
  | 96 => ⟨S_, .f32⟩
  | 97 => ⟨S41984x3584, .f32⟩
  | 98 => ⟨S41984x3584, .f32⟩
  | 99 => ⟨S_, .f32⟩
  | 100 => ⟨S41984x3584, .f32⟩
  | 101 => ⟨S41984x3584, .f32⟩
  | 102 => ⟨S41984x3584, .f32⟩
  | 103 => ⟨S41984x3584, .f32⟩
  | 104 => ⟨S41984x3584, .f32⟩
  | 105 => ⟨S41984x1024, .f32⟩
  | 106 => ⟨S41984x1024, .f32⟩
  | 107 => ⟨S41984x1024, .f32⟩
  | 108 => ⟨S41984x1024, .f32⟩
  | 109 => ⟨S41984x1, .f32⟩
  | 110 => ⟨S1x1024x7168, .f32⟩
  | 111 => ⟨S1024x7168, .f32⟩
  | 112 => ⟨S1x3584x1024, .f32⟩
  | 113 => ⟨S3584x1024, .f32⟩
  | 114 => ⟨S41984x7168, .f32⟩
  | 115 => ⟨S41984x3584, .f32⟩
  | 116 => ⟨S41984x3584, .f32⟩
  | 117 => ⟨S41984x3584, .f32⟩
  | 118 => ⟨S_, .f32⟩
  | 119 => ⟨S41984x3584, .f32⟩
  | 120 => ⟨S41984x3584, .f32⟩
  | 121 => ⟨S_, .f32⟩
  | 122 => ⟨S41984x3584, .f32⟩
  | 123 => ⟨S41984x3584, .f32⟩
  | 124 => ⟨S41984x3584, .f32⟩
  | 125 => ⟨S41984x3584, .f32⟩
  | 126 => ⟨S41984x3584, .f32⟩
  | 127 => ⟨S41984x1024, .f32⟩
  | _ => ⟨S41984x1024, .f32⟩

abbrev hbmTy0_1 (i : Nat) : BufTy := match i % 128 with
  | 0 => ⟨S41984x1024, .f32⟩
  | 1 => ⟨S41984x1024, .f32⟩
  | 2 => ⟨S41984x1024, .f32⟩
  | 3 => ⟨S41984x1, .f32⟩
  | 4 => ⟨S1x1024x7168, .f32⟩
  | 5 => ⟨S1024x7168, .f32⟩
  | 6 => ⟨S1x3584x1024, .f32⟩
  | 7 => ⟨S3584x1024, .f32⟩
  | 8 => ⟨S41984x7168, .f32⟩
  | 9 => ⟨S41984x3584, .f32⟩
  | 10 => ⟨S41984x3584, .f32⟩
  | 11 => ⟨S41984x3584, .f32⟩
  | 12 => ⟨S_, .f32⟩
  | 13 => ⟨S41984x3584, .f32⟩
  | 14 => ⟨S41984x3584, .f32⟩
  | 15 => ⟨S_, .f32⟩
  | 16 => ⟨S41984x3584, .f32⟩
  | 17 => ⟨S41984x3584, .f32⟩
  | 18 => ⟨S41984x3584, .f32⟩
  | 19 => ⟨S41984x3584, .f32⟩
  | 20 => ⟨S41984x3584, .f32⟩
  | 21 => ⟨S41984x1024, .f32⟩
  | 22 => ⟨S41984x1024, .f32⟩
  | 23 => ⟨S41984x1024, .f32⟩
  | 24 => ⟨S41984x1024, .f32⟩
  | 25 => ⟨S41984x1, .f32⟩
  | 26 => ⟨S1x1024x7168, .f32⟩
  | 27 => ⟨S1024x7168, .f32⟩
  | 28 => ⟨S1x3584x1024, .f32⟩
  | 29 => ⟨S3584x1024, .f32⟩
  | 30 => ⟨S41984x7168, .f32⟩
  | 31 => ⟨S41984x3584, .f32⟩
  | 32 => ⟨S41984x3584, .f32⟩
  | 33 => ⟨S41984x3584, .f32⟩
  | 34 => ⟨S_, .f32⟩
  | 35 => ⟨S41984x3584, .f32⟩
  | 36 => ⟨S41984x3584, .f32⟩
  | 37 => ⟨S_, .f32⟩
  | 38 => ⟨S41984x3584, .f32⟩
  | 39 => ⟨S41984x3584, .f32⟩
  | 40 => ⟨S41984x3584, .f32⟩
  | 41 => ⟨S41984x3584, .f32⟩
  | 42 => ⟨S41984x3584, .f32⟩
  | 43 => ⟨S41984x1024, .f32⟩
  | 44 => ⟨S41984x1024, .f32⟩
  | 45 => ⟨S41984x1024, .f32⟩
  | 46 => ⟨S41984x1024, .f32⟩
  | 47 => ⟨S41984x1, .f32⟩
  | 48 => ⟨S1x1024x7168, .f32⟩
  | 49 => ⟨S1024x7168, .f32⟩
  | 50 => ⟨S1x3584x1024, .f32⟩
  | 51 => ⟨S3584x1024, .f32⟩
  | 52 => ⟨S41984x7168, .f32⟩
  | 53 => ⟨S41984x3584, .f32⟩
  | 54 => ⟨S41984x3584, .f32⟩
  | 55 => ⟨S41984x3584, .f32⟩
  | 56 => ⟨S_, .f32⟩
  | 57 => ⟨S41984x3584, .f32⟩
  | 58 => ⟨S41984x3584, .f32⟩
  | 59 => ⟨S_, .f32⟩
  | 60 => ⟨S41984x3584, .f32⟩
  | 61 => ⟨S41984x3584, .f32⟩
  | 62 => ⟨S41984x3584, .f32⟩
  | 63 => ⟨S41984x3584, .f32⟩
  | 64 => ⟨S41984x3584, .f32⟩
  | 65 => ⟨S41984x1024, .f32⟩
  | 66 => ⟨S41984x1024, .f32⟩
  | 67 => ⟨S41984x1024, .f32⟩
  | 68 => ⟨S41984x1024, .f32⟩
  | 69 => ⟨S41984x1, .f32⟩
  | 70 => ⟨S1x1024x7168, .f32⟩
  | 71 => ⟨S1024x7168, .f32⟩
  | 72 => ⟨S1x3584x1024, .f32⟩
  | 73 => ⟨S3584x1024, .f32⟩
  | 74 => ⟨S41984x7168, .f32⟩
  | 75 => ⟨S41984x3584, .f32⟩
  | 76 => ⟨S41984x3584, .f32⟩
  | 77 => ⟨S41984x3584, .f32⟩
  | 78 => ⟨S_, .f32⟩
  | 79 => ⟨S41984x3584, .f32⟩
  | 80 => ⟨S41984x3584, .f32⟩
  | 81 => ⟨S_, .f32⟩
  | 82 => ⟨S41984x3584, .f32⟩
  | 83 => ⟨S41984x3584, .f32⟩
  | 84 => ⟨S41984x3584, .f32⟩
  | 85 => ⟨S41984x3584, .f32⟩
  | 86 => ⟨S41984x3584, .f32⟩
  | 87 => ⟨S41984x1024, .f32⟩
  | 88 => ⟨S41984x1024, .f32⟩
  | 89 => ⟨S41984x1024, .f32⟩
  | 90 => ⟨S41984x1024, .f32⟩
  | 91 => ⟨S41984x1, .f32⟩
  | 92 => ⟨S1x1024x7168, .f32⟩
  | 93 => ⟨S1024x7168, .f32⟩
  | 94 => ⟨S1x3584x1024, .f32⟩
  | 95 => ⟨S3584x1024, .f32⟩
  | 96 => ⟨S41984x7168, .f32⟩
  | 97 => ⟨S41984x3584, .f32⟩
  | 98 => ⟨S41984x3584, .f32⟩
  | 99 => ⟨S41984x3584, .f32⟩
  | 100 => ⟨S_, .f32⟩
  | 101 => ⟨S41984x3584, .f32⟩
  | 102 => ⟨S41984x3584, .f32⟩
  | 103 => ⟨S_, .f32⟩
  | 104 => ⟨S41984x3584, .f32⟩
  | 105 => ⟨S41984x3584, .f32⟩
  | 106 => ⟨S41984x3584, .f32⟩
  | 107 => ⟨S41984x3584, .f32⟩
  | 108 => ⟨S41984x3584, .f32⟩
  | 109 => ⟨S41984x1024, .f32⟩
  | 110 => ⟨S41984x1024, .f32⟩
  | 111 => ⟨S41984x1024, .f32⟩
  | 112 => ⟨S41984x1024, .f32⟩
  | _ => ⟨S41984x1024, .f32⟩

abbrev hbmTy (i : Nat) : BufTy := match i / 128 with
  | 0 => hbmTy0_0 i
  | 1 => hbmTy0_1 i
  | _ => ⟨S41984x1024, .f32⟩

abbrev bufTy : (tb : Table) → Fin (tcTables nBuf tb) → BufTy
  | .hbm, ⟨i, _⟩ => hbmTy i
  | _, _ => ⟨S41984x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_2 : Ref sig .tc := ⟨.hbm, 44, rfl⟩
abbrev main_v18 : Ref sig .tc := ⟨.hbm, 45, rfl⟩
abbrev main_v19 : Ref sig .tc := ⟨.hbm, 46, rfl⟩
abbrev main_c_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_4 : Ref sig .tc := ⟨.hbm, 53, rfl⟩
abbrev main_call1_v0 : Ref sig .tc := ⟨.hbm, 54, rfl⟩
abbrev main_call1_v1 : Ref sig .tc := ⟨.hbm, 55, rfl⟩
abbrev main_v25 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v26 : Ref sig .tc := ⟨.hbm, 62, rfl⟩
abbrev main_cst_5 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_call3_v0 : Ref sig .tc := ⟨.hbm, 72, rfl⟩
abbrev main_call3_v1 : Ref sig .tc := ⟨.hbm, 73, rfl⟩
abbrev main_call3_cst : Ref sig .tc := ⟨.hbm, 74, rfl⟩
abbrev main_call3_v2 : Ref sig .tc := ⟨.hbm, 75, rfl⟩
abbrev main_call3_v3 : Ref sig .tc := ⟨.hbm, 76, rfl⟩
abbrev main_call3_cst_0 : Ref sig .tc := ⟨.hbm, 77, rfl⟩
abbrev main_call3_v4 : Ref sig .tc := ⟨.hbm, 78, rfl⟩
abbrev main_call3_v5 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_call4_v0 : Ref sig .tc := ⟨.hbm, 94, rfl⟩
abbrev main_call4_v1 : Ref sig .tc := ⟨.hbm, 95, rfl⟩
abbrev main_call4_cst : Ref sig .tc := ⟨.hbm, 96, rfl⟩
abbrev main_call4_v2 : Ref sig .tc := ⟨.hbm, 97, rfl⟩
abbrev main_call4_v3 : Ref sig .tc := ⟨.hbm, 98, rfl⟩
abbrev main_call4_cst_0 : Ref sig .tc := ⟨.hbm, 99, rfl⟩
abbrev main_call4_v4 : Ref sig .tc := ⟨.hbm, 100, rfl⟩
abbrev main_call4_v5 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_call5_v0 : Ref sig .tc := ⟨.hbm, 116, rfl⟩
abbrev main_call5_v1 : Ref sig .tc := ⟨.hbm, 117, rfl⟩
abbrev main_call5_cst : Ref sig .tc := ⟨.hbm, 118, rfl⟩
abbrev main_call5_v2 : Ref sig .tc := ⟨.hbm, 119, rfl⟩
abbrev main_call5_v3 : Ref sig .tc := ⟨.hbm, 120, rfl⟩
abbrev main_call5_cst_0 : Ref sig .tc := ⟨.hbm, 121, rfl⟩
abbrev main_call5_v4 : Ref sig .tc := ⟨.hbm, 122, rfl⟩
abbrev main_call5_v5 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_call6_v0 : Ref sig .tc := ⟨.hbm, 138, rfl⟩
abbrev main_call6_v1 : Ref sig .tc := ⟨.hbm, 139, rfl⟩
abbrev main_call6_cst : Ref sig .tc := ⟨.hbm, 140, rfl⟩
abbrev main_call6_v2 : Ref sig .tc := ⟨.hbm, 141, rfl⟩
abbrev main_call6_v3 : Ref sig .tc := ⟨.hbm, 142, rfl⟩
abbrev main_call6_cst_0 : Ref sig .tc := ⟨.hbm, 143, rfl⟩
abbrev main_call6_v4 : Ref sig .tc := ⟨.hbm, 144, rfl⟩
abbrev main_call6_v5 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_call7_v0 : Ref sig .tc := ⟨.hbm, 160, rfl⟩
abbrev main_call7_v1 : Ref sig .tc := ⟨.hbm, 161, rfl⟩
abbrev main_call7_cst : Ref sig .tc := ⟨.hbm, 162, rfl⟩
abbrev main_call7_v2 : Ref sig .tc := ⟨.hbm, 163, rfl⟩
abbrev main_call7_v3 : Ref sig .tc := ⟨.hbm, 164, rfl⟩
abbrev main_call7_cst_0 : Ref sig .tc := ⟨.hbm, 165, rfl⟩
abbrev main_call7_v4 : Ref sig .tc := ⟨.hbm, 166, rfl⟩
abbrev main_call7_v5 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_call8_v0 : Ref sig .tc := ⟨.hbm, 182, rfl⟩
abbrev main_call8_v1 : Ref sig .tc := ⟨.hbm, 183, rfl⟩
abbrev main_call8_cst : Ref sig .tc := ⟨.hbm, 184, rfl⟩
abbrev main_call8_v2 : Ref sig .tc := ⟨.hbm, 185, rfl⟩
abbrev main_call8_v3 : Ref sig .tc := ⟨.hbm, 186, rfl⟩
abbrev main_call8_cst_0 : Ref sig .tc := ⟨.hbm, 187, rfl⟩
abbrev main_call8_v4 : Ref sig .tc := ⟨.hbm, 188, rfl⟩
abbrev main_call8_v5 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_call9_v0 : Ref sig .tc := ⟨.hbm, 204, rfl⟩
abbrev main_call9_v1 : Ref sig .tc := ⟨.hbm, 205, rfl⟩
abbrev main_call9_cst : Ref sig .tc := ⟨.hbm, 206, rfl⟩
abbrev main_call9_v2 : Ref sig .tc := ⟨.hbm, 207, rfl⟩
abbrev main_call9_v3 : Ref sig .tc := ⟨.hbm, 208, rfl⟩
abbrev main_call9_cst_0 : Ref sig .tc := ⟨.hbm, 209, rfl⟩
abbrev main_call9_v4 : Ref sig .tc := ⟨.hbm, 210, rfl⟩
abbrev main_call9_v5 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_call10_v0 : Ref sig .tc := ⟨.hbm, 226, rfl⟩
abbrev main_call10_v1 : Ref sig .tc := ⟨.hbm, 227, rfl⟩
abbrev main_call10_cst : Ref sig .tc := ⟨.hbm, 228, rfl⟩
abbrev main_call10_v2 : Ref sig .tc := ⟨.hbm, 229, rfl⟩
abbrev main_call10_v3 : Ref sig .tc := ⟨.hbm, 230, rfl⟩
abbrev main_call10_cst_0 : Ref sig .tc := ⟨.hbm, 231, rfl⟩
abbrev main_call10_v4 : Ref sig .tc := ⟨.hbm, 232, rfl⟩
abbrev main_call10_v5 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩
abbrev main_v139 : Ref sig .tc := ⟨.hbm, 240, rfl⟩

abbrev nD : Nat := 1
abbrev τ : Topo := Topo.v7x

variable {F : FTy → Type} [FloatOps F]
-- ==== Dense.lean ====
abbrev S16384x1024 : Shape := ⟨2, ![16384, 1024]⟩
abbrev S1024 : Shape := ⟨1, ![1024]⟩
abbrev S1x1024x7168 : Shape := ⟨3, ![1, 1024, 7168]⟩
abbrev S1x3584x1024 : Shape := ⟨3, ![1, 3584, 1024]⟩
abbrev S_ : Shape := ⟨0, ![]⟩
abbrev S16 : Shape := ⟨1, ![16]⟩
abbrev S1 : Shape := ⟨1, ![1]⟩
abbrev S1x1024 : Shape := ⟨2, ![1, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 8
  | .vmem => 13
  | .smem => 2
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024x7168, .f32⟩
  | .hbm, ⟨3, _⟩ => ⟨S1x3584x1024, .f32⟩
  | .hbm, ⟨4, _⟩ => ⟨S_, .i32⟩
  | .hbm, ⟨5, _⟩ => ⟨S_, .i32⟩
  | .hbm, ⟨6, _⟩ => ⟨S1x1024, .f32⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x512x1024, .f32⟩
  | .local _ .vmem, ⟨8, _⟩ => ⟨S1x512x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | .local _ .smem, ⟨0, _⟩ => ⟨S16, .i32⟩
  | .local _ .smem, ⟨1, _⟩ => ⟨S1, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 7], ![false, false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c6_i32 : BitVec 32 := 6#32
  let v35 : BitVec 1 := Scalar.cmpi .eq arg1 c6_i32
  let v36 : BitVec 32 := Scalar.extui v35
  let c0_i32_22 : BitVec 32 := 0#32
  let v37 : BitVec 1 := Scalar.cmpi .ne v36 c0_i32_22
  v37

def k0_cond4 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S16.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S16.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c7_i32 : BitVec 32 := 7#32
  let v5 : BitVec 32 := Scalar.addi c7_i32 v4
  let c0_i32 : BitVec 32 := 0#32
  let c0_i32_0 : BitVec 32 := 0#32
  ![v1.toNat, c0_i32.toNat, v5.toNat]

def cc0_transform_4 (k0_off1_inb : ∀ i : grid0.Coords, ∀ a, (k0_off1 i) a + S1.size a ≤ S16.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DenseRefIdeal.lean ====
abbrev S16384x1024 : Shape := ⟨2, ![16384, 1024]⟩
abbrev S1024 : Shape := ⟨1, ![1024]⟩
abbrev S1x1024x7168 : Shape := ⟨3, ![1, 1024, 7168]⟩
abbrev S1x3584x1024 : Shape := ⟨3, ![1, 3584, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x7168 : Shape := ⟨2, ![1024, 7168]⟩
abbrev S3584x1024 : Shape := ⟨2, ![3584, 1024]⟩
abbrev S16384x7168 : Shape := ⟨2, ![16384, 7168]⟩
abbrev S16384x3584 : Shape := ⟨2, ![16384, 3584]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024x7168, .f32⟩
  | .hbm, ⟨3, _⟩ => ⟨S1x3584x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1024x7168, .f32⟩
  | .hbm, ⟨21, _⟩ => ⟨S3584x1024, .f32⟩
  | .hbm, ⟨22, _⟩ => ⟨S16384x7168, .f32⟩
  | .hbm, ⟨23, _⟩ => ⟨S16384x3584, .f32⟩
  | .hbm, ⟨24, _⟩ => ⟨S16384x3584, .f32⟩
  | .hbm, ⟨25, _⟩ => ⟨S16384x3584, .f32⟩
  | .hbm, ⟨26, _⟩ => ⟨S_, .f32⟩
  | .hbm, ⟨27, _⟩ => ⟨S16384x3584, .f32⟩
  | .hbm, ⟨28, _⟩ => ⟨S16384x3584, .f32⟩
  | .hbm, ⟨29, _⟩ => ⟨S_, .f32⟩
  | .hbm, ⟨30, _⟩ => ⟨S16384x3584, .f32⟩
  | .hbm, ⟨31, _⟩ => ⟨S16384x3584, .f32⟩
  | .hbm, ⟨32, _⟩ => ⟨S16384x3584, .f32⟩
  | .hbm, ⟨33, _⟩ => ⟨S16384x3584, .f32⟩
  | .hbm, ⟨34, _⟩ => ⟨S16384x3584, .f32⟩
  | .hbm, ⟨35, _⟩ => ⟨S16384x1024, .f32⟩
  | .hbm, ⟨36, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== ProjB.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjBRefIdeal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== TailB.lean ====
abbrev S16384x768 : Shape := ⟨2, ![16384, 768]⟩
abbrev S16384x1024 : Shape := ⟨2, ![16384, 1024]⟩
abbrev S512x512 : Shape := ⟨2, ![512, 512]⟩
abbrev S1024x1024 : Shape := ⟨2, ![1024, 1024]⟩
abbrev S256x768 : Shape := ⟨2, ![256, 768]⟩
abbrev S256x256 : Shape := ⟨2, ![256, 256]⟩
abbrev S256x1024 : Shape := ⟨2, ![256, 1024]⟩
abbrev S256x64 : Shape := ⟨2, ![256, 64]⟩
abbrev S256 : Shape := ⟨1, ![256]⟩
abbrev S256x1 : Shape := ⟨2, ![256, 1]⟩

abbrev nBuf : Space → Nat
  | .hbm => 7
  | .vmem => 14
  | .smem => 0
  | _ => 0

abbrev bufTy : (tb : Table) → Fin (tcTables nBuf tb) → BufTy
  | .hbm, ⟨0, _⟩ => ⟨S16384x768, .bf16⟩
  | .hbm, ⟨1, _⟩ => ⟨S16384x1024, .f32⟩
  | .hbm, ⟨2, _⟩ => ⟨S16384x1024, .f32⟩
  | .hbm, ⟨3, _⟩ => ⟨S512x512, .f32⟩
  | .hbm, ⟨4, _⟩ => ⟨S1024x1024, .f32⟩
  | .hbm, ⟨5, _⟩ => ⟨S1024x1024, .bf16⟩
  | .hbm, ⟨6, _⟩ => ⟨S16384x1024, .f32⟩
  | .local _ .vmem, ⟨0, _⟩ => ⟨S256x768, .bf16⟩
  | .local _ .vmem, ⟨1, _⟩ => ⟨S256x768, .bf16⟩
  | .local _ .vmem, ⟨2, _⟩ => ⟨S256x256, .f32⟩
  | .local _ .vmem, ⟨3, _⟩ => ⟨S256x256, .f32⟩
  | .local _ .vmem, ⟨4, _⟩ => ⟨S256x1024, .f32⟩
  | .local _ .vmem, ⟨5, _⟩ => ⟨S256x1024, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  ![v16.toNat, c1_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== TailBRefIdeal.lean ====
abbrev S16384x768 : Shape := ⟨2, ![16384, 768]⟩
abbrev S16384x1024 : Shape := ⟨2, ![16384, 1024]⟩
abbrev S512x512 : Shape := ⟨2, ![512, 512]⟩
abbrev S1024x1024 : Shape := ⟨2, ![1024, 1024]⟩
abbrev S2x256x512 : Shape := ⟨3, ![2, 256, 512]⟩
abbrev S2x256x256 : Shape := ⟨3, ![2, 256, 256]⟩
abbrev S2x256x4x64 : Shape := ⟨4, ![2, 256, 4, 64]⟩
abbrev S2x8192x768 : Shape := ⟨3, ![2, 8192, 768]⟩
abbrev S2x8192x1024 : Shape := ⟨3, ![2, 8192, 1024]⟩
abbrev S2x8192x256 : Shape := ⟨3, ![2, 8192, 256]⟩
abbrev S2x8192x4x64 : Shape := ⟨4, ![2, 8192, 4, 64]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩

abbrev nBuf : Space → Nat
  | .hbm => 41
  | .vmem => 0
  | .smem => 0
  | _ => 0

abbrev bufTy : (tb : Table) → Fin (tcTables nBuf tb) → BufTy
  | .hbm, ⟨0, _⟩ => ⟨S16384x768, .bf16⟩
  | .hbm, ⟨1, _⟩ => ⟨S16384x1024, .f32⟩
  | .hbm, ⟨2, _⟩ => ⟨S16384x1024, .f32⟩
  | .hbm, ⟨3, _⟩ => ⟨S512x512, .f32⟩
  | .hbm, ⟨4, _⟩ => ⟨S1024x1024, .f32⟩
  | .hbm, ⟨5, _⟩ => ⟨S2x256x512, .f32⟩
  | .hbm, ⟨6, _⟩ => ⟨S2x256x256, .f32⟩
  | .hbm, ⟨7, _⟩ => ⟨S2x256x4x64, .f32⟩
  | .hbm, ⟨8, _⟩ => ⟨S2x256x256, .f32⟩
  | .hbm, ⟨9, _⟩ => ⟨S2x256x4x64, .f32⟩
  | .hbm, ⟨10, _⟩ => ⟨S16384x768, .f32⟩
  | .hbm, ⟨11, _⟩ => ⟨S2x8192x768, .f32⟩
  | .hbm, ⟨12, _⟩ => ⟨S2x8192x1024, .f32⟩
  | .hbm, ⟨13, _⟩ => ⟨S2x8192x256, .f32⟩
  | .hbm, ⟨14, _⟩ => ⟨S2x8192x4x64, .f32⟩
  | .hbm, ⟨15, _⟩ => ⟨S2x4x8192x256, .f32⟩
  | .hbm, ⟨16, _⟩ => ⟨S_, .f32⟩
  | .hbm, ⟨17, _⟩ => ⟨S2x4x8192x256, .f32⟩
  | .hbm, ⟨18, _⟩ => ⟨S2x4x8192x256, .f32⟩
  | .hbm, ⟨19, _⟩ => ⟨S_, .f32⟩
  | .hbm, ⟨20, _⟩ => ⟨S2x4x8192, .f32⟩
  | .hbm, ⟨21, _⟩ => ⟨S_, .f32⟩
  | .hbm, ⟨22, _⟩ => ⟨S2x4x8192, .f32⟩
  | .hbm, ⟨23, _⟩ => ⟨S2x4x8192, .f32⟩
  | .hbm, ⟨24, _⟩ => ⟨S2x4x8192x1, .f32⟩
  | .hbm, ⟨25, _⟩ => ⟨S2x4x8192x256, .f32⟩
  | .hbm, ⟨26, _⟩ => ⟨S2x4x8192x256, .f32⟩
  | .hbm, ⟨27, _⟩ => ⟨S2x4x8192x256, .f32⟩
  | .hbm, ⟨28, _⟩ => ⟨S_, .f32⟩
  | .hbm, ⟨29, _⟩ => ⟨S2x4x8192, .f32⟩
  | .hbm, ⟨30, _⟩ => ⟨S2x4x8192x1, .f32⟩
  | .hbm, ⟨31, _⟩ => ⟨S2x4x8192x256, .f32⟩
  | .hbm, ⟨32, _⟩ => ⟨S2x4x8192x256, .f32⟩
  | .hbm, ⟨33, _⟩ => ⟨S2x4x64x8192, .f32⟩
  | .hbm, ⟨34, _⟩ => ⟨S2x8192x4x64, .f32⟩
  | .hbm, ⟨35, _⟩ => ⟨S2x8192x256, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S16384x1024, .f32⟩
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== MixS.lean ====
abbrev S1024x1536 : Shape := ⟨2, ![1024, 1536]⟩
abbrev S1024x1024 : Shape := ⟨2, ![1024, 1024]⟩
abbrev S128x128x256 : Shape := ⟨3, ![128, 128, 256]⟩
abbrev S128x256x256 : Shape := ⟨3, ![128, 256, 256]⟩
abbrev S12 : Shape := ⟨1, ![12]⟩
abbrev S1x12 : Shape := ⟨2, ![1, 12]⟩
abbrev S128x1536 : Shape := ⟨2, ![128, 1536]⟩
abbrev S128x1024 : Shape := ⟨2, ![128, 1024]⟩
abbrev S16x128x256 : Shape := ⟨3, ![16, 128, 256]⟩
abbrev S16x256x256 : Shape := ⟨3, ![16, 256, 256]⟩
abbrev S24x136 : Shape := ⟨2, ![24, 136]⟩
abbrev S8x768 : Shape := ⟨2, ![8, 768]⟩
abbrev S8x256 : Shape := ⟨2, ![8, 256]⟩
abbrev S1x128x256 : Shape := ⟨3, ![1, 128, 256]⟩
abbrev S128x256 : Shape := ⟨2, ![128, 256]⟩
abbrev S120x256 : Shape := ⟨2, ![120, 256]⟩
abbrev S1x120x256 : Shape := ⟨3, ![1, 120, 256]⟩
abbrev S1x8x256 : Shape := ⟨3, ![1, 8, 256]⟩
abbrev S136x256 : Shape := ⟨2, ![136, 256]⟩
abbrev S8x64 : Shape := ⟨2, ![8, 64]⟩
abbrev S24x64 : Shape := ⟨2, ![24, 64]⟩
abbrev S136x64 : Shape := ⟨2, ![136, 64]⟩
abbrev S24x1 : Shape := ⟨2, ![24, 1]⟩
abbrev S1x1 : Shape := ⟨2, ![1, 1]⟩
abbrev S24 : Shape := ⟨1, ![24]⟩
abbrev S1x256x256 : Shape := ⟨3, ![1, 256, 256]⟩
abbrev S256x256 : Shape := ⟨2, ![256, 256]⟩
abbrev S256x64 : Shape := ⟨2, ![256, 64]⟩
abbrev S8 : Shape := ⟨1, ![8]⟩
abbrev S8x1 : Shape := ⟨2, ![8, 1]⟩

abbrev nBuf : Space → Nat
  | .hbm => 13
  | .vmem => 20
  | .smem => 1
  | _ => 0

abbrev bufTy : (tb : Table) → Fin (tcTables nBuf tb) → BufTy
  | .hbm, ⟨0, _⟩ => ⟨S1024x1536, .f32⟩
  | .hbm, ⟨1, _⟩ => ⟨S1024x1024, .f32⟩
  | .hbm, ⟨2, _⟩ => ⟨S128x128x256, .f32⟩
  | .hbm, ⟨3, _⟩ => ⟨S128x128x256, .f32⟩
  | .hbm, ⟨4, _⟩ => ⟨S128x256x256, .f32⟩
  | .hbm, ⟨5, _⟩ => ⟨S128x256x256, .f32⟩
  | .hbm, ⟨6, _⟩ => ⟨S12, .f32⟩
  | .hbm, ⟨7, _⟩ => ⟨S1024x1024, .f32⟩
  | .hbm, ⟨8, _⟩ => ⟨S1x12, .f32⟩
  | .hbm, ⟨9, _⟩ => ⟨S1024x1024, .bf16⟩
  | .hbm, ⟨10, _⟩ => ⟨S1024x1024, .f32⟩
  | .hbm, ⟨11, _⟩ => ⟨S128x128x256, .f32⟩
  | .hbm, ⟨12, _⟩ => ⟨S128x128x256, .f32⟩
  | .local _ .vmem, ⟨0, _⟩ => ⟨S128x1536, .f32⟩
  | .local _ .vmem, ⟨1, _⟩ => ⟨S128x1536, .f32⟩
  | .local _ .vmem, ⟨2, _⟩ => ⟨S128x1024, .f32⟩
  | .local _ .vmem, ⟨3, _⟩ => ⟨S128x1024, .f32⟩
  | .local _ .vmem, ⟨4, _⟩ => ⟨S16x128x256, .f32⟩
  | .local _ .vmem, ⟨5, _⟩ => ⟨S16x128x256, .f32⟩
  | .local _ .vmem, ⟨6, _⟩ => ⟨S16x128x256, .f32⟩
  | .local _ .vmem, ⟨7, _⟩ => ⟨S16x128x256, .f32⟩
  | .local _ .vmem, ⟨8, _⟩ => ⟨S16x256x256, .f32⟩
  | .local _ .vmem, ⟨9, _⟩ => ⟨S16x256x256, .f32⟩
  | .local _ .vmem, ⟨10, _⟩ => ⟨S16x256x256, .f32⟩
  | .local _ .vmem, ⟨11, _⟩ => ⟨S16x256x256, .f32⟩
  | .local _ .vmem, ⟨12, _⟩ => ⟨S1024x1024, .bf16⟩
  | .local _ .vmem, ⟨13, _⟩ => ⟨S128x1024, .f32⟩
  | .local _ .vmem, ⟨14, _⟩ => ⟨S128x1024, .f32⟩
  | .local _ .vmem, ⟨15, _⟩ => ⟨S16x128x256, .f32⟩
  | .local _ .vmem, ⟨16, _⟩ => ⟨S16x128x256, .f32⟩
  | .local _ .vmem, ⟨17, _⟩ => ⟨S16x128x256, .f32⟩
  | .local _ .vmem, ⟨18, _⟩ => ⟨S16x128x256, .f32⟩
  | .local _ .vmem, ⟨19, _⟩ => ⟨S128x1024, .f32⟩
  | .local _ .smem, ⟨0, _⟩ => ⟨S1x12, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_1 : BitVec 32 := 0#32
  let c16_i32 : BitVec 32 := 16#32
  let v12 : BitVec 32 := Scalar.addi c0_i32_1 c16_i32
  let c1_i32 : BitVec 32 := 1#32
  ⟨c0_i32_1, v12, c1_i32⟩
def k0_mult1 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c8_i32_10 : BitVec 32 := 8#32
  let v21 : BitVec 32 := Scalar.muli arg13 c8_i32_10
  v21
def k0_off1 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_10 : BitVec 32 := 8#32
  let v21 : BitVec 32 := Scalar.muli arg13 c8_i32_10
  let v22 : BitVec 32 := v21
  let v23 : Index := Scalar.indexCast v22
  let c0_11 : Index := 0#32
  ![v23.toNat, 0]
def k0_off2 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_10 : BitVec 32 := 8#32
  let v21 : BitVec 32 := Scalar.muli arg13 c8_i32_10
  let v22 : BitVec 32 := v21
  let v27 : Index := Scalar.indexCast v22
  let c768 : Index := 768#32
  ![v27.toNat, 768]
def k0_off3 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_10 : BitVec 32 := 8#32
  let v21 : BitVec 32 := Scalar.muli arg13 c8_i32_10
  let v22 : BitVec 32 := v21
  let v29 : Index := Scalar.indexCast v22
  let c1024 : Index := 1024#32
  ![v29.toNat, 1024]
def k0_off4 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_10 : BitVec 32 := 8#32
  let v21 : BitVec 32 := Scalar.muli arg13 c8_i32_10
  let v22 : BitVec 32 := v21
  let v31 : Index := Scalar.indexCast v22
  let c1280 : Index := 1280#32
  ![v31.toNat, 1280]
def k0_off5 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v33 : Index := Scalar.indexCast arg13
  let c0_13 : Index := 0#32
  let c0_14 : Index := 0#32
  ![v33.toNat, 0, 0]
def k0_off6 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v40 : Index := Scalar.indexCast arg13
  let c0_17 : Index := 0#32
  let c0_18 : Index := 0#32
  ![v40.toNat, 0, 0]
def k0_off7 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v44 : Index := Scalar.indexCast arg13
  let c120 : Index := 120#32
  let c0_19 : Index := 0#32
  ![v44.toNat, 120, 0]
def k0_off8 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_10 : BitVec 32 := 8#32
  let v21 : BitVec 32 := Scalar.muli arg13 c8_i32_10
  let v22 : BitVec 32 := v21
  let v100 : Index := Scalar.indexCast v22
  let c0_35 : Index := 0#32
  ![v100.toNat, 0]
def k0_off9 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_10 : BitVec 32 := 8#32
  let v21 : BitVec 32 := Scalar.muli arg13 c8_i32_10
  let v22 : BitVec 32 := v21
  let v105 : Index := Scalar.indexCast v22
  let c64 : Index := 64#32
  ![v105.toNat, 64]
def k0_off10 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_10 : BitVec 32 := 8#32
  let v21 : BitVec 32 := Scalar.muli arg13 c8_i32_10
  let v22 : BitVec 32 := v21
  let v110 : Index := Scalar.indexCast v22
  let c128 : Index := 128#32
  ![v110.toNat, 128]
def k0_off11 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_10 : BitVec 32 := 8#32
  let v21 : BitVec 32 := Scalar.muli arg13 c8_i32_10
  let v22 : BitVec 32 := v21
  let v153 : Index := Scalar.indexCast v22
  let c192 : Index := 192#32
  ![v153.toNat, 192]
def k0_off12 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_10 : BitVec 32 := 8#32
  let v21 : BitVec 32 := Scalar.muli arg13 c8_i32_10
  let v22 : BitVec 32 := v21
  let v158 : Index := Scalar.indexCast v22
  let c256 : Index := 256#32
  ![v158.toNat, 256]
def k0_off13 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_10 : BitVec 32 := 8#32
  let v21 : BitVec 32 := Scalar.muli arg13 c8_i32_10
  let v22 : BitVec 32 := v21
  let v163 : Index := Scalar.indexCast v22
  let c320 : Index := 320#32
  ![v163.toNat, 320]
def k0_off14 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_10 : BitVec 32 := 8#32
  let v21 : BitVec 32 := Scalar.muli arg13 c8_i32_10
  let v22 : BitVec 32 := v21
  let v206 : Index := Scalar.indexCast v22
  let c384 : Index := 384#32
  ![v206.toNat, 384]
def k0_off15 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_10 : BitVec 32 := 8#32
  let v21 : BitVec 32 := Scalar.muli arg13 c8_i32_10
  let v22 : BitVec 32 := v21
  let v211 : Index := Scalar.indexCast v22
  let c448 : Index := 448#32
  ![v211.toNat, 448]
def k0_off16 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_10 : BitVec 32 := 8#32
  let v21 : BitVec 32 := Scalar.muli arg13 c8_i32_10
  let v22 : BitVec 32 := v21
  let v216 : Index := Scalar.indexCast v22
  let c512 : Index := 512#32
  ![v216.toNat, 512]
def k0_off17 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_10 : BitVec 32 := 8#32
  let v21 : BitVec 32 := Scalar.muli arg13 c8_i32_10
  let v22 : BitVec 32 := v21
  let v259 : Index := Scalar.indexCast v22
  let c576 : Index := 576#32
  ![v259.toNat, 576]
def k0_off18 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_10 : BitVec 32 := 8#32
  let v21 : BitVec 32 := Scalar.muli arg13 c8_i32_10
  let v22 : BitVec 32 := v21
  let v264 : Index := Scalar.indexCast v22
  let c640 : Index := 640#32
  ![v264.toNat, 640]
def k0_off19 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_10 : BitVec 32 := 8#32
  let v21 : BitVec 32 := Scalar.muli arg13 c8_i32_10
  let v22 : BitVec 32 := v21
  let v269 : Index := Scalar.indexCast v22
  let c704 : Index := 704#32
  ![v269.toNat, 704]
def k0_off20 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v273 : Index := Scalar.indexCast arg13
  let c0_66 : Index := 0#32
  let c0_67 : Index := 0#32
  ![v273.toNat, 0, 0]
def k0_off21 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_10 : BitVec 32 := 8#32
  let v21 : BitVec 32 := Scalar.muli arg13 c8_i32_10
  let v22 : BitVec 32 := v21
  let v299 : Index := Scalar.indexCast v22
  let c768_75 : Index := 768#32
  ![v299.toNat, 768]
def k0_off22 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_10 : BitVec 32 := 8#32
  let v21 : BitVec 32 := Scalar.muli arg13 c8_i32_10
  let v22 : BitVec 32 := v21
  let v318 : Index := Scalar.indexCast v22
  let c832 : Index := 832#32
  ![v318.toNat, 832]
def k0_off23 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_10 : BitVec 32 := 8#32
  let v21 : BitVec 32 := Scalar.muli arg13 c8_i32_10
  let v22 : BitVec 32 := v21
  let v337 : Index := Scalar.indexCast v22
  let c896 : Index := 896#32
  ![v337.toNat, 896]
def k0_off24 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_10 : BitVec 32 := 8#32
  let v21 : BitVec 32 := Scalar.muli arg13 c8_i32_10
  let v22 : BitVec 32 := v21
  let v356 : Index := Scalar.indexCast v22
  let c960 : Index := 960#32
  ![v356.toNat, 960]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixSRefIdeal.lean ====
abbrev S1024x1536 : Shape := ⟨2, ![1024, 1536]⟩
abbrev S1024x1024 : Shape := ⟨2, ![1024, 1024]⟩
abbrev S128x128x256 : Shape := ⟨3, ![128, 128, 256]⟩
abbrev S128x256x256 : Shape := ⟨3, ![128, 256, 256]⟩
abbrev S12 : Shape := ⟨1, ![12]⟩
abbrev S128x8x1536 : Shape := ⟨3, ![128, 8, 1536]⟩
abbrev S128x8x768 : Shape := ⟨3, ![128, 8, 768]⟩
abbrev S128x8x256 : Shape := ⟨3, ![128, 8, 256]⟩
abbrev S128x8x4x64 : Shape := ⟨4, ![128, 8, 4, 64]⟩
abbrev S128x128x4x64 : Shape := ⟨4, ![128, 128, 4, 64]⟩
abbrev S4x3 : Shape := ⟨2, ![4, 3]⟩
abbrev S128x136x4x64 : Shape := ⟨4, ![128, 136, 4, 64]⟩
abbrev S128x8x4x3x64 : Shape := ⟨5, ![128, 8, 4, 3, 64]⟩
abbrev S8 : Shape := ⟨1, ![8]⟩
abbrev S8x1 : Shape := ⟨2, ![8, 1]⟩
abbrev S_ : Shape := ⟨0, ![]⟩
abbrev S136 : Shape := ⟨1, ![136]⟩
abbrev S1x136 : Shape := ⟨2, ![1, 136]⟩
abbrev S8x136 : Shape := ⟨2, ![8, 136]⟩
abbrev S128x4x136x8x3 : Shape := ⟨5, ![128, 4, 136, 8, 3]⟩
abbrev S128x4x3x8x136 : Shape := ⟨5, ![128, 4, 3, 8, 136]⟩
abbrev S4x3x1x1 : Shape := ⟨4, ![4, 3, 1, 1]⟩
abbrev S128x4x3x8 : Shape := ⟨4, ![128, 4, 3, 8]⟩
abbrev S128x4x3x8x1 : Shape := ⟨5, ![128, 4, 3, 8, 1]⟩
abbrev S1x4x3x1x1 : Shape := ⟨5, ![1, 4, 3, 1, 1]⟩
abbrev S128x4x64x3x8 : Shape := ⟨5, ![128, 4, 64, 3, 8]⟩
abbrev S128x256x4x64 : Shape := ⟨4, ![128, 256, 4, 64]⟩
abbrev S128x4x8x256 : Shape := ⟨4, ![128, 4, 8, 256]⟩
abbrev S128x4x8 : Shape := ⟨3, ![128, 4, 8]⟩
abbrev S128x4x8x1 : Shape := ⟨4, ![128, 4, 8, 1]⟩
abbrev S128x4x64x8 : Shape := ⟨4, ![128, 4, 64, 8]⟩
abbrev S128x8x1024 : Shape := ⟨3, ![128, 8, 1024]⟩

abbrev nBuf : Space → Nat
  | .hbm => 104
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1024, .f32⟩
  | .hbm, ⟨2, _⟩ => ⟨S128x128x256, .f32⟩
  | .hbm, ⟨3, _⟩ => ⟨S128x128x256, .f32⟩
  | .hbm, ⟨4, _⟩ => ⟨S128x256x256, .f32⟩
  | .hbm, ⟨5, _⟩ => ⟨S128x256x256, .f32⟩
  | .hbm, ⟨6, _⟩ => ⟨S12, .f32⟩
  | .hbm, ⟨7, _⟩ => ⟨S1024x1024, .f32⟩
  | .hbm, ⟨8, _⟩ => ⟨S128x8x1536, .f32⟩
  | .hbm, ⟨9, _⟩ => ⟨S128x8x768, .f32⟩
  | .hbm, ⟨10, _⟩ => ⟨S128x8x256, .f32⟩
  | .hbm, ⟨11, _⟩ => ⟨S128x8x4x64, .f32⟩
  | .hbm, ⟨12, _⟩ => ⟨S128x8x256, .f32⟩
  | .hbm, ⟨13, _⟩ => ⟨S128x8x4x64, .f32⟩
  | .hbm, ⟨14, _⟩ => ⟨S128x8x256, .f32⟩
  | .hbm, ⟨15, _⟩ => ⟨S128x128x4x64, .f32⟩
  | .hbm, ⟨16, _⟩ => ⟨S128x128x4x64, .f32⟩
  | .hbm, ⟨17, _⟩ => ⟨S4x3, .f32⟩
  | .hbm, ⟨18, _⟩ => ⟨S128x136x4x64, .f32⟩
  | .hbm, ⟨19, _⟩ => ⟨S128x136x4x64, .f32⟩
  | .hbm, ⟨20, _⟩ => ⟨S128x8x4x3x64, .f32⟩
  | .hbm, ⟨21, _⟩ => ⟨S8, .i32⟩
  | .hbm, ⟨22, _⟩ => ⟨S8x1, .i32⟩
  | .hbm, ⟨23, _⟩ => ⟨S_, .i32⟩
  | .hbm, ⟨24, _⟩ => ⟨S8x1, .i32⟩
  | .hbm, ⟨25, _⟩ => ⟨S8x1, .i32⟩
  | .hbm, ⟨26, _⟩ => ⟨S136, .i32⟩
  | .hbm, ⟨27, _⟩ => ⟨S1x136, .i32⟩
  | .hbm, ⟨28, _⟩ => ⟨S8x136, .i32⟩
  | .hbm, ⟨29, _⟩ => ⟨S8x136, .i32⟩
  | .hbm, ⟨30, _⟩ => ⟨S8x136, .i32⟩
  | .hbm, ⟨31, _⟩ => ⟨S_, .i32⟩
  | .hbm, ⟨32, _⟩ => ⟨S8x136, .i32⟩
  | .hbm, ⟨33, _⟩ => ⟨S8x136, .i1⟩
  | .hbm, ⟨34, _⟩ => ⟨S_, .i32⟩
  | .hbm, ⟨35, _⟩ => ⟨S8x136, .i32⟩
  | .hbm, ⟨36, _⟩ => ⟨S8x136, .i1⟩
  | .hbm, ⟨37, _⟩ => ⟨S8x136, .i1⟩
  | .hbm, ⟨38, _⟩ => ⟨S128x4x136x8x3, .f32⟩
  | .hbm, ⟨39, _⟩ => ⟨S128x4x3x8x136, .f32⟩
  | .hbm, ⟨40, _⟩ => ⟨S_, .f32⟩
  | .hbm, ⟨41, _⟩ => ⟨S128x4x3x8x136, .f32⟩
  | .hbm, ⟨42, _⟩ => ⟨S128x4x3x8x136, .f32⟩
  | .hbm, ⟨43, _⟩ => ⟨S_, .f32⟩
  | .hbm, ⟨44, _⟩ => ⟨S_, .f32⟩
  | .hbm, ⟨45, _⟩ => ⟨S128x4x3x8x136, .i1⟩
  | .hbm, ⟨46, _⟩ => ⟨S128x4x3x8x136, .f32⟩
  | .hbm, ⟨47, _⟩ => ⟨S128x4x3x8x136, .f32⟩
  | .hbm, ⟨48, _⟩ => ⟨S4x3x1x1, .f32⟩
  | .hbm, ⟨49, _⟩ => ⟨S_, .f32⟩
  | .hbm, ⟨50, _⟩ => ⟨S128x4x3x8, .f32⟩
  | .hbm, ⟨51, _⟩ => ⟨S128x4x3x8x1, .f32⟩
  | .hbm, ⟨52, _⟩ => ⟨S1x4x3x1x1, .f32⟩
  | .hbm, ⟨53, _⟩ => ⟨S128x4x3x8x1, .f32⟩
  | .hbm, ⟨54, _⟩ => ⟨S128x4x3x8x1, .f32⟩
  | .hbm, ⟨55, _⟩ => ⟨S128x4x3x8x136, .f32⟩
  | .hbm, ⟨56, _⟩ => ⟨S128x4x3x8x136, .f32⟩
  | .hbm, ⟨57, _⟩ => ⟨S128x4x3x8x136, .f32⟩
  | .hbm, ⟨58, _⟩ => ⟨S_, .f32⟩
  | .hbm, ⟨59, _⟩ => ⟨S128x4x3x8, .f32⟩
  | .hbm, ⟨60, _⟩ => ⟨S128x4x3x8x1, .f32⟩
  | .hbm, ⟨61, _⟩ => ⟨S1x4x3x1x1, .f32⟩
  | .hbm, ⟨62, _⟩ => ⟨S128x4x3x8x1, .f32⟩
  | .hbm, ⟨63, _⟩ => ⟨S128x4x3x8x1, .f32⟩
  | .hbm, ⟨64, _⟩ => ⟨S128x4x3x8x1, .f32⟩
  | .hbm, ⟨65, _⟩ => ⟨S128x4x3x8x1, .f32⟩
  | .hbm, ⟨66, _⟩ => ⟨S128x4x3x8x136, .f32⟩
  | .hbm, ⟨67, _⟩ => ⟨S128x4x3x8x136, .f32⟩
  | .hbm, ⟨68, _⟩ => ⟨S128x4x64x3x8, .f32⟩
  | .hbm, ⟨69, _⟩ => ⟨S128x8x4x3x64, .f32⟩
  | .hbm, ⟨70, _⟩ => ⟨S128x8x768, .f32⟩
  | .hbm, ⟨71, _⟩ => ⟨S128x128x4x64, .f32⟩
  | .hbm, ⟨72, _⟩ => ⟨S128x128x4x64, .f32⟩
  | .hbm, ⟨73, _⟩ => ⟨S128x256x4x64, .f32⟩
  | .hbm, ⟨74, _⟩ => ⟨S128x256x4x64, .f32⟩
  | .hbm, ⟨75, _⟩ => ⟨S128x8x4x64, .f32⟩
  | .hbm, ⟨76, _⟩ => ⟨S128x4x8x256, .f32⟩
  | .hbm, ⟨77, _⟩ => ⟨S_, .f32⟩
  | .hbm, ⟨78, _⟩ => ⟨S128x4x8x256, .f32⟩
  | .hbm, ⟨79, _⟩ => ⟨S128x4x8x256, .f32⟩
  | .hbm, ⟨80, _⟩ => ⟨S_, .f32⟩
  | .hbm, ⟨81, _⟩ => ⟨S128x4x8, .f32⟩
  | .hbm, ⟨82, _⟩ => ⟨S_, .f32⟩
  | .hbm, ⟨83, _⟩ => ⟨S128x4x8, .f32⟩
  | .hbm, ⟨84, _⟩ => ⟨S128x4x8, .f32⟩
  | .hbm, ⟨85, _⟩ => ⟨S128x4x8x1, .f32⟩
  | .hbm, ⟨86, _⟩ => ⟨S128x4x8x256, .f32⟩
  | .hbm, ⟨87, _⟩ => ⟨S128x4x8x256, .f32⟩
  | .hbm, ⟨88, _⟩ => ⟨S128x4x8x256, .f32⟩
  | .hbm, ⟨89, _⟩ => ⟨S_, .f32⟩
  | .hbm, ⟨90, _⟩ => ⟨S128x4x8, .f32⟩
  | .hbm, ⟨91, _⟩ => ⟨S128x4x8x1, .f32⟩
  | .hbm, ⟨92, _⟩ => ⟨S128x4x8x256, .f32⟩
  | .hbm, ⟨93, _⟩ => ⟨S128x4x8x256, .f32⟩
  | .hbm, ⟨94, _⟩ => ⟨S128x4x64x8, .f32⟩
  | .hbm, ⟨95, _⟩ => ⟨S128x8x4x64, .f32⟩
  | .hbm, ⟨96, _⟩ => ⟨S128x8x256, .f32⟩
  | .hbm, ⟨97, _⟩ => ⟨S128x8x1024, .f32⟩
  | .hbm, ⟨98, _⟩ => ⟨S128x8x1024, .f32⟩
  | .hbm, ⟨99, _⟩ => ⟨S128x8x1024, .f32⟩
  | .hbm, ⟨100, _⟩ => ⟨S128x8x1024, .f32⟩
  | .hbm, ⟨101, _⟩ => ⟨S1024x1024, .f32⟩
  | .hbm, ⟨102, _⟩ => ⟨S128x128x256, .f32⟩
  | .hbm, ⟨103, _⟩ => ⟨S128x128x256, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_0 : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_5 : Ref sig .tc := ⟨.hbm, 77, rfl⟩
abbrev main_v59 : Ref sig .tc := ⟨.hbm, 78, rfl⟩
abbrev main_v60 : Ref sig .tc := ⟨.hbm, 79, rfl⟩
abbrev main_cst_6 : Ref sig .tc := ⟨.hbm, 80, rfl⟩
abbrev main_v61 : Ref sig .tc := ⟨.hbm, 81, rfl⟩
abbrev main_cst_7 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_8 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩

abbrev nD : Nat := 1
abbrev τ : Topo := Topo.v7x

variable {F : FTy → Type} [FloatOps F]
-- ==== Proof.AttnSpec.lean ====
/- The attention call's result as a function of its arguments, in closed form. -/
module

public import Idealize.ShloMosaic.Lib.Pipeline.ValueKit
public import Idealize.ShloMosaic.Lib.Pointwise
public import Idealize.ShloMosaic.Lib.Claim

@[expose] public section

noncomputable section

namespace Cert.AttnProof

open Idealize.ShloMosaic Idealize.ShloMosaic.TcCoe Idealize.SL.Sem

/-- `-∞`, as the programs write it. -/
abbrev ninf : EReal := Ideal.ofBits .f32 0xFF800000#32

/-- The scale of the scores, one over the root of 64. -/
abbrev scl : EReal := Ideal.ofBits .f32 0x3E000000#32

/-- One row of attention with a sink: the scores `s`, the values `v`, the sink's score `sk`. -/
def sinkRow (s v : Fin 256 → EReal) (sk : EReal) : EReal :=
  ∑ j, Ideal.div (Ideal.exp (s j - max (Finset.fold max ninf s Finset.univ) sk))
    (∑ j, Ideal.exp (s j - max (Finset.fold max ninf s Finset.univ) sk)
      + Ideal.exp (sk - max (Finset.fold max ninf s Finset.univ) sk)) * v j

/-- One row of softmax attention. -/
def softRow (s v : Fin 256 → EReal) : EReal :=
  ∑ j, Ideal.div (Ideal.exp (s j - Finset.fold max ninf s Finset.univ))
    (∑ j, Ideal.exp (s j - Finset.fold max ninf s Finset.univ)) * v j

/-- The row of the `j`-th key of the window of row `R`: the previous block's rows, then the block's own
    (the first block's window repeats its own rows where there is no block before it). -/
def keyRow (R : Fin 16384) (j : Fin 256) : Fin 16384 :=
  if j.val < 128 then ⟨R.val / 8192 * 8192 + (R.val % 8192 / 128 - 1) * 128 + j.val % 128, by omega⟩
  else ⟨R.val / 8192 * 8192 + R.val % 8192 / 128 * 128 + j.val % 128, by omega⟩

/-- Whether row `r` of block `i` attends to the `j`-th key of its window. -/
def attends (i r j : ℕ) : Prop := j ≤ r + 128 ∧ r ≤ j ∧ (0 < i ∨ 128 ≤ j)

instance (i r j : ℕ) : Decidable (attends i r j) := inferInstanceAs (Decidable (_ ∧ _))

/-- The attention output of row `R` at column `k`: twelve heads over the window, then four over the memory. -/
def mixG (p : FVec Ideal ⟨2, ![16384, 1536]⟩ .f32) (mkv : FVec Ideal ⟨2, ![512, 512]⟩ .f32) (sinks : FVec Ideal ⟨1, ![12]⟩ .f32)
    (R : Fin 16384) (k : Fin 1024) : EReal :=
  if h : k.val < 768 then
    sinkRow (fun j => if attends (R.val % 8192 / 128) (R.val % 128) j.val then
        ∑ e : Fin 64, p (ix2 R ⟨k.val / 192 * 192 + k.val / 64 % 3 * 64 + e.val, by omega⟩) * scl
          * p (ix2 (keyRow R j) ⟨768 + (k.val / 192 * 64 + e.val), by omega⟩) else ninf)
      (fun j => p (ix2 (keyRow R j) ⟨1024 + (k.val / 192 * 64 + k.val % 64), by omega⟩))
      (sinks (ix1 ⟨k.val / 64, by omega⟩))
  else
    softRow (fun j => ∑ e : Fin 64, p (ix2 R ⟨1280 + ((k.val / 64 - 12) * 64 + e.val), by omega⟩) * scl
        * mkv (ix2 ⟨R.val / 8192 * 256 + j.val, by omega⟩ ⟨(k.val / 64 - 12) * 64 + e.val, by omega⟩))
      (fun j => mkv (ix2 ⟨R.val / 8192 * 256 + j.val, by omega⟩ ⟨256 + ((k.val / 64 - 12) * 64 + k.val % 64), by omega⟩))

/-- The call's result. -/
def attnG (p : FVec Ideal ⟨2, ![16384, 1536]⟩ .f32) (x : FVec Ideal ⟨2, ![16384, 1024]⟩ .f32) (mkv : FVec Ideal ⟨2, ![512, 512]⟩ .f32)
    (sinks : FVec Ideal ⟨1, ![12]⟩ .f32) (w : FVec Ideal ⟨2, ![1024, 1024]⟩ .f32) : FVec Ideal ⟨2, ![16384, 1024]⟩ .f32 :=
  fun y => x y + ∑ k : Fin 1024, mixG p mkv sinks (y 0) k * w (ix2 k (y 1))

theorem toInt_small (n : ℕ) (h : n < 2 ^ 31) : (BitVec.ofNat 32 n).toInt = n := by
  rw [BitVec.toInt_eq_toNat_of_lt] <;> simp only [BitVec.toNat_ofNat] <;> omega

/-- A difference of small numbers, read signed. -/
theorem toInt_sub_small (a b : ℕ) (ha : a < 2 ^ 30) (hb : b < 2 ^ 30) :
    (IntOp.subi (BitVec.ofNat 32 a) (BitVec.ofNat 32 b)).toInt = (a : ℤ) - b := by
  unfold IntOp.subi
  rw [BitVec.toInt_eq_toNat_cond]
  simp only [BitVec.toNat_sub, BitVec.toNat_ofNat]
  split <;> omega

theorem ofBool_ite {b : Bool} {p : Prop} [Decidable p] (h : b = true ↔ p) : BitVec.ofBool b = if p then 1#1 else 0#1 := by
  cases b
  · rw [if_neg (fun hp => by simpa using h.mpr hp)]; rfl
  · rw [if_pos (h.mp rfl)]; rfl

theorem sge_ite (x y : BitVec 32) (a b : ℤ) (hx : x.toInt = a) (hy : y.toInt = b) :
    IntOp.cmpi .sge x y = if b ≤ a then 1#1 else 0#1 :=
  ofBool_ite (by dsimp only; rw [BitVec.sle_eq_decide, decide_eq_true_iff, hx, hy])

theorem sle_ite (x y : BitVec 32) (a b : ℤ) (hx : x.toInt = a) (hy : y.toInt = b) :
    IntOp.cmpi .sle x y = if a ≤ b then 1#1 else 0#1 :=
  ofBool_ite (by dsimp only; rw [BitVec.sle_eq_decide, decide_eq_true_iff, hx, hy])

theorem sgt_ite (x y : BitVec 32) (a b : ℤ) (hx : x.toInt = a) (hy : y.toInt = b) :
    IntOp.cmpi .sgt x y = if b < a then 1#1 else 0#1 :=
  ofBool_ite (by dsimp only; rw [BitVec.slt_eq_decide, decide_eq_true_iff, hx, hy])

theorem addi_ofNat (a b : ℕ) : IntOp.addi (BitVec.ofNat 32 a) (BitVec.ofNat 32 b) = BitVec.ofNat 32 (a + b) :=
  (BitVec.ofNat_add a b).symm

theorem muli_ofNat (a b : ℕ) : IntOp.muli (BitVec.ofNat 32 a) (BitVec.ofNat 32 b) = BitVec.ofNat 32 (a * b) :=
  (BitVec.ofNat_mul a b).symm

theorem andi_ite (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

/-- The mask's test, as a bit. -/
theorem attends_bit (i r j : ℕ) (hi : i < 64) (hr : r < 128) (hj : j < 256) :
    IntOp.andi (IntOp.andi (IntOp.cmpi .sge (IntOp.subi (IntOp.addi (BitVec.ofNat 32 r) 128#32) (BitVec.ofNat 32 j)) 0#32)
        (IntOp.cmpi .sle (IntOp.subi (IntOp.addi (BitVec.ofNat 32 r) 128#32) (BitVec.ofNat 32 j)) 128#32))
      (IntOp.cmpi .sge (IntOp.subi (IntOp.addi (IntOp.muli (BitVec.ofNat 32 i) 128#32) (BitVec.ofNat 32 j)) 128#32) 0#32)
      = if attends i r j then 1#1 else 0#1 := by
  have e1 := toInt_sub_small (r + 128) j (by omega) (by omega)
  have e2 := toInt_sub_small (i * 128 + j) 128 (by omega) (by omega)
  rw [addi_ofNat, muli_ofNat, addi_ofNat, sge_ite _ _ _ 0 e1 rfl, sle_ite _ _ _ 128 e1 rfl, sge_ite _ _ _ 0 e2 rfl, andi_ite, andi_ite]
  exact if_congr (by unfold attends; push_cast; omega) rfl rfl

theorem remsi_128 : ∀ r : Fin 384, IntOp.remsi .vector (BitVec.ofNat 32 r.val) 128#32 = BitVec.ofNat 32 (r.val % 128) := by
  decide +kernel

theorem attends_bit' (i r j : ℕ) (hi : i < 64) (hr : r < 384) (hj : j < 256) :
    IntOp.andi (IntOp.andi (IntOp.cmpi .sge (IntOp.subi (IntOp.addi (IntOp.remsi .vector (BitVec.ofNat 32 r) 128#32) 128#32) (BitVec.ofNat 32 j)) 0#32)
        (IntOp.cmpi .sle (IntOp.subi (IntOp.addi (IntOp.remsi .vector (BitVec.ofNat 32 r) 128#32) 128#32) (BitVec.ofNat 32 j)) 128#32))
      (IntOp.cmpi .sge (BitVec.ofNat 32 j) (Scalar.select (IntOp.cmpi .sgt (BitVec.ofNat 32 i) 0#32) 0#32 128#32))
      = if attends i (r % 128) j then 1#1 else 0#1 := by
  have e1 := toInt_sub_small (r % 128 + 128) j (by omega) (by omega)
  have e3 := toInt_small j (by omega)
  rw [remsi_128 ⟨r, hr⟩, addi_ofNat, sge_ite _ _ _ 0 e1 rfl, sle_ite _ _ _ 128 e1 rfl, sgt_ite _ _ _ 0 (toInt_small i (by omega)) rfl]
  by_cases h0 : (0 : ℤ) < i
  · rw [if_pos h0, show Scalar.select 1#1 0#32 128#32 = 0#32 from rfl, sge_ite _ _ _ 0 e3 rfl, andi_ite, andi_ite]
    exact if_congr (by unfold attends; push_cast; omega) rfl rfl
  · rw [if_neg h0, show Scalar.select 0#1 0#32 128#32 = 128#32 from rfl, sge_ite _ _ _ 128 e3 rfl, andi_ite, andi_ite]
    exact if_congr (by unfold attends; push_cast; omega) rfl rfl

theorem select_ite {p : Prop} [Decidable p] (a b : EReal) : Scalar.select (if p then 1#1 else 0#1) a b = if p then a else b := by
  by_cases h : p <;> simp only [h, if_true, if_false] <;> rfl

end Cert.AttnProof
-- ==== Proof.AttnHeads.lean ====
/- The attention call: each head of one block, read at a row and a column. -/
module

public import proofs.«01_k».proof.Proof.Gen.AttnIdeal.Value
public import proofs.«01_k».proof.Proof.AttnSpec
public import Idealize.ShloMosaic.Lib.Pipeline.ValueKit
public import Idealize.ShloMosaic.Lib.Pointwise
public import Idealize.ShloMosaic.Lib.Claim

@[expose] public section

set_option maxRecDepth 16384

noncomputable section

namespace Cert.AttnProof

open Idealize.ShloMosaic Idealize.ShloMosaic.TcCoe Idealize.SL.Sem
open Idealize.ShloMosaic.Pipeline (Dat)
open Cert.AttnIdeal Cert.AttnIdeal.Gen

theorem slt_one (n k : ℕ) (h : n < k) (hk : k < 2 ^ 31) :
    IntOp.cmpi .slt (BitVec.ofNat 32 n) (BitVec.ofNat 32 k) = 1#1 := by
  have : (BitVec.ofNat 32 n).slt (BitVec.ofNat 32 k) = true := by
    rw [BitVec.slt_eq_decide, decide_eq_true_iff, BitVec.toInt_eq_toNat_of_lt, BitVec.toInt_eq_toNat_of_lt] <;>
      simp only [BitVec.toNat_ofNat] <;> omega
  simp [IntOp.cmpi, this]

theorem slt_zero (n k : ℕ) (h : k ≤ n) (hk : n < 2 ^ 31) :
    IntOp.cmpi .slt (BitVec.ofNat 32 n) (BitVec.ofNat 32 k) = 0#1 := by
  have : (BitVec.ofNat 32 n).slt (BitVec.ofNat 32 k) = false := by
    rw [BitVec.slt_eq_decide, decide_eq_false_iff_not, BitVec.toInt_eq_toNat_of_lt, BitVec.toInt_eq_toNat_of_lt] <;>
      simp only [BitVec.toNat_ofNat] <;> omega
  simp [IntOp.cmpi, this]

theorem s0a (r : Fin 128) : IntOp.cmpi .slt (BitVec.ofNat 32 ↑r) 128#32 = 1#1 := slt_one _ _ (by omega) (by decide)
theorem s0b (r : Fin 128) : IntOp.cmpi .slt (BitVec.ofNat 32 ↑r) 256#32 = 1#1 := slt_one _ _ (by omega) (by decide)
theorem s1a (r : Fin 128) : IntOp.cmpi .slt (BitVec.ofNat 32 (128 + ↑r)) 128#32 = 0#1 := slt_zero _ _ (by omega) (by omega)
theorem s1b (r : Fin 128) : IntOp.cmpi .slt (BitVec.ofNat 32 (128 + ↑r)) 256#32 = 1#1 := slt_one _ _ (by omega) (by decide)
theorem s2a (r : Fin 128) : IntOp.cmpi .slt (BitVec.ofNat 32 (256 + ↑r)) 128#32 = 0#1 := slt_zero _ _ (by omega) (by omega)
theorem s2b (r : Fin 128) : IntOp.cmpi .slt (BitVec.ofNat 32 (256 + ↑r)) 256#32 = 0#1 := slt_zero _ _ (by omega) (by omega)
theorem sel1 (a b : EReal) : Scalar.select 1#1 a b = a := rfl
theorem sel0 (a b : EReal) : Scalar.select 0#1 a b = b := rfl

/-- Head `3 h + g` of one block: row `r`, column `d`. -/
def headAt (Q : FVec Ideal S128x768 .f32) (K V : FVec Ideal S256x256 .bf16) (M : IVec S384x256 1) (sk : EReal)
    (h : Fin 4) (g : Fin 3) (r : Fin 128) (d : Fin 64) : EReal :=
  sinkRow (fun j => Scalar.select (M (ix2 ⟨g.val * 128 + r.val, by omega⟩ j))
      (∑ e : Fin 64, Q (ix2 r ⟨h.val * 192 + g.val * 64 + e.val, by omega⟩) * K (ix2 j ⟨h.val * 64 + e.val, by omega⟩)) ninf)
    (fun j => V (ix2 j ⟨h.val * 64 + d.val, by omega⟩)) sk

set_option maxHeartbeats 1600000 in
theorem hd00 (q : FVec Ideal S128x768 .f32) (kp kc vp vc : FVec Ideal S128x256 .f32) (M : IVec S384x256 1) (s0 s1 s2 : EReal) (r : Fin 128) (d : Fin 64) :
    k0_pay13 (F := Ideal) M (k0_pay8 q) (k0_pay9 kp kc) (k0_pay10 vp vc) (iota Kind.tc S384x1 32 [0] iota_S384x1_d0_w32) (k0_pay11 s2) s1 s0 (ix2 r d) = headAt (k0_pay4 (F := Ideal) q) (k0_pay5 kp kc) (k0_pay6 vp vc) M s0 0 0 r d := by
  pointwise [k0_pay13, k0_pay12, k0_pay8, k0_pay9, k0_pay10, k0_pay11, headAt, sinkRow]
  simp only [s0a, s0b, s1a, s1b, s2a, s2b, sel1, sel0]

set_option maxHeartbeats 1600000 in
theorem hd01 (q : FVec Ideal S128x768 .f32) (kp kc vp vc : FVec Ideal S128x256 .f32) (M : IVec S384x256 1) (s0 s1 s2 : EReal) (r : Fin 128) (d : Fin 64) :
    k0_pay14 (F := Ideal) M (k0_pay8 q) (k0_pay9 kp kc) (k0_pay10 vp vc) (iota Kind.tc S384x1 32 [0] iota_S384x1_d0_w32) (k0_pay11 s2) s1 s0 (ix2 r d) = headAt (k0_pay4 (F := Ideal) q) (k0_pay5 kp kc) (k0_pay6 vp vc) M s1 0 1 r d := by
  pointwise [k0_pay14, k0_pay12, k0_pay8, k0_pay9, k0_pay10, k0_pay11, headAt, sinkRow]
  simp only [s0a, s0b, s1a, s1b, s2a, s2b, sel1, sel0]

set_option maxHeartbeats 1600000 in
theorem hd02 (q : FVec Ideal S128x768 .f32) (kp kc vp vc : FVec Ideal S128x256 .f32) (M : IVec S384x256 1) (s0 s1 s2 : EReal) (r : Fin 128) (d : Fin 64) :
    k0_pay15 (F := Ideal) M (k0_pay8 q) (k0_pay9 kp kc) (k0_pay10 vp vc) (iota Kind.tc S384x1 32 [0] iota_S384x1_d0_w32) (k0_pay11 s2) s1 s0 (ix2 r d) = headAt (k0_pay4 (F := Ideal) q) (k0_pay5 kp kc) (k0_pay6 vp vc) M s2 0 2 r d := by
  pointwise [k0_pay15, k0_pay12, k0_pay8, k0_pay9, k0_pay10, k0_pay11, headAt, sinkRow]
  simp only [s0a, s0b, s1a, s1b, s2a, s2b, sel1, sel0]
  simp only [show ¬ (256 + (r : ℕ) < 128) by omega, show ¬ (256 + (r : ℕ) - 128 < 128) by omega, dite_false,
    show 256 + (r : ℕ) - 128 - 128 = r by omega]

set_option maxHeartbeats 1600000 in
theorem hd10 (q : FVec Ideal S128x768 .f32) (kp kc vp vc : FVec Ideal S128x256 .f32) (M : IVec S384x256 1) (s0 s1 s2 : EReal) (r : Fin 128) (d : Fin 64) :
    k0_pay17 (F := Ideal) (k0_pay4 (F := Ideal) q) (k0_pay5 kp kc) (k0_pay6 vp vc) M s2 s1 s0 (ix2 r d) = headAt (k0_pay4 (F := Ideal) q) (k0_pay5 kp kc) (k0_pay6 vp vc) M s0 1 0 r d := by
  pointwise [k0_pay17, k0_pay16, headAt, sinkRow]
  simp only [s0a, s0b, s1a, s1b, s2a, s2b, sel1, sel0]

set_option maxHeartbeats 1600000 in
theorem hd11 (q : FVec Ideal S128x768 .f32) (kp kc vp vc : FVec Ideal S128x256 .f32) (M : IVec S384x256 1) (s0 s1 s2 : EReal) (r : Fin 128) (d : Fin 64) :
    k0_pay19 (F := Ideal) (k0_pay18 (k0_pay4 (F := Ideal) q) (k0_pay5 kp kc) (k0_pay6 vp vc) M s2 s1 s0) (ix2 r d) = headAt (k0_pay4 (F := Ideal) q) (k0_pay5 kp kc) (k0_pay6 vp vc) M s1 1 1 r d := by
  pointwise [k0_pay19, k0_pay18, k0_pay16, headAt, sinkRow]
  simp only [s0a, s0b, s1a, s1b, s2a, s2b, sel1, sel0]

set_option maxHeartbeats 1600000 in
theorem hd12 (q : FVec Ideal S128x768 .f32) (kp kc vp vc : FVec Ideal S128x256 .f32) (M : IVec S384x256 1) (s0 s1 s2 : EReal) (r : Fin 128) (d : Fin 64) :
    k0_pay20 (F := Ideal) (k0_pay16 (k0_pay4 (F := Ideal) q) (k0_pay5 kp kc) (k0_pay6 vp vc) M s2 s1 s0) (ix2 r d) = headAt (k0_pay4 (F := Ideal) q) (k0_pay5 kp kc) (k0_pay6 vp vc) M s2 1 2 r d := by
  pointwise [k0_pay20, k0_pay16, headAt, sinkRow]
  simp only [s0a, s0b, s1a, s1b, s2a, s2b, sel1, sel0]
  simp only [show ¬ (256 + (r : ℕ) < 128) by omega, show ¬ (256 + (r : ℕ) - 128 < 128) by omega, dite_false,
    show 256 + (r : ℕ) - 128 - 128 = r by omega]

set_option maxHeartbeats 1600000 in
theorem hd20 (q : FVec Ideal S128x768 .f32) (kp kc vp vc : FVec Ideal S128x256 .f32) (M : IVec S384x256 1) (s0 s1 s2 : EReal) (r : Fin 128) (d : Fin 64) :
    k0_pay24 (F := Ideal) (k0_pay21 (k0_pay6 vp vc)) (k0_pay22 (k0_pay4 (F := Ideal) q) (k0_pay5 kp kc) M s2 s1 s0) (ix2 r d) = headAt (k0_pay4 (F := Ideal) q) (k0_pay5 kp kc) (k0_pay6 vp vc) M s0 2 0 r d := by
  pointwise [k0_pay24, k0_pay21, k0_pay22, k0_pay23, headAt, sinkRow]
  simp only [s0a, s0b, s1a, s1b, s2a, s2b, sel1, sel0]

set_option maxHeartbeats 1600000 in
theorem hd21 (q : FVec Ideal S128x768 .f32) (kp kc vp vc : FVec Ideal S128x256 .f32) (M : IVec S384x256 1) (s0 s1 s2 : EReal) (r : Fin 128) (d : Fin 64) :
    k0_pay25 (F := Ideal) (k0_pay21 (k0_pay6 vp vc)) (k0_pay22 (k0_pay4 (F := Ideal) q) (k0_pay5 kp kc) M s2 s1 s0) (ix2 r d) = headAt (k0_pay4 (F := Ideal) q) (k0_pay5 kp kc) (k0_pay6 vp vc) M s1 2 1 r d := by
  pointwise [k0_pay25, k0_pay21, k0_pay22, k0_pay23, headAt, sinkRow]
  simp only [s0a, s0b, s1a, s1b, s2a, s2b, sel1, sel0]

set_option maxHeartbeats 1600000 in
theorem hd22 (q : FVec Ideal S128x768 .f32) (kp kc vp vc : FVec Ideal S128x256 .f32) (M : IVec S384x256 1) (s0 s1 s2 : EReal) (r : Fin 128) (d : Fin 64) :
    k0_pay26 (F := Ideal) (k0_pay21 (k0_pay6 vp vc)) (k0_pay22 (k0_pay4 (F := Ideal) q) (k0_pay5 kp kc) M s2 s1 s0) (ix2 r d) = headAt (k0_pay4 (F := Ideal) q) (k0_pay5 kp kc) (k0_pay6 vp vc) M s2 2 2 r d := by
  pointwise [k0_pay26, k0_pay21, k0_pay22, k0_pay23, headAt, sinkRow]
  simp only [s0a, s0b, s1a, s1b, s2a, s2b, sel1, sel0]
  simp only [show ¬ (256 + (r : ℕ) < 128) by omega, show ¬ (256 + (r : ℕ) - 128 < 128) by omega, dite_false,
    show 256 + (r : ℕ) - 128 - 128 = r by omega]

set_option maxHeartbeats 1600000 in
theorem hd30 (q : FVec Ideal S128x768 .f32) (kp kc vp vc : FVec Ideal S128x256 .f32) (M : IVec S384x256 1) (s0 s1 s2 : EReal) (r : Fin 128) (d : Fin 64) :
    k0_pay32 (F := Ideal) (k0_pay27 (k0_pay6 vp vc)) (k0_pay28 s2 s1 s0) (k0_pay29 (k0_pay4 (F := Ideal) q) (k0_pay5 kp kc) M) (k0_pay30 (k0_pay4 (F := Ideal) q) (k0_pay5 kp kc) M) (ix2 r d) = headAt (k0_pay4 (F := Ideal) q) (k0_pay5 kp kc) (k0_pay6 vp vc) M s0 3 0 r d := by
  pointwise [k0_pay32, k0_pay31, k0_pay27, k0_pay28, k0_pay29, k0_pay30, headAt, sinkRow]
  simp only [s0a, s0b, s1a, s1b, s2a, s2b, sel1, sel0]

set_option maxHeartbeats 1600000 in
theorem hd31 (q : FVec Ideal S128x768 .f32) (kp kc vp vc : FVec Ideal S128x256 .f32) (M : IVec S384x256 1) (s0 s1 s2 : EReal) (r : Fin 128) (d : Fin 64) :
    k0_pay33 (F := Ideal) (k0_pay27 (k0_pay6 vp vc)) (k0_pay28 s2 s1 s0) (k0_pay29 (k0_pay4 (F := Ideal) q) (k0_pay5 kp kc) M) (k0_pay30 (k0_pay4 (F := Ideal) q) (k0_pay5 kp kc) M) (ix2 r d) = headAt (k0_pay4 (F := Ideal) q) (k0_pay5 kp kc) (k0_pay6 vp vc) M s1 3 1 r d := by
  pointwise [k0_pay33, k0_pay31, k0_pay27, k0_pay28, k0_pay29, k0_pay30, headAt, sinkRow]
  simp only [s0a, s0b, s1a, s1b, s2a, s2b, sel1, sel0]

set_option maxHeartbeats 1600000 in
theorem hd32 (q : FVec Ideal S128x768 .f32) (kp kc vp vc : FVec Ideal S128x256 .f32) (M : IVec S384x256 1) (s0 s1 s2 : EReal) (r : Fin 128) (d : Fin 64) :
    k0_pay34 (F := Ideal) (k0_pay27 (k0_pay6 vp vc)) (k0_pay28 s2 s1 s0) (k0_pay29 (k0_pay4 (F := Ideal) q) (k0_pay5 kp kc) M) (k0_pay30 (k0_pay4 (F := Ideal) q) (k0_pay5 kp kc) M) (ix2 r d) = headAt (k0_pay4 (F := Ideal) q) (k0_pay5 kp kc) (k0_pay6 vp vc) M s2 3 2 r d := by
  pointwise [k0_pay34, k0_pay31, k0_pay27, k0_pay28, k0_pay29, k0_pay30, headAt, sinkRow]
  simp only [s0a, s0b, s1a, s1b, s2a, s2b, sel1, sel0]
  simp only [show ¬ (256 + (r : ℕ) < 128) by omega, show ¬ (256 + (r : ℕ) - 128 < 128) by omega, dite_false,
    show 256 + (r : ℕ) - 128 - 128 = r by omega]

/-- Cross-attention head `h` of one block: row `r`, column `d`. -/
def xheadAt (Q : FVec Ideal S128x256 .f32) (K V : FVec Ideal S256x256 .f32)
    (h : Fin 4) (r : Fin 128) (d : Fin 64) : EReal :=
  softRow (fun j => ∑ e : Fin 64, Q (ix2 r ⟨h.val * 64 + e.val, by omega⟩) * Ideal.ofBits .f32 0x3E000000#32
      * K (ix2 j ⟨h.val * 64 + e.val, by omega⟩))
    (fun j => V (ix2 j ⟨h.val * 64 + d.val, by omega⟩))

theorem xh0 (q : FVec Ideal S128x256 .f32) (k v : FVec Ideal S256x256 .f32) (r : Fin 128) (d : Fin 64) :
    k0_pay39 (F := Ideal) (k0_pay36 v) (k0_pay38 q k) (ix2 r d) = xheadAt q k v 0 r d := by
  pointwise [k0_pay39, k0_pay38, k0_pay35, k0_pay36, k0_pay37, xheadAt, softRow]

theorem xh1 (q : FVec Ideal S128x256 .f32) (k v : FVec Ideal S256x256 .f32) (r : Fin 128) (d : Fin 64) :
    k0_pay40 (F := Ideal) (k0_pay35 k) (k0_pay36 v) (k0_pay37 q) (ix2 r d) = xheadAt q k v 1 r d := by
  pointwise [k0_pay40, k0_pay35, k0_pay36, k0_pay37, xheadAt, softRow]

theorem xh2 (q : FVec Ideal S128x256 .f32) (k v : FVec Ideal S256x256 .f32) (r : Fin 128) (d : Fin 64) :
    k0_pay1 (F := Ideal) (k0_pay41 (k0_pay35 k) (k0_pay36 v) (k0_pay37 q)) (ix2 r d) = xheadAt q k v 2 r d := by
  pointwise [k0_pay1, k0_pay41, k0_pay35, k0_pay36, k0_pay37, xheadAt, softRow]

theorem xh3 (q : FVec Ideal S128x256 .f32) (k v : FVec Ideal S256x256 .f32) (r : Fin 128) (d : Fin 64) :
    k0_pay2 (F := Ideal) (k0_pay35 k) (k0_pay36 v) (k0_pay37 q) (ix2 r d) = xheadAt q k v 3 r d := by
  pointwise [k0_pay2, k0_pay35, k0_pay36, k0_pay37, xheadAt, softRow]

end Cert.AttnProof
-- ==== Proof.AttnValue.lean ====
/- The attention call: the array the kernel leaves is the closed form of the arguments. -/
module

public import proofs.«01_k».proof.Proof.AttnHeads
public import Idealize.ShloMosaic.Lib.Pipeline.ValueKit
public import Idealize.ShloMosaic.Lib.Pointwise
public import Idealize.ShloMosaic.Lib.Claim

@[expose] public section

set_option maxRecDepth 16384

noncomputable section

namespace Cert.AttnProof

open Idealize.ShloMosaic Idealize.ShloMosaic.TcCoe Idealize.SL.Sem
open Idealize.ShloMosaic.Pipeline (Dat)
open Cert.AttnIdeal Cert.AttnIdeal.Gen

/-- The attention outputs of one block, side by side: twelve heads, then four heads over the memory. -/
def kmix (sk : FVec Ideal S1x12 .f32) (q : FVec Ideal S128x768 .f32) (kp kc vp vc : FVec Ideal S128x256 .f32) (M : IVec S384x256 1)
    (xq : FVec Ideal S128x256 .f32) (mk mv : FVec Ideal S256x256 .f32) : FVec Ideal S128x1024 .f32 := fun y =>
  if h : (y 1).val < 768 then
    headAt (k0_pay4 (F := Ideal) q) (k0_pay5 kp kc) (k0_pay6 vp vc) M (sk (ix2 0 ⟨(y 1).val / 64, by omega⟩))
      ⟨(y 1).val / 192, by omega⟩ ⟨(y 1).val / 64 % 3, by omega⟩ (y 0) ⟨(y 1).val % 64, by omega⟩
  else
    xheadAt xq mk mv ⟨(y 1).val / 64 - 12, by have := (y 1).isLt; simp at this; omega⟩ (y 0) ⟨(y 1).val % 64, by omega⟩

section
variable (sk : FVec Ideal S1x12 .f32) (q : FVec Ideal S128x768 .f32) (kp kc vp vc : FVec Ideal S128x256 .f32) (M : IVec S384x256 1)
    (xq : FVec Ideal S128x256 .f32) (mk mv : FVec Ideal S256x256 .f32)

theorem kmix_head (z : S128x1024.Idx) (h : Fin 4) (g : Fin 3) (r : Fin 128) (d : Fin 64) (s : EReal)
    (hs : s = sk (ix2 0 ⟨h.val * 3 + g.val, by omega⟩))
    (h0 : (z 0).val = r.val) (h1 : (z 1).val = h.val * 192 + g.val * 64 + d.val) :
    headAt (k0_pay4 (F := Ideal) q) (k0_pay5 kp kc) (k0_pay6 vp vc) M s h g r d = kmix sk q kp kc vp vc M xq mk mv z := by
  unfold kmix
  rw [dif_pos (by omega), hs]
  have e1 : (⟨(z 1).val / 64, by omega⟩ : Fin 12) = ⟨h.val * 3 + g.val, by omega⟩ := Fin.ext (by simp only; omega)
  have e2 : (⟨(z 1).val / 192, by omega⟩ : Fin 4) = h := Fin.ext (by simp only; omega)
  have e3 : (⟨(z 1).val / 64 % 3, by omega⟩ : Fin 3) = g := Fin.ext (by simp only; omega)
  have e4 : (⟨(z 1).val % 64, by omega⟩ : Fin 64) = d := Fin.ext (by simp only; omega)
  have e5 : (z 0 : Fin 128) = r := Fin.ext h0
  rw [e1, e2, e3, e4, e5]

theorem kmix_x (z : S128x1024.Idx) (h : Fin 4) (r : Fin 128) (d : Fin 64)
    (h0 : (z 0).val = r.val) (h1 : (z 1).val = 768 + h.val * 64 + d.val) :
    xheadAt xq mk mv h r d = kmix sk q kp kc vp vc M xq mk mv z := by
  unfold kmix
  rw [dif_neg (by omega)]
  have e2 : (⟨(z 1).val / 64 - 12, by omega⟩ : Fin 4) = h := Fin.ext (by simp only; omega)
  have e4 : (⟨(z 1).val % 64, by omega⟩ : Fin 64) = d := Fin.ext (by simp only; omega)
  have e5 : (z 0 : Fin 128) = r := Fin.ext h0
  rw [e2, e4, e5]

end

theorem idx_whole (z) : (Rect.unit (s := S128x1024) ![0, 0] ![128, 1024] inb_S128x1024_S128x1024_0_0).toLoadRect.idx z = z := by
  funext a
  apply Fin.ext
  fin_cases a <;> exact (Nat.zero_add _).trans (Nat.one_mul _)

variable (m : (ℓ : Loc nD τ sig) → Buf (Elt Ideal) ℓ)

theorem sk_at (c : Dev nD) (t : Fin cfg0.N) (n : ℕ) (hn : n < 12)
    (h : ∀ a, (![0, n] : Fin 2 → ℕ) a + (![1, 1] : Fin 2 → ℕ) a ≤ S1x12.size a)
    (hp : 0 < (Rect.unit (s := S1x12) ![0, n] ![1, 1] h).shape.numel) :
    View.ld (iblk m c 0 t) (Rect.unit (s := S1x12) ![0, n] ![1, 1] h) (Shape.Idx.first hp) = iblk m c 0 t (ix2 0 ⟨n, hn⟩) := by
  refine congrArg (iblk m c 0 t) ?_
  funext a
  apply Fin.ext
  have e : ((Shape.Idx.first hp) a).val = 0 := Nat.lt_one_iff.mp (by have := ((Shape.Idx.first hp) a).isLt; fin_cases a <;> exact this)
  fin_cases a
  · exact (Nat.zero_add _).trans ((Nat.one_mul _).trans e)
  · exact congrArg (n + ·) ((Nat.one_mul _).trans e)

/-- The blocks' indices at each grid point. -/
theorem idx : ∀ t : Fin cfg0.N, win0_0.index t = ![0, 0] ∧ win0_1.index t = ![t.val, 0] ∧ win0_2.index t = ![t.val / 64 * 64 + (t.val % 64 - 1), 3]
    ∧ win0_3.index t = ![t.val, 3] ∧ win0_4.index t = ![t.val / 64 * 64 + (t.val % 64 - 1), 4] ∧ win0_5.index t = ![t.val, 4]
    ∧ win0_6.index t = ![t.val, 5] ∧ win0_7.index t = ![t.val, 0] ∧ win0_8.index t = ![t.val / 64, 0]
    ∧ win0_9.index t = ![t.val / 64, 1] ∧ win0_10.index t = ![0, 0] ∧ win0_11.index t = ![t.val, 0] :=
  (by decide +kernel : ∀ t : Fin grid0.N, _)

theorem coord1 : ∀ t : Fin cfg0.N, (grid0.coords t 1).val = t.val % 64 :=
  (by decide +kernel : ∀ t : Fin grid0.N, _)

theorem lt_N (t : Fin cfg0.N) : t.val < 128 := t.isLt.trans_eq (by decide)

/-- Row `r` of block `t`. -/
def rowOf (t : Fin cfg0.N) (r : Fin 128) : Fin 16384 := ⟨t.val * 128 + r.val, by have := lt_N t; omega⟩

section
variable (c : Dev nD) (t : Fin cfg0.N)

/-- The arguments. -/
abbrev aP : FVec Ideal S16384x1536 .f32 := m ((c.tc : Thread nD τ).loc main_arg0)
abbrev aX : FVec Ideal S16384x1024 .f32 := m ((c.tc : Thread nD τ).loc main_arg1)
abbrev aKV : FVec Ideal S512x512 .f32 := m ((c.tc : Thread nD τ).loc main_arg2)
abbrev aSk : FVec Ideal S12 .f32 := m ((c.tc : Thread nD τ).loc main_arg3)
abbrev aW : FVec Ideal S1024x1024 .f32 := m ((c.tc : Thread nD τ).loc main_arg4)

theorem b0 (k : Fin 12) : iblk m c 0 t (ix2 0 k) = aSk m c (ix1 k) := by
  blk_point [iblk, V, idx t]
theorem b1 (r : Fin 128) (k : Fin 768) : iblk m c 1 t (ix2 r k) = aP m c (ix2 (rowOf t r) ⟨k.val, by omega⟩) := by
  blk_point [iblk, V, idx t, rowOf]
theorem b2 (r : Fin 128) (k : Fin 256) : iblk m c 2 t (ix2 r k) = aP m c (ix2 ⟨(t.val / 64 * 64 + (t.val % 64 - 1)) * 128 + r.val, by have := lt_N t; omega⟩ ⟨768 + k.val, by omega⟩) := by
  blk_point [iblk, V, idx t]
theorem b3 (r : Fin 128) (k : Fin 256) : iblk m c 3 t (ix2 r k) = aP m c (ix2 (rowOf t r) ⟨768 + k.val, by omega⟩) := by
  blk_point [iblk, V, idx t, rowOf]
theorem b4 (r : Fin 128) (k : Fin 256) : iblk m c 4 t (ix2 r k) = aP m c (ix2 ⟨(t.val / 64 * 64 + (t.val % 64 - 1)) * 128 + r.val, by have := lt_N t; omega⟩ ⟨1024 + k.val, by omega⟩) := by
  blk_point [iblk, V, idx t]
theorem b5 (r : Fin 128) (k : Fin 256) : iblk m c 5 t (ix2 r k) = aP m c (ix2 (rowOf t r) ⟨1024 + k.val, by omega⟩) := by
  blk_point [iblk, V, idx t, rowOf]
theorem b6 (r : Fin 128) (k : Fin 256) : iblk m c 6 t (ix2 r k) = aP m c (ix2 (rowOf t r) ⟨1280 + k.val, by omega⟩) := by
  blk_point [iblk, V, idx t, rowOf]
theorem b7 (r : Fin 128) (k : Fin 1024) : iblk m c 7 t (ix2 r k) = aX m c (ix2 (rowOf t r) k) := by
  blk_point [iblk, V, idx t, rowOf]
theorem b8 (r k : Fin 256) : iblk m c 8 t (ix2 r k) = aKV m c (ix2 ⟨t.val / 64 * 256 + r.val, by have := lt_N t; omega⟩ ⟨k.val, by omega⟩) := by
  blk_point [iblk, V, idx t]
theorem b9 (r k : Fin 256) : iblk m c 9 t (ix2 r k) = aKV m c (ix2 ⟨t.val / 64 * 256 + r.val, by have := lt_N t; omega⟩ ⟨256 + k.val, by omega⟩) := by
  blk_point [iblk, V, idx t]
theorem b10 (r k : Fin 1024) : iblk m c 10 t (ix2 r k) = aW m c (ix2 r k) := by
  blk_point [iblk, V, idx t]
theorem b11 (r : Fin 128) (k : Fin 1024) : ((View.whole main_v2).slice (win0_11.rect t)).emb (ix2 r k) = ix2 (rowOf t r) k := by
  blk_ext [rowOf, idx t]

theorem mask_at (r : Fin 384) (j : Fin 256) : k0_pay7 (grid0.coords t) (ix2 r j) = if attends (t.val % 64) (r.val % 128) j then 1#1 else 0#1 := by
  refine Eq.trans ?_ (attends_bit' (t.val % 64) r j (by omega) r.isLt j.isLt)
  rw [← coord1 t]
  pointwise [k0_pay7]
  rfl

theorem pay4_at (q : FVec Ideal S128x768 .f32) (r : Fin 128) (k : Fin 768) : k0_pay4 (F := Ideal) q (ix2 r k) = q (ix2 r k) * scl := by
  pointwise [k0_pay4]

theorem pay5_at (a b : FVec Ideal S128x256 .f32) (j k : Fin 256) : k0_pay5 (F := Ideal) a b (ix2 j k)
    = if h : j.val < 128 then a (ix2 ⟨j.val, h⟩ k) else b (ix2 ⟨j.val - 128, by omega⟩ k) := by
  pointwise [k0_pay5]

theorem pay6_at (a b : FVec Ideal S128x256 .f32) (j k : Fin 256) : k0_pay6 (F := Ideal) a b (ix2 j k)
    = if h : j.val < 128 then a (ix2 ⟨j.val, h⟩ k) else b (ix2 ⟨j.val - 128, by omega⟩ k) := by
  pointwise [k0_pay6]

theorem key_prev (r : Fin 128) (j : Fin 256) (hj : j.val < 128) :
    (keyRow (rowOf t r) j).val = (t.val / 64 * 64 + (t.val % 64 - 1)) * 128 + j.val := by
  have ht := lt_N t
  unfold keyRow rowOf
  rw [if_pos hj]
  simp only
  have h1 : (t.val * 128 + r.val) / 8192 = t.val / 64 := by omega
  have h2 : (t.val * 128 + r.val) % 8192 / 128 = t.val % 64 := by omega
  rw [h1, h2]
  omega

theorem key_own (r : Fin 128) (j : Fin 256) (hj : ¬ j.val < 128) :
    (keyRow (rowOf t r) j).val = t.val * 128 + (j.val - 128) := by
  have ht := lt_N t
  unfold keyRow rowOf
  rw [if_neg hj]
  simp only
  omega

theorem key_at (r : Fin 128) (j k : Fin 256) : k0_pay5 (F := Ideal) (iblk m c 2 t) (iblk m c 3 t) (ix2 j k)
    = aP m c (ix2 (keyRow (rowOf t r) j) ⟨768 + k.val, by omega⟩) := by
  rw [pay5_at]
  by_cases hj : j.val < 128
  · rw [dif_pos hj, b2]
    exact congrArg (fun R => aP m c (ix2 R ⟨768 + k.val, by omega⟩)) (Fin.ext (key_prev t r j hj).symm)
  · rw [dif_neg hj, b3]
    exact congrArg (fun R => aP m c (ix2 R ⟨768 + k.val, by omega⟩)) (Fin.ext (key_own t r j hj).symm)

theorem val_at (r : Fin 128) (j k : Fin 256) : k0_pay6 (F := Ideal) (iblk m c 4 t) (iblk m c 5 t) (ix2 j k)
    = aP m c (ix2 (keyRow (rowOf t r) j) ⟨1024 + k.val, by omega⟩) := by
  rw [pay6_at]
  by_cases hj : j.val < 128
  · rw [dif_pos hj, b4]
    exact congrArg (fun R => aP m c (ix2 R ⟨1024 + k.val, by omega⟩)) (Fin.ext (key_prev t r j hj).symm)
  · rw [dif_neg hj, b5]
    exact congrArg (fun R => aP m c (ix2 R ⟨1024 + k.val, by omega⟩)) (Fin.ext (key_own t r j hj).symm)

theorem sinkRow_congr {s s' v v' : Fin 256 → EReal} {k k' : EReal} (h1 : ∀ j, s j = s' j) (h2 : ∀ j, v j = v' j) (h3 : k = k') :
    sinkRow s v k = sinkRow s' v' k' := by
  rw [funext h1, funext h2, h3]

theorem softRow_congr {s s' v v' : Fin 256 → EReal} (h1 : ∀ j, s j = s' j) (h2 : ∀ j, v j = v' j) :
    softRow s v = softRow s' v' := by
  rw [funext h1, funext h2]

theorem mixG_head (p : FVec Ideal S16384x1536 .f32) (mkv : FVec Ideal S512x512 .f32) (sinks : FVec Ideal S12 .f32) (R : Fin 16384)
    (k : Fin 1024) (hk : k.val < 768) : mixG p mkv sinks R k =
    sinkRow (fun j => if attends (R.val % 8192 / 128) (R.val % 128) j.val then
        ∑ e : Fin 64, p (ix2 R ⟨k.val / 192 * 192 + k.val / 64 % 3 * 64 + e.val, by omega⟩) * scl
          * p (ix2 (keyRow R j) ⟨768 + (k.val / 192 * 64 + e.val), by omega⟩) else ninf)
      (fun j => p (ix2 (keyRow R j) ⟨1024 + (k.val / 192 * 64 + k.val % 64), by omega⟩))
      (sinks (ix1 ⟨k.val / 64, by omega⟩)) := by
  unfold mixG
  rw [dif_pos hk]

theorem mixG_x (p : FVec Ideal S16384x1536 .f32) (mkv : FVec Ideal S512x512 .f32) (sinks : FVec Ideal S12 .f32) (R : Fin 16384)
    (k : Fin 1024) (hk : ¬ k.val < 768) : mixG p mkv sinks R k =
    softRow (fun j => ∑ e : Fin 64, p (ix2 R ⟨1280 + ((k.val / 64 - 12) * 64 + e.val), by omega⟩) * scl
        * mkv (ix2 ⟨R.val / 8192 * 256 + j.val, by omega⟩ ⟨(k.val / 64 - 12) * 64 + e.val, by omega⟩))
      (fun j => mkv (ix2 ⟨R.val / 8192 * 256 + j.val, by omega⟩ ⟨256 + ((k.val / 64 - 12) * 64 + k.val % 64), by omega⟩)) := by
  unfold mixG
  rw [dif_neg hk]

theorem mix_at (r : Fin 128) (k : Fin 1024) : kmix (iblk m c 0 t) (iblk m c 1 t) (iblk m c 2 t) (iblk m c 3 t) (iblk m c 4 t) (iblk m c 5 t)
    (k0_pay7 (grid0.coords t)) (iblk m c 6 t) (iblk m c 8 t) (iblk m c 9 t) (ix2 r k) = mixG (aP m c) (aKV m c) (aSk m c) (rowOf t r) k := by
  have ht := lt_N t
  have e1 : (rowOf t r).val % 8192 / 128 = t.val % 64 := by unfold rowOf; simp only; omega
  have e2 : (rowOf t r).val % 128 = r.val := by unfold rowOf; simp only; omega
  have e3 : (rowOf t r).val / 8192 = t.val / 64 := by unfold rowOf; simp only; omega
  by_cases hk : k.val < 768
  · rw [mixG_head _ _ _ _ _ hk, ← kmix_head _ _ _ _ _ _ _ _ _ _ (ix2 r k) ⟨k.val / 192, by omega⟩ ⟨k.val / 64 % 3, by omega⟩ r
      ⟨k.val % 64, by omega⟩ _ rfl rfl (show k.val = k.val / 192 * 192 + k.val / 64 % 3 * 64 + k.val % 64 by omega)]
    unfold headAt
    refine sinkRow_congr (fun j => ?_) (fun j => val_at m c t r j _) ?_
    · rw [mask_at, select_ite]
      have e4 : (k.val / 64 % 3 * 128 + r.val) % 128 = r.val := by omega
      simp only [e1, e2, e4]
      refine if_congr Iff.rfl (Finset.sum_congr rfl fun e _ => ?_) rfl
      rw [pay4_at, key_at m c t r, b1]
    · rw [b0]
      exact congrArg (fun i => aSk m c (ix1 i)) (Fin.ext (by simp only; omega))
  · rw [mixG_x _ _ _ _ _ hk, ← kmix_x _ _ _ _ _ _ _ _ _ _ (ix2 r k) ⟨k.val / 64 - 12, by omega⟩ r
      ⟨k.val % 64, by omega⟩ rfl (show k.val = 768 + (k.val / 64 - 12) * 64 + k.val % 64 by omega)]
    unfold xheadAt
    refine softRow_congr (fun j => Finset.sum_congr rfl fun e _ => ?_) (fun j => ?_)
    · rw [b6, b8]
      simp only [e3]
      try rfl
    · rw [b9]
      simp only [e3]
      try rfl
end

set_option maxHeartbeats 1600000 in
theorem final (c : Dev nD) : (dats m 0 c).arrAt 11 (cfgs 0).N = attnG (aP m c) (aX m c) (aKV m c) (aSk m c) (aW m c) := by
  refine (dats m 0 c).arrAt_eq_of_covers 11 _ (by decide +kernel) fun t _ y => ?_
  blk_simp
  rw [after0_11]
  unfold outsAt0
  frame_out
  refine Eq.trans (congrArg (fun z => k0_pay3 (iblk m c 7 t) z (iblk m c 10 t) y) (a₂ := kmix (iblk m c 0 t) (iblk m c 1 t)
    (iblk m c 2 t) (iblk m c 3 t) (iblk m c 4 t) (iblk m c 5 t) (k0_pay7 (grid0.coords t)) (iblk m c 6 t) (iblk m c 8 t) (iblk m c 9 t)) ?_) ?_
  · rw [View.readCov_eq_canon']
    funext z
    refine (congrArg _ (idx_whole z)).trans ?_
    canon_tiles u hh
    case piece0 =>
      idx_vars u
      exact (xh3 _ _ _ _ _).trans (kmix_x _ _ _ _ _ _ _ _ _ _ z 3 _ _ (by omega) (by omega))
    case piece1 =>
      idx_vars u
      exact (xh2 _ _ _ _ _).trans (kmix_x _ _ _ _ _ _ _ _ _ _ z 2 _ _ (by omega) (by omega))
    case piece2 =>
      idx_vars u
      exact (xh1 _ _ _ _ _).trans (kmix_x _ _ _ _ _ _ _ _ _ _ z 1 _ _ (by omega) (by omega))
    case piece3 =>
      idx_vars u
      exact (xh0 _ _ _ _ _).trans (kmix_x _ _ _ _ _ _ _ _ _ _ z 0 _ _ (by omega) (by omega))
    case piece4 =>
      idx_vars u
      exact (hd32 _ _ _ _ _ _ _ _ _ _ _).trans (kmix_head _ _ _ _ _ _ _ _ _ _ z 3 2 _ _ _ (sk_at m c t 11 (by decide) _ _) (by omega) (by omega))
    case piece5 =>
      idx_vars u
      exact (hd31 _ _ _ _ _ _ _ _ _ _ _).trans (kmix_head _ _ _ _ _ _ _ _ _ _ z 3 1 _ _ _ (sk_at m c t 10 (by decide) _ _) (by omega) (by omega))
    case piece6 =>
      idx_vars u
      exact (hd30 _ _ _ _ _ _ _ _ _ _ _).trans (kmix_head _ _ _ _ _ _ _ _ _ _ z 3 0 _ _ _ (sk_at m c t 9 (by decide) _ _) (by omega) (by omega))
    case piece7 =>
      idx_vars u
      exact (hd22 _ _ _ _ _ _ _ _ _ _ _).trans (kmix_head _ _ _ _ _ _ _ _ _ _ z 2 2 _ _ _ (sk_at m c t 8 (by decide) _ _) (by omega) (by omega))
    case piece8 =>
      idx_vars u
      exact (hd21 _ _ _ _ _ _ _ _ _ _ _).trans (kmix_head _ _ _ _ _ _ _ _ _ _ z 2 1 _ _ _ (sk_at m c t 7 (by decide) _ _) (by omega) (by omega))
    case piece9 =>
      idx_vars u
      exact (hd20 _ _ _ _ _ _ _ _ _ _ _).trans (kmix_head _ _ _ _ _ _ _ _ _ _ z 2 0 _ _ _ (sk_at m c t 6 (by decide) _ _) (by omega) (by omega))
    case piece10 =>
      idx_vars u
      exact (hd12 _ _ _ _ _ _ _ _ _ _ _).trans (kmix_head _ _ _ _ _ _ _ _ _ _ z 1 2 _ _ _ (sk_at m c t 5 (by decide) _ _) (by omega) (by omega))
    case piece11 =>
      idx_vars u
      exact (hd11 _ _ _ _ _ _ _ _ _ _ _).trans (kmix_head _ _ _ _ _ _ _ _ _ _ z 1 1 _ _ _ (sk_at m c t 4 (by decide) _ _) (by omega) (by omega))
    case piece12 =>
      idx_vars u
      exact (hd10 _ _ _ _ _ _ _ _ _ _ _).trans (kmix_head _ _ _ _ _ _ _ _ _ _ z 1 0 _ _ _ (sk_at m c t 3 (by decide) _ _) (by omega) (by omega))
    case piece13 =>
      idx_vars u
      exact (hd02 _ _ _ _ _ _ _ _ _ _ _).trans (kmix_head _ _ _ _ _ _ _ _ _ _ z 0 2 _ _ _ (sk_at m c t 2 (by decide) _ _) (by omega) (by omega))
    case piece14 =>
      idx_vars u
      exact (hd01 _ _ _ _ _ _ _ _ _ _ _).trans (kmix_head _ _ _ _ _ _ _ _ _ _ z 0 1 _ _ _ (sk_at m c t 1 (by decide) _ _) (by omega) (by omega))
    case piece15 =>
      idx_vars u
      exact (hd00 _ _ _ _ _ _ _ _ _ _ _).trans (kmix_head _ _ _ _ _ _ _ _ _ _ z 0 0 _ _ _ (sk_at m c t 0 (by decide) _ _) (by omega) (by omega))
  · have hm := mix_at m c t
    idx_vars y
    generalize kmix _ _ _ _ _ _ _ _ _ _ = mx at hm ⊢
    pointwise [k0_pay3, attnG, hm]
    rw [b11]
    simp only [b7, b10]
    rfl

end Cert.AttnProof
-- ==== Proof.AttnRef.lean ====
/- The attention call's reference: its term cut at named stages, and each stage read at an index. -/
module

public import proofs.«01_k».proof.Proof.Gen.AttnRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.AttnProof

open Idealize.ShloMosaic Idealize.ShloMosaic.TcCoe Idealize.SL.Sem
open Cert.AttnRefIdeal Cert.AttnRefIdeal.Gen Cert.AttnRefIdeal.Value

/-- The queries by block and head. -/
def rQ (p : FVec Ideal S16384x1536 .f32) : FVec Ideal S2x64x128x4x3x64 .f32 :=
  (shapeCast _ (extractStridedSlice S2x8192x768 ![0, 0, 0] (shapeCast _ p shapeCasts_S16384x1536_S2x8192x1536) slices_S2x8192x1536_S2x8192x768_0_0_0) shapeCasts_S2x8192x768_S2x64x128x4x3x64)

/-- The keys by block and head. -/
def rK (p : FVec Ideal S16384x1536 .f32) : FVec Ideal S2x64x128x4x64 .f32 :=
  (shapeCast _ (shapeCast _ (extractStridedSlice S2x8192x256 ![0, 0, 768] (shapeCast _ p shapeCasts_S16384x1536_S2x8192x1536) slices_S2x8192x1536_S2x8192x256_0_0_768) shapeCasts_S2x8192x256_S2x8192x4x64) shapeCasts_S2x8192x4x64_S2x64x128x4x64)

/-- The values by block and head. -/
def rV (p : FVec Ideal S16384x1536 .f32) : FVec Ideal S2x64x128x4x64 .f32 :=
  (shapeCast _ (shapeCast _ (extractStridedSlice S2x8192x256 ![0, 0, 1024] (shapeCast _ p shapeCasts_S16384x1536_S2x8192x1536) slices_S2x8192x1536_S2x8192x256_0_0_1024) shapeCasts_S2x8192x256_S2x8192x4x64) shapeCasts_S2x8192x4x64_S2x64x128x4x64)

/-- The previous block's keys and the block's own. -/
def rKK (k : FVec Ideal S2x64x128x4x64 .f32) : FVec Ideal S2x64x256x4x64 .f32 :=
  (concatenate S2x64x256x4x64 2 [⟨S2x64x128x4x64, ((concatenate S2x64x128x4x64 1 [⟨S2x1x128x4x64, ((broadcastInDim S2x1x128x4x64 ![] bcast_S_S2x1x128x4x64 (constant S_ .f32 0x00000000#32)) : FVec Ideal S2x1x128x4x64 .f32)⟩, ⟨S2x63x128x4x64, ((extractStridedSlice S2x63x128x4x64 ![0, 0, 0, 0, 0] k slices_S2x64x128x4x64_S2x63x128x4x64_0_0_0_0_0) : FVec Ideal S2x63x128x4x64 .f32)⟩] concatenates_S2x1x128x4x64_S2x63x128x4x64_S2x64x128x4x64_d1) : FVec Ideal S2x64x128x4x64 .f32)⟩, ⟨S2x64x128x4x64, (k : FVec Ideal S2x64x128x4x64 .f32)⟩] concatenates_S2x64x128x4x64_S2x64x128x4x64_S2x64x256x4x64_d2)

/-- The previous block's values and the block's own. -/
def rVV (v : FVec Ideal S2x64x128x4x64 .f32) : FVec Ideal S2x64x256x4x64 .f32 :=
  (concatenate S2x64x256x4x64 2 [⟨S2x64x128x4x64, ((concatenate S2x64x128x4x64 1 [⟨S2x1x128x4x64, ((broadcastInDim S2x1x128x4x64 ![] bcast_S_S2x1x128x4x64 (constant S_ .f32 0x00000000#32)) : FVec Ideal S2x1x128x4x64 .f32)⟩, ⟨S2x63x128x4x64, ((extractStridedSlice S2x63x128x4x64 ![0, 0, 0, 0, 0] v slices_S2x64x128x4x64_S2x63x128x4x64_0_0_0_0_0) : FVec Ideal S2x63x128x4x64 .f32)⟩] concatenates_S2x1x128x4x64_S2x63x128x4x64_S2x64x128x4x64_d1) : FVec Ideal S2x64x128x4x64 .f32)⟩, ⟨S2x64x128x4x64, (v : FVec Ideal S2x64x128x4x64 .f32)⟩] concatenates_S2x64x128x4x64_S2x64x128x4x64_S2x64x256x4x64_d2)

/-- The mask. -/
def rMask  : IVec S64x128x256 1 :=
  (andi (broadcastInDim S64x128x256 ![0, 1, 2] bcast_S1x128x256_S64x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S64x128x256 ![0, 1, 2] bcast_S64x1x256_S64x128x256_0_1_2 (cmpi .sge (subi (addi (broadcastInDim S64x1x256 ![0, 1, 2] bcast_S64x1x1_S64x1x256_0_1_2 (muli (broadcastInDim S64x1x1 ![0] bcast_S64_S64x1x1_0 (iotaInDim S64 32 0)) (broadcastInDim S64x1x1 ![] bcast_S_S64x1x1 (constantI S_ 32 128#32)))) (broadcastInDim S64x1x256 ![0, 1, 2] bcast_S1x1x256_S64x1x256_0_1_2 (broadcastInDim S1x1x256 ![1, 2] bcast_S1x256_S1x1x256_1_2 (broadcastInDim S1x256 ![1] bcast_S256_S1x256_1 (iotaInDim S256 32 0))))) (broadcastInDim S64x1x256 ![] bcast_S_S64x1x256 (constantI S_ 32 128#32))) (broadcastInDim S64x1x256 ![] bcast_S_S64x1x256 (constantI S_ 32 0#32)))))

/-- The masked scores. -/
def rS (kk : FVec Ideal S2x64x256x4x64 .f32) (q : FVec Ideal S2x64x128x4x3x64 .f32) (mask : IVec S64x128x256 1) : FVec Ideal S2x64x4x3x128x256 .f32 :=
  (select (broadcastInDim S2x64x4x3x128x256 ![1, 2, 3, 4, 5] bcast_S64x1x1x128x256_S2x64x4x3x128x256_1_2_3_4_5 (broadcastInDim S64x1x1x128x256 ![0, 3, 4] bcast_S64x128x256_S64x1x1x128x256_0_3_4 mask)) (mulf (transpose S2x64x4x3x128x256 [0, 1, 2, 5, 4, 3] (Host.dotGeneral (φ₁ := .f32) (φ₂ := .f32) dot_S2x64x256x4x64_S2x64x128x4x3x64_S2x64x4x256x128x3_4_5_2_24_013_013 none kk q) transposes_S2x64x4x256x128x3_S2x64x4x3x128x256_0_1_2_5_4_3) (broadcastInDim S2x64x4x3x128x256 ![] bcast_S_S2x64x4x3x128x256 (constant S_ .f32 0x3E000000#32))) (broadcastInDim S2x64x4x3x128x256 ![] bcast_S_S2x64x4x3x128x256 ((constant S_ .f32 0xFF800000#32))))

/-- The row maxima. -/
def rMr (s : FVec Ideal S2x64x4x3x128x256 .f32) : FVec Ideal S2x64x4x3x128 .f32 :=
  (Host.reduce FloatOps.maximumf s (constant S_ .f32 0xFF800000#32) reducesTo_S2x64x4x3x128x256_S2x64x4x3x128_d5 h_S_)

/-- The row maxima, the sink's score included. -/
def rM (r : FVec Ideal S2x64x4x3x128 .f32) (sinks : FVec Ideal S12 .f32) : FVec Ideal S2x64x4x3x128x1 .f32 :=
  (maximumf (broadcastInDim S2x64x4x3x128x1 ![0, 1, 2, 3, 4] bcast_S2x64x4x3x128_S2x64x4x3x128x1_0_1_2_3_4 r) (broadcastInDim S2x64x4x3x128x1 ![0, 1, 2, 3, 4, 5] bcast_S1x1x4x3x1x1_S2x64x4x3x128x1_0_1_2_3_4_5 (broadcastInDim S1x1x4x3x1x1 ![2, 3, 4, 5] bcast_S4x3x1x1_S1x1x4x3x1x1_2_3_4_5 (broadcastInDim S4x3x1x1 ![0, 1] bcast_S4x3_S4x3x1x1_0_1 (shapeCast _ sinks shapeCasts_S12_S4x3)))))

/-- The exponentials. -/
def rE (s : FVec Ideal S2x64x4x3x128x256 .f32) (mx : FVec Ideal S2x64x4x3x128x1 .f32) : FVec Ideal S2x64x4x3x128x256 .f32 :=
  (Host.exp (subf s (broadcastInDim S2x64x4x3x128x256 ![0, 1, 2, 3, 4, 5] bcast_S2x64x4x3x128x1_S2x64x4x3x128x256_0_1_2_3_4_5 mx)))

/-- The row sums. -/
def rL (e : FVec Ideal S2x64x4x3x128x256 .f32) : FVec Ideal S2x64x4x3x128 .f32 :=
  (Host.reduceAdd e (constant S_ .f32 0x00000000#32) reducesTo_S2x64x4x3x128x256_S2x64x4x3x128_d5 h_S_)

/-- The weights. -/
def rW (e : FVec Ideal S2x64x4x3x128x256 .f32) (l : FVec Ideal S2x64x4x3x128 .f32) (mx : FVec Ideal S2x64x4x3x128x1 .f32) (sinks : FVec Ideal S12 .f32) : FVec Ideal S2x64x4x3x128x256 .f32 :=
  (Host.divf e (broadcastInDim S2x64x4x3x128x256 ![0, 1, 2, 3, 4, 5] bcast_S2x64x4x3x128x1_S2x64x4x3x128x256_0_1_2_3_4_5 (addf (broadcastInDim S2x64x4x3x128x1 ![0, 1, 2, 3, 4] bcast_S2x64x4x3x128_S2x64x4x3x128x1_0_1_2_3_4 l) (Host.exp (subf (broadcastInDim S2x64x4x3x128x1 ![0, 1, 2, 3, 4, 5] bcast_S1x1x4x3x1x1_S2x64x4x3x128x1_0_1_2_3_4_5 (broadcastInDim S1x1x4x3x1x1 ![2, 3, 4, 5] bcast_S4x3x1x1_S1x1x4x3x1x1_2_3_4_5 (broadcastInDim S4x3x1x1 ![0, 1] bcast_S4x3_S4x3x1x1_0_1 (shapeCast _ sinks shapeCasts_S12_S4x3)))) mx)))))

/-- The attention's output. -/
def rO (vv : FVec Ideal S2x64x256x4x64 .f32) (wt : FVec Ideal S2x64x4x3x128x256 .f32) : FVec Ideal S2x8192x768 .f32 :=
  (shapeCast _ (transpose S2x64x128x4x3x64 [0, 1, 5, 2, 4, 3] (Host.dotGeneral (φ₁ := .f32) (φ₂ := .f32) dot_S2x64x256x4x64_S2x64x4x3x128x256_S2x64x4x64x3x128_2_5_4_34_013_012 none vv wt) transposes_S2x64x4x64x3x128_S2x64x128x4x3x64_0_1_5_2_4_3) shapeCasts_S2x64x128x4x3x64_S2x8192x768)

/-- The scores against the memory. -/
def rXS (p : FVec Ideal S16384x1536 .f32) (mkv : FVec Ideal S512x512 .f32) : FVec Ideal S2x4x8192x256 .f32 :=
  (mulf (Host.dotGeneral (φ₁ := .f32) (φ₂ := .f32) dot_S2x8192x4x64_S2x256x4x64_S2x4x8192x256_3_3_1_1_02_02 none (shapeCast _ (extractStridedSlice S2x8192x256 ![0, 0, 1280] (shapeCast _ p shapeCasts_S16384x1536_S2x8192x1536) slices_S2x8192x1536_S2x8192x256_0_0_1280) shapeCasts_S2x8192x256_S2x8192x4x64) (shapeCast _ (extractStridedSlice S2x256x256 ![0, 0, 0] (shapeCast _ mkv shapeCasts_S512x512_S2x256x512) slices_S2x256x512_S2x256x256_0_0_0) shapeCasts_S2x256x256_S2x256x4x64)) (broadcastInDim S2x4x8192x256 ![] bcast_S_S2x4x8192x256 (constant S_ .f32 0x3E000000#32)))

/-- The row maxima against the memory. -/
def rXMr (s : FVec Ideal S2x4x8192x256 .f32) : FVec Ideal S2x4x8192 .f32 :=
  (Host.reduce FloatOps.maximumf s (constant S_ .f32 0xFF800000#32) reducesTo_S2x4x8192x256_S2x4x8192_d3 h_S_)

/-- The exponentials against the memory. -/
def rXE (s : FVec Ideal S2x4x8192x256 .f32) (r : FVec Ideal S2x4x8192 .f32) : FVec Ideal S2x4x8192x256 .f32 :=
  (Host.exp (subf s (broadcastInDim S2x4x8192x256 ![0, 1, 2, 3] bcast_S2x4x8192x1_S2x4x8192x256_0_1_2_3 (broadcastInDim S2x4x8192x1 ![0, 1, 2] bcast_S2x4x8192_S2x4x8192x1_0_1_2 (maximumf (broadcastInDim S2x4x8192 ![] bcast_S_S2x4x8192 (constant S_ .f32 0xFF800000#32)) r)))))

/-- The row sums against the memory. -/
def rXL (e : FVec Ideal S2x4x8192x256 .f32) : FVec Ideal S2x4x8192 .f32 :=
  (Host.reduceAdd e (constant S_ .f32 0x00000000#32) reducesTo_S2x4x8192x256_S2x4x8192_d3 h_S_)

/-- The weights of the memory. -/
def rXW (e : FVec Ideal S2x4x8192x256 .f32) (l : FVec Ideal S2x4x8192 .f32) : FVec Ideal S2x4x8192x256 .f32 :=
  (Host.divf e (broadcastInDim S2x4x8192x256 ![0, 1, 2, 3] bcast_S2x4x8192x1_S2x4x8192x256_0_1_2_3 (broadcastInDim S2x4x8192x1 ![0, 1, 2] bcast_S2x4x8192_S2x4x8192x1_0_1_2 l)))

/-- The cross-attention's output. -/
def rXO (mkv : FVec Ideal S512x512 .f32) (wt : FVec Ideal S2x4x8192x256 .f32) : FVec Ideal S2x8192x256 .f32 :=
  (shapeCast _ (transpose S2x8192x4x64 [0, 3, 1, 2] (Host.dotGeneral (φ₁ := .f32) (φ₂ := .f32) dot_S2x256x4x64_S2x4x8192x256_S2x4x64x8192_1_3_3_2_02_01 none (shapeCast _ (extractStridedSlice S2x256x256 ![0, 0, 256] (shapeCast _ mkv shapeCasts_S512x512_S2x256x512) slices_S2x256x512_S2x256x256_0_0_256) shapeCasts_S2x256x256_S2x256x4x64) wt) transposes_S2x4x64x8192_S2x8192x4x64_0_3_1_2) shapeCasts_S2x8192x4x64_S2x8192x256)

/-- The output projection and the residual. -/
def rOut (x : FVec Ideal S16384x1024 .f32) (o : FVec Ideal S2x8192x768 .f32) (xo : FVec Ideal S2x8192x256 .f32) (w : FVec Ideal S1024x1024 .f32) : FVec Ideal S16384x1024 .f32 :=
  (shapeCast _ (addf (shapeCast _ x shapeCasts_S16384x1024_S2x8192x1024) (Host.dotGeneral (φ₁ := .f32) (φ₂ := .f32) dot_S2x8192x1024_S1024x1024_S2x8192x1024_2_0_01_1_n_n none (concatenate S2x8192x1024 2 [⟨S2x8192x768, (o : FVec Ideal S2x8192x768 .f32)⟩, ⟨S2x8192x256, (xo : FVec Ideal S2x8192x256 .f32)⟩] concatenates_S2x8192x768_S2x8192x256_S2x8192x1024_d2) w)) shapeCasts_S2x8192x1024_S16384x1024)

/-- The weights of the scores. -/
def rWt (s : FVec Ideal S2x64x4x3x128x256 .f32) (sinks : FVec Ideal S12 .f32) : FVec Ideal S2x64x4x3x128x256 .f32 :=
  rW (rE s (rM (rMr s) sinks)) (rL (rE s (rM (rMr s) sinks))) (rM (rMr s) sinks) sinks

/-- The weights of the scores against the memory. -/
def rXWt (s : FVec Ideal S2x4x8192x256 .f32) : FVec Ideal S2x4x8192x256 .f32 :=
  rXW (rXE s (rXMr s)) (rXL (rXE s (rXMr s)))

/-- The reference's result of its arguments. -/
def rRes (p : FVec Ideal S16384x1536 .f32) (x : FVec Ideal S16384x1024 .f32) (mkv : FVec Ideal S512x512 .f32)
    (sinks : FVec Ideal S12 .f32) (w : FVec Ideal S1024x1024 .f32) : FVec Ideal S16384x1024 .f32 :=
  rOut x (rO (rVV (rV p)) (rWt (rS (rKK (rK p)) (rQ p) rMask) sinks)) (rXO mkv (rXWt (rXS p mkv))) w

variable (m : (ℓ : Loc nD τ sig) → Buf (Elt Ideal) ℓ)

set_option maxHeartbeats 1600000 in
theorem res_eq (c : Dev nD) : res_out0 m c = rRes (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4)) := by
  unfold res_out0 res_main_v105 rRes rOut rO rVV rV rWt rW rL rE rM rMr rS rKK rK rQ rMask rXO rXWt rXW rXL rXE rXMr rXS
  rfl

end Cert.AttnProof
-- ==== Proof.AttnReduce.lean ====
/- Reductions of the last axis at rank 4 and rank 6, read at an index, at any sizes. -/
module

public import Idealize.ShloMosaic.Lib.Pipeline.ValueKit
public import Idealize.ShloMosaic.Lib.Pointwise
public import Idealize.ShloMosaic.Lib.Claim

@[expose] public section

noncomputable section

namespace Cert.AttnProof

open Idealize.ShloMosaic Idealize.ShloMosaic.TcCoe Idealize.SL.Sem

variable {n0 n1 n2 n3 n4 n5 : Nat}

theorem max_r4 (v : FVec Ideal ⟨4, ![n0, n1, n2, n3]⟩ .f32) (c : FVec Ideal ⟨0, ![]⟩ .f32)
    (h : (⟨4, ![n0, n1, n2, n3]⟩ : Shape).ReducesTo [3] ⟨3, ![n0, n1, n2]⟩) (h0) (a : Fin n0) (b : Fin n1) (d : Fin n2) :
    Host.reduce FloatOps.maximumf v c h h0 (ix3 a b d)
      = Finset.univ.fold max (c (Shape.Idx.first h0)) fun k : Fin n3 => v (ix4 a b d k) := by
  simp only [pointwise]

theorem sum_r4 (v : FVec Ideal ⟨4, ![n0, n1, n2, n3]⟩ .f32) (c : FVec Ideal ⟨0, ![]⟩ .f32)
    (h : (⟨4, ![n0, n1, n2, n3]⟩ : Shape).ReducesTo [3] ⟨3, ![n0, n1, n2]⟩) (h0) (a : Fin n0) (b : Fin n1) (d : Fin n2) :
    Host.reduceAdd v c h h0 (ix3 a b d)
      = c (Shape.Idx.first h0) + ∑ k : Fin n3, v (ix4 a b d k) := by
  simp only [pointwise, Ideal.hostReduceAdd_def]

/-- The source indices that drop to a result index are that index with any last coordinate. -/
theorem fiber_r6 (h : (⟨6, ![n0, n1, n2, n3, n4, n5]⟩ : Shape).ReducesTo [5] ⟨5, ![n0, n1, n2, n3, n4]⟩)
    (a : Fin n0) (b : Fin n1) (d : Fin n2) (e : Fin n3) (f : Fin n4) (i : (⟨6, ![n0, n1, n2, n3, n4, n5]⟩ : Shape).Idx) :
    h.drop i = ix5 a b d e f ↔ ∃ k : Fin n5, ix6 a b d e f k = i := by
  constructor
  · intro e'
    refine ⟨i 5, ?_⟩
    funext x; apply Fin.ext
    match x with
    | ⟨0, _⟩ => exact (congrArg Fin.val (congrFun e' (0 : Fin 5))).symm
    | ⟨1, _⟩ => exact (congrArg Fin.val (congrFun e' (1 : Fin 5))).symm
    | ⟨2, _⟩ => exact (congrArg Fin.val (congrFun e' (2 : Fin 5))).symm
    | ⟨3, _⟩ => exact (congrArg Fin.val (congrFun e' (3 : Fin 5))).symm
    | ⟨4, _⟩ => exact (congrArg Fin.val (congrFun e' (4 : Fin 5))).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

theorem max_r6 (v : FVec Ideal ⟨6, ![n0, n1, n2, n3, n4, n5]⟩ .f32) (c : FVec Ideal ⟨0, ![]⟩ .f32)
    (h : (⟨6, ![n0, n1, n2, n3, n4, n5]⟩ : Shape).ReducesTo [5] ⟨5, ![n0, n1, n2, n3, n4]⟩) (h0)
    (a : Fin n0) (b : Fin n1) (d : Fin n2) (e : Fin n3) (f : Fin n4) :
    Host.reduce FloatOps.maximumf v c h h0 (ix5 a b d e f)
      = Finset.univ.fold max (c (Shape.Idx.first h0)) fun k : Fin n5 => v (ix6 a b d e f k) := by
  simp only [pointwise]
  exact Finset.fold_filter_eq_fold_of_fiber _ _ (fun k : Fin n5 => ix6 a b d e f k) (fun _ _ e' => congrFun e' (5 : Fin 6))
    (fiber_r6 h a b d e f) _ v

theorem sum_r6 (v : FVec Ideal ⟨6, ![n0, n1, n2, n3, n4, n5]⟩ .f32) (c : FVec Ideal ⟨0, ![]⟩ .f32)
    (h : (⟨6, ![n0, n1, n2, n3, n4, n5]⟩ : Shape).ReducesTo [5] ⟨5, ![n0, n1, n2, n3, n4]⟩) (h0)
    (a : Fin n0) (b : Fin n1) (d : Fin n2) (e : Fin n3) (f : Fin n4) :
    Host.reduceAdd v c h h0 (ix5 a b d e f)
      = c (Shape.Idx.first h0) + ∑ k : Fin n5, v (ix6 a b d e f k) :=
  congrArg (c (Shape.Idx.first h0) + ·)
    (Finset.sum_filter_eq_sum_of_fiber _ (fun k : Fin n5 => ix6 a b d e f k) (fun _ _ e' => congrFun e' (5 : Fin 6))
      (fiber_r6 h a b d e f) v)

end Cert.AttnProof
-- ==== Proof.AttnPure.lean ====
/- Facts about sums of extended reals that the attention call's comparison uses. -/
module

public import proofs.«01_k».proof.Proof.AttnSpec
public import Idealize.ShloMosaic.Lib.Pipeline.ValueKit
public import Idealize.ShloMosaic.Lib.Pointwise
public import Idealize.ShloMosaic.Lib.Claim

@[expose] public section

noncomputable section

namespace Cert.AttnProof

open Idealize.ShloMosaic Idealize.ShloMosaic.TcCoe Idealize.SL.Sem

theorem ninf_eq : ninf = ⊥ := by
  simp [ninf, Ideal.ofBits, Ideal.ieee]

theorem scl_eq : scl = (((1 : ℝ) / 8 : ℝ) : EReal) := by
  simp [scl, Ideal.ofBits, Ideal.ieee, -EReal.coe_mul]
  norm_num

/-- The scale moves out of a sum. -/
theorem sum_scl {n : ℕ} (f : Fin n → EReal) : (∑ e, f e) * scl = ∑ e, f e * scl := by
  have h0 : (0 : EReal) ≤ scl := by rw [scl_eq]; exact_mod_cast (by norm_num : (0 : ℝ) ≤ 1 / 8)
  have h1 : scl ≠ ⊤ := by rw [scl_eq]; exact EReal.coe_ne_top _
  induction n with
  | zero => simp
  | succ n ih => rw [Fin.sum_univ_succ, Fin.sum_univ_succ, EReal.right_distrib_of_nonneg_of_ne_top h0 h1, ih]

/-- The scaled scores, the scale on the query or on the sum. -/
theorem scores_eq (q k : Fin 64 → EReal) : (∑ e, k e * q e) * scl = ∑ e, q e * scl * k e := by
  rw [sum_scl]
  exact Finset.sum_congr rfl fun e _ => by ac_rfl

/-- `⊥`, `0` or `⊤`. -/
def ext3 (a : EReal) : Prop := a = ⊥ ∨ a = 0 ∨ a = ⊤

theorem ext3_bot_mul (a : EReal) : ext3 (⊥ * a) := by
  induction a with
  | bot => exact .inr (.inr rfl)
  | top => exact .inl rfl
  | coe a =>
    rcases lt_trichotomy a 0 with h | h | h
    · exact .inr (.inr (EReal.bot_mul_coe_of_neg h))
    · exact .inr (.inl (by rw [h]; simp))
    · exact .inl (EReal.bot_mul_coe_of_pos h)

theorem ext3_add {a b : EReal} (ha : ext3 a) (hb : ext3 b) : ext3 (a + b) := by
  rcases ha with rfl | rfl | rfl <;> rcases hb with rfl | rfl | rfl <;> simp [ext3]

theorem ext3_sum {n : ℕ} (f : Fin n → EReal) : ext3 (∑ j, ⊥ * f j) :=
  Finset.sum_induction _ ext3 (fun _ _ => ext3_add) (.inr (.inl rfl)) fun _ _ => ext3_bot_mul _

theorem ext3_self {a : EReal} (ha : ext3 a) : a + a = a := by
  rcases ha with rfl | rfl | rfl <;> simp

theorem sum_halves (f : Fin 256 → EReal) :
    ∑ j, f j = (∑ j : Fin 128, f ⟨j.val, by omega⟩) + ∑ j : Fin 128, f ⟨128 + j.val, by omega⟩ :=
  Fin.sum_univ_add (a := 128) (b := 128) f

theorem exp_nonneg (a : EReal) : 0 ≤ Ideal.exp a := by
  induction a with
  | bot => exact le_rfl
  | top => exact le_top
  | coe a => rw [Ideal.exp_coe]; exact_mod_cast (Real.exp_pos a).le

/-- Where the first half of the scores is `-∞`, the first half of the values is immaterial when it is either zero or the
    second half again. -/
theorem sinkRow_half (s v v' : Fin 256 → EReal) (sk : EReal) (hs : ∀ j : Fin 128, s ⟨j.val, by omega⟩ = ninf)
    (hv : ∀ j : Fin 128, v ⟨j.val, by omega⟩ = v ⟨128 + j.val, by omega⟩)
    (h0 : ∀ j : Fin 128, v' ⟨j.val, by omega⟩ = 0) (h1 : ∀ j : Fin 128, v' ⟨128 + j.val, by omega⟩ = v ⟨128 + j.val, by omega⟩) :
    sinkRow s v' sk = sinkRow s v sk := by
  unfold sinkRow
  generalize max (Finset.fold max ninf s Finset.univ) sk = M
  have hb : ∀ j : Fin 128, Ideal.exp (s ⟨j.val, by omega⟩ - M) = 0 := fun j => by
    rw [hs, ninf_eq, sub_eq_add_neg, EReal.bot_add]; rfl
  generalize hd : ∑ j, Ideal.exp (s j - M) + Ideal.exp (sk - M) = D
  rw [sum_halves, sum_halves (fun j => _ * v j)]
  simp only [hb, h0, h1, hv, mul_zero, Finset.sum_const_zero, zero_add]
  by_cases hD : D = 0
  · have hz : ∀ j, Ideal.exp (s j - M) = 0 := by
      have h := (add_eq_zero_iff_of_nonneg (Finset.sum_nonneg fun j _ => exp_nonneg (s j - M)) (exp_nonneg _)).mp (hd.trans hD)
      exact fun j => (Finset.sum_eq_zero_iff_of_nonneg (fun j _ => exp_nonneg (s j - M))).mp h.1 j (Finset.mem_univ _)
    have hw : Ideal.div 0 D = ⊥ := by simp [Ideal.div, hD]
    simp only [hz, hw]
    exact (ext3_self (ext3_sum _)).symm
  · have hw : Ideal.div 0 D = 0 := by simp [Ideal.div, hD]
    simp only [hw, zero_mul, Finset.sum_const_zero, zero_add]

end Cert.AttnProof
-- ==== Proof.AttnRefAt.lean ====
/- The attention call's reference read stage by stage, and its closed form. -/
module

public import proofs.«01_k».proof.Proof.AttnRef
public import proofs.«01_k».proof.Proof.AttnReduce
public import proofs.«01_k».proof.Proof.AttnPure
public import Idealize.ShloMosaic.Lib.Pipeline.ValueKit
public import Idealize.ShloMosaic.Lib.Pointwise
public import Idealize.ShloMosaic.Lib.Claim

@[expose] public section

set_option maxRecDepth 16384

noncomputable section

namespace Cert.AttnProof

open Idealize.ShloMosaic Idealize.ShloMosaic.TcCoe Idealize.SL.Sem
open Cert.AttnRefIdeal Cert.AttnRefIdeal.Gen Cert.AttnRefIdeal.Value

theorem rMr_at (s : FVec Ideal S2x64x4x3x128x256 .f32) (b : Fin 2) (i : Fin 64) (h : Fin 4) (g : Fin 3) (r : Fin 128) :
    rMr s (ix5 b i h g r) = Finset.univ.fold max (Ideal.ofBits .f32 4286578688#32) fun k : Fin 256 => s (ix6 b i h g r k) :=
  max_r6 s _ _ _ b i h g r

theorem rL_at (e : FVec Ideal S2x64x4x3x128x256 .f32) (b : Fin 2) (i : Fin 64) (h : Fin 4) (g : Fin 3) (r : Fin 128) :
    rL e (ix5 b i h g r) = ∑ k : Fin 256, e (ix6 b i h g r k) :=
  (sum_r6 e _ _ _ b i h g r).trans (by pointwise)

theorem rXMr_at (s : FVec Ideal S2x4x8192x256 .f32) (b : Fin 2) (h : Fin 4) (r : Fin 8192) :
    rXMr s (ix3 b h r) = Finset.univ.fold max (Ideal.ofBits .f32 4286578688#32) fun k : Fin 256 => s (ix4 b h r k) :=
  max_r4 s _ _ _ b h r

theorem rXL_at (e : FVec Ideal S2x4x8192x256 .f32) (b : Fin 2) (h : Fin 4) (r : Fin 8192) :
    rXL e (ix3 b h r) = ∑ k : Fin 256, e (ix4 b h r k) :=
  (sum_r4 e _ _ _ b h r).trans (by pointwise)

theorem rM_at (v : FVec Ideal S2x64x4x3x128 .f32) (sinks : FVec Ideal S12 .f32) (b : Fin 2) (i : Fin 64) (h : Fin 4) (g : Fin 3) (r : Fin 128) :
    rM v sinks (ix6 b i h g r 0) = max (v (ix5 b i h g r)) (sinks (ix1 ⟨h.val * 3 + g.val, by omega⟩)) := by
  pointwise [rM]

theorem rE_at (s : FVec Ideal S2x64x4x3x128x256 .f32) (mx : FVec Ideal S2x64x4x3x128x1 .f32) (b : Fin 2) (i : Fin 64) (h : Fin 4) (g : Fin 3) (r : Fin 128) (k : Fin 256) :
    rE s mx (ix6 b i h g r k) = Ideal.exp (s (ix6 b i h g r k) - mx (ix6 b i h g r 0)) := by
  pointwise [rE]

theorem rW_at (e : FVec Ideal S2x64x4x3x128x256 .f32) (l : FVec Ideal S2x64x4x3x128 .f32) (mx : FVec Ideal S2x64x4x3x128x1 .f32) (sinks : FVec Ideal S12 .f32) (b : Fin 2) (i : Fin 64) (h : Fin 4) (g : Fin 3) (r : Fin 128) (k : Fin 256) :
    rW e l mx sinks (ix6 b i h g r k) = Ideal.div (e (ix6 b i h g r k)) (l (ix5 b i h g r) + Ideal.exp (sinks (ix1 ⟨h.val * 3 + g.val, by omega⟩) - mx (ix6 b i h g r 0))) := by
  pointwise [rW]

theorem rXE_at (s : FVec Ideal S2x4x8192x256 .f32) (v : FVec Ideal S2x4x8192 .f32) (b : Fin 2) (h : Fin 4) (r : Fin 8192) (k : Fin 256) :
    rXE s v (ix4 b h r k) = Ideal.exp (s (ix4 b h r k) - max (Ideal.ofBits .f32 4286578688#32) (v (ix3 b h r))) := by
  pointwise [rXE]

theorem rXW_at (e : FVec Ideal S2x4x8192x256 .f32) (l : FVec Ideal S2x4x8192 .f32) (b : Fin 2) (h : Fin 4) (r : Fin 8192) (k : Fin 256) :
    rXW e l (ix4 b h r k) = Ideal.div (e (ix4 b h r k)) (l (ix3 b h r)) := by
  pointwise [rXW]

theorem rMask_at (i : Fin 64) (r : Fin 128) (j : Fin 256) :
    rMask (ix3 i r j) = if attends i r j then 1#1 else 0#1 := by
  refine Eq.trans ?_ (attends_bit i r j i.isLt r.isLt j.isLt)
  pointwise [rMask]

theorem rS_at (kk : FVec Ideal S2x64x256x4x64 .f32) (q : FVec Ideal S2x64x128x4x3x64 .f32)
    (b : Fin 2) (i : Fin 64) (h : Fin 4) (g : Fin 3) (r : Fin 128) (j : Fin 256) :
    rS kk q rMask (ix6 b i h g r j)
      = if attends i r j then (∑ e : Fin 64, kk (ix5 b i j h e) * q (ix6 b i r h g e)) * scl else ninf := by
  have e : ∀ M, rS kk q M (ix6 b i h g r j) = Scalar.select (M (ix3 i r j)) ((∑ e : Fin 64, kk (ix5 b i j h e) * q (ix6 b i r h g e)) * scl) ninf := by
    intro M
    pointwise [rS]
  rw [e, rMask_at, select_ite]

theorem rWt_at (s : FVec Ideal S2x64x4x3x128x256 .f32) (sinks : FVec Ideal S12 .f32)
    (b : Fin 2) (i : Fin 64) (h : Fin 4) (g : Fin 3) (r : Fin 128) (v : Fin 256 → EReal) :
    ∑ j, v j * rWt s sinks (ix6 b i h g r j)
      = sinkRow (fun j => s (ix6 b i h g r j)) v (sinks (ix1 ⟨h.val * 3 + g.val, by omega⟩)) := by
  unfold rWt sinkRow
  refine Finset.sum_congr rfl fun j _ => ?_
  rw [mul_comm, rW_at, rL_at]
  simp only [rE_at, rM_at, rMr_at]

theorem rXWt_at (s : FVec Ideal S2x4x8192x256 .f32) (b : Fin 2) (h : Fin 4) (r : Fin 8192) (v : Fin 256 → EReal) :
    ∑ j, v j * rXWt s (ix4 b h r j) = softRow (fun j => s (ix4 b h r j)) v := by
  unfold rXWt softRow
  refine Finset.sum_congr rfl fun j _ => ?_
  rw [mul_comm, rXW_at, rXL_at]
  simp only [rXE_at, rXMr_at]
  rw [max_eq_right]
  rw [show Ideal.ofBits .f32 4286578688#32 = ⊥ from ninf_eq]
  exact bot_le

theorem rO_at (vv : FVec Ideal S2x64x256x4x64 .f32) (wt : FVec Ideal S2x64x4x3x128x256 .f32) (b : Fin 2) (r : Fin 8192) (k : Fin 768) :
    rO vv wt (ix3 b r k) = ∑ x : Fin 256, vv (ix5 b ⟨r.val / 128, by omega⟩ x ⟨k.val / 192, by omega⟩ ⟨k.val % 64, by omega⟩)
      * wt (ix6 b ⟨r.val / 128, by omega⟩ ⟨k.val / 192, by omega⟩ ⟨k.val / 64 % 3, by omega⟩ ⟨r.val % 128, by omega⟩ x) := by
  pointwise [rO]

theorem rXS_at (p : FVec Ideal S16384x1536 .f32) (mkv : FVec Ideal S512x512 .f32) (b : Fin 2) (h : Fin 4) (r : Fin 8192) (g : Fin 256) :
    rXS p mkv (ix4 b h r g) = (∑ x : Fin 64, p (ix2 ⟨b.val * 8192 + r.val, by omega⟩ ⟨1280 + (h.val * 64 + x.val), by omega⟩)
      * mkv (ix2 ⟨b.val * 256 + g.val, by omega⟩ ⟨h.val * 64 + x.val, by omega⟩)) * scl := by
  pointwise [rXS]

theorem rXO_at (mkv : FVec Ideal S512x512 .f32) (s : FVec Ideal S2x4x8192x256 .f32) (b : Fin 2) (r : Fin 8192) (c : Fin 256) :
    rXO mkv s (ix3 b r c) = ∑ x : Fin 256, mkv (ix2 ⟨b.val * 256 + x.val, by omega⟩ ⟨256 + c.val, by omega⟩)
      * s (ix4 b ⟨c.val / 64, by omega⟩ r x) := by
  pointwise [rXO]

theorem rOut_at (x : FVec Ideal S16384x1024 .f32) (o : FVec Ideal S2x8192x768 .f32) (xo : FVec Ideal S2x8192x256 .f32)
    (w : FVec Ideal S1024x1024 .f32) (R : Fin 16384) (c : Fin 1024) :
    rOut x o xo w (ix2 R c) = x (ix2 R c)
      + (∑ k : Fin 768, o (ix3 ⟨R.val / 8192, by omega⟩ ⟨R.val % 8192, by omega⟩ k) * w (ix2 ⟨k.val, by omega⟩ c)
        + ∑ k : Fin 256, xo (ix3 ⟨R.val / 8192, by omega⟩ ⟨R.val % 8192, by omega⟩ k) * w (ix2 ⟨768 + k.val, by omega⟩ c)) := by
  pointwise [rOut]

theorem rQ_at (p : FVec Ideal S16384x1536 .f32) (b : Fin 2) (i : Fin 64) (r : Fin 128) (h : Fin 4) (g : Fin 3) (e : Fin 64) :
    rQ p (ix6 b i r h g e) = p (ix2 ⟨b.val * 8192 + (i.val * 128 + r.val), by omega⟩ ⟨h.val * 192 + g.val * 64 + e.val, by omega⟩) := by
  pointwise [rQ]

theorem keyRow_prev (R : Fin 16384) (j : Fin 256) (b i : ℕ) (hb : R.val / 8192 = b) (hi : R.val % 8192 / 128 = i)
    (hj : j.val < 128) : (keyRow R j).val = b * 8192 + ((i - 1) * 128 + j.val) := by
  unfold keyRow
  rw [if_pos hj]
  simp only
  omega

theorem keyRow_own (R : Fin 16384) (j : Fin 256) (b i : ℕ) (hb : R.val / 8192 = b) (hi : R.val % 8192 / 128 = i)
    (hj : ¬ j.val < 128) : (keyRow R j).val = b * 8192 + (i * 128 + (j.val - 128)) := by
  unfold keyRow
  rw [if_neg hj]
  simp only
  omega

theorem read_row (p : FVec Ideal S16384x1536 .f32) (c : Fin 1536) (A B : Fin 16384) (h : B.val = A.val) :
    p (ix2 A c) = p (ix2 B c) := by
  rw [Fin.ext h]

theorem rKK_at (p : FVec Ideal S16384x1536 .f32) (b : Fin 2) (i : Fin 64) (j : Fin 256) (h : Fin 4) (e : Fin 64)
    (R : Fin 16384) (hb : R.val / 8192 = b.val) (hi : R.val % 8192 / 128 = i.val) :
    rKK (rK p) (ix5 b i j h e) = if i.val < 1 ∧ j.val < 128 then 0 else p (ix2 (keyRow R j) ⟨768 + (h.val * 64 + e.val), by omega⟩) := by
  pointwise [rKK, rK]
  by_cases hj : j.val < 128
  · by_cases h1 : i.val < 1
    · exact ((dif_pos hj).trans (dif_pos h1)).trans (if_pos ⟨h1, hj⟩).symm
    · refine ((dif_pos hj).trans (dif_neg h1)).trans (Eq.trans ?_ (if_neg (fun h => h1 h.1)).symm)
      exact read_row p _ _ _ (keyRow_prev R j _ _ hb hi hj)
  · refine (dif_neg hj).trans (Eq.trans ?_ (if_neg (fun h => hj h.2)).symm)
    exact read_row p _ _ _ (keyRow_own R j _ _ hb hi hj)

theorem rVV_at (p : FVec Ideal S16384x1536 .f32) (b : Fin 2) (i : Fin 64) (j : Fin 256) (h : Fin 4) (e : Fin 64)
    (R : Fin 16384) (hb : R.val / 8192 = b.val) (hi : R.val % 8192 / 128 = i.val) :
    rVV (rV p) (ix5 b i j h e) = if i.val < 1 ∧ j.val < 128 then 0 else p (ix2 (keyRow R j) ⟨1024 + (h.val * 64 + e.val), by omega⟩) := by
  pointwise [rVV, rV]
  by_cases hj : j.val < 128
  · by_cases h1 : i.val < 1
    · exact ((dif_pos hj).trans (dif_pos h1)).trans (if_pos ⟨h1, hj⟩).symm
    · refine ((dif_pos hj).trans (dif_neg h1)).trans (Eq.trans ?_ (if_neg (fun h => h1 h.1)).symm)
      exact read_row p _ _ _ (keyRow_prev R j _ _ hb hi hj)
  · refine (dif_neg hj).trans (Eq.trans ?_ (if_neg (fun h => hj h.2)).symm)
    exact read_row p _ _ _ (keyRow_own R j _ _ hb hi hj)

theorem att_at (p : FVec Ideal S16384x1536 .f32) (mkv : FVec Ideal S512x512 .f32) (sinks : FVec Ideal S12 .f32)
    (R : Fin 16384) (k : Fin 768) :
    rO (rVV (rV p)) (rWt (rS (rKK (rK p)) (rQ p) rMask) sinks) (ix3 ⟨R.val / 8192, by omega⟩ ⟨R.val % 8192, by omega⟩ k)
      = mixG p mkv sinks R ⟨k.val, by omega⟩ := by
  rw [rO_at, rWt_at _ sinks _ _ _ _ _ (fun x => rVV (rV p) (ix5 _ _ x _ _))]
  unfold mixG
  rw [dif_pos k.isLt]
  have hsk : (⟨k.val / 192 * 3 + k.val / 64 % 3, by omega⟩ : Fin 12) = ⟨k.val / 64, by omega⟩ := Fin.ext (by simp only; omega)
  have hS : (fun j : Fin 256 => rS (rKK (rK p)) (rQ p) rMask (ix6 ⟨R.val / 8192, by omega⟩ ⟨R.val % 8192 / 128, by omega⟩
        ⟨k.val / 192, by omega⟩ ⟨k.val / 64 % 3, by omega⟩ ⟨R.val % 8192 % 128, by omega⟩ j))
      = fun j => if attends (R.val % 8192 / 128) (R.val % 128) j.val then
        ∑ e : Fin 64, p (ix2 R ⟨k.val / 192 * 192 + k.val / 64 % 3 * 64 + e.val, by omega⟩) * scl
          * p (ix2 (keyRow R j) ⟨768 + (k.val / 192 * 64 + e.val), by omega⟩) else ninf := by
    funext j
    rw [rS_at]
    have hr : R.val % 8192 % 128 = R.val % 128 := by omega
    simp only [hr]
    by_cases ha : attends (R.val % 8192 / 128) (R.val % 128) j.val
    · rw [if_pos ha, if_pos ha, ← scores_eq]
      refine congrArg (· * scl) (Finset.sum_congr rfl fun e _ => ?_)
      rw [rKK_at p _ _ _ _ _ R rfl rfl, if_neg (show ¬ (R.val % 8192 / 128 < 1 ∧ j.val < 128) from fun h => by have := ha.2.2; omega), rQ_at]
      refine congrArg (p (ix2 (keyRow R j) ⟨768 + (k.val / 192 * 64 + e.val), by omega⟩) * ·) (read_row p _ _ _ ?_)
      simp only
      omega
    · rw [if_neg ha, if_neg ha]
  rw [hS, hsk]
  by_cases h0 : R.val % 8192 / 128 < 1
  · refine sinkRow_half _ _ _ _ (fun j => ?_) (fun j => ?_) (fun j => ?_) fun j => ?_
    · exact if_neg (fun ha => by have := ha.2.2; simp only at this; omega)
    · refine read_row p _ _ _ ?_
      have e1 := keyRow_prev R ⟨j.val, by omega⟩ _ _ rfl rfl j.isLt
      have e2 := keyRow_own R ⟨128 + j.val, by omega⟩ _ _ rfl rfl (by simp only; omega)
      rw [e1, e2]
      simp only
      omega
    · dsimp only
      rw [rVV_at p _ _ _ _ _ R rfl rfl, if_pos ⟨h0, j.isLt⟩]
    · dsimp only
      rw [rVV_at p _ _ _ _ _ R rfl rfl, if_neg (fun h => by have := h.2; simp only at this; omega)]
  · congr 1
    funext j
    rw [rVV_at p _ _ _ _ _ R rfl rfl, if_neg (fun h => h0 h.1)]

theorem xatt_at (p : FVec Ideal S16384x1536 .f32) (mkv : FVec Ideal S512x512 .f32) (sinks : FVec Ideal S12 .f32)
    (R : Fin 16384) (k : Fin 256) :
    rXO mkv (rXWt (rXS p mkv)) (ix3 ⟨R.val / 8192, by omega⟩ ⟨R.val % 8192, by omega⟩ k)
      = mixG p mkv sinks R ⟨768 + k.val, by omega⟩ := by
  rw [rXO_at, rXWt_at _ _ _ _ (fun x => mkv (ix2 ⟨R.val / 8192 * 256 + x.val, by omega⟩ ⟨256 + k.val, by omega⟩))]
  unfold mixG
  rw [dif_neg (by simp only; omega)]
  have hk : (768 + k.val) / 64 - 12 = k.val / 64 := by omega
  have hk' : k.val / 64 * 64 + (768 + k.val) % 64 = k.val := by omega
  simp only [hk, hk']
  congr 1
  funext j
  rw [rXS_at, ← scores_eq]
  refine congrArg (· * scl) (Finset.sum_congr rfl fun e _ => ?_)
  rw [mul_comm]
  refine congrArg (mkv _ * ·) (read_row p _ _ _ ?_)
  simp only
  omega

/-- The reference's result in closed form. -/
theorem rRes_eq (p : FVec Ideal S16384x1536 .f32) (x : FVec Ideal S16384x1024 .f32) (mkv : FVec Ideal S512x512 .f32)
    (sinks : FVec Ideal S12 .f32) (w : FVec Ideal S1024x1024 .f32) : rRes p x mkv sinks w = attnG p x mkv sinks w := by
  funext y
  idx_vars y
  unfold rRes attnG
  rw [rOut_at]
  simp only [att_at p mkv sinks, xatt_at p mkv sinks]
  refine congrArg (x (ix2 y0 y1) + ·) ?_
  exact (Fin.sum_univ_add (a := 768) (b := 256) fun k : Fin 1024 => mixG p mkv sinks y0 k * w (ix2 k y1)).symm

end Cert.AttnProof
-- ==== Proof.AttnPair.lean ====
/- The attention call: the five claims. -/
module

public import proofs.«01_k».proof.Defs
public import proofs.«01_k».proof.Proof.Gen.Attn.Frame
public import proofs.«01_k».proof.Proof.Gen.AttnIdeal.Frame
public import proofs.«01_k».proof.Proof.Gen.AttnRefIdeal
public import proofs.«01_k».proof.Proof.AttnValue
public import proofs.«01_k».proof.Proof.AttnRefAt

@[expose] public section

set_option maxRecDepth 16384

noncomputable section

namespace Cert.AttnProof

open Idealize.ShloMosaic Idealize.ShloMosaic.TcCoe Idealize.SL.Sem

theorem quiescent : Cert.quiescent_Attn := fun m g _ => Cert.Attn.Gen.frame m g

theorem quiescentIdeal : Cert.quiescent_AttnIdeal := fun m g _ => Cert.AttnIdeal.Gen.frame m g

theorem quiescentRef : Cert.quiescent_AttnRefIdeal := fun m g _ =>
  (θ_run Cert.AttnRefIdeal.defs _ _).mono
    (fun r h => ⟨fun c => (h c).2, sem_eq_zero_of_no_sems (by decide) r.2⟩)
    (Cert.AttnRefIdeal.Value.run (F := Ideal) m g)

theorem preserves : Cert.preserves_Attn_AttnIdeal := by
  trivial

theorem algebraic : Cert.algebraic_AttnIdeal_AttnRefIdeal := by
  pair_intro
  · run_from Cert.AttnIdeal.Gen.run_main m g
  · run_from Cert.AttnRefIdeal.Value.run m' g'
    rw [final]
    obtain ⟨h0, h1, h2, h3, h4⟩ := hagree c
    refine (res_eq m' c).trans ((rRes_eq _ _ _ _ _).trans ?_)
    rw [h0, h1, h2, h3, h4]

end Cert.AttnProof
-- ==== Proof.ProjValue.lean ====
/- The projection: the array the kernel leaves is the reference's term of the arguments. -/
module

public import proofs.«01_k».proof.Proof.Gen.ProjIdeal.Value
public import proofs.«01_k».proof.Proof.Gen.ProjRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.ProjProof

open Idealize.ShloMosaic Idealize.ShloMosaic.TcCoe Idealize.SL.Sem
open Idealize.ShloMosaic.Pipeline (Dat)
open Cert.ProjIdeal Cert.ProjIdeal.Gen

variable (m : (ℓ : Loc nD τ sig) → Buf (Elt Ideal) ℓ)

theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- Normalization, then the product, read at row `i`, column `j`. -/
def proj (x : FVec Ideal S16384x1024 .f32) (g : FVec Ideal S1024 .f32) (w : FVec Ideal S1024x1536 .f32)
    (i : Fin 16384) (j : Fin 1536) : EReal :=
  ∑ k : Fin 1024, (x (ix2 i k) * Ideal.rsqrt (Ideal.div (∑ k : Fin 1024, x (ix2 i k) * x (ix2 i k))
    (Ideal.ofBits .f32 0x44800000#32) + Ideal.ofBits .f32 0x3727C5AC#32)) * g (ix1 k) * w (ix2 k j)

/-- The array after the run. -/
theorem final (c : Dev nD) : (dats m 0 c).arrAt 3 (cfgs 0).N
    = fun y => proj (m ((c : Thread nD τ).loc main_arg0)) (m ((c : Thread nD τ).loc main_arg1))
        (m ((c : Thread nD τ).loc main_arg2)) (y 0) (y 1) := by
  refine (dats m 0 c).arrAt_eq_of_covers 3 _ (by decide +kernel) fun t _ y => ?_
  blk_simp
  rw [after0_3]; frame_out
  pointwise [k0_pay1, proj]
  blk_point [iblk, V, idx t]

end Cert.ProjProof
-- ==== Proof.ProjPair.lean ====
/- The projection: the five claims. -/
module

public import proofs.«01_k».proof.Defs
public import proofs.«01_k».proof.Proof.Gen.Proj.Frame
public import proofs.«01_k».proof.Proof.Gen.ProjIdeal.Frame
public import proofs.«01_k».proof.Proof.Gen.ProjRefIdeal
public import proofs.«01_k».proof.Proof.ProjValue

@[expose] public section

set_option maxRecDepth 16384

noncomputable section

namespace Cert.ProjProof

open Idealize.ShloMosaic Idealize.ShloMosaic.TcCoe Idealize.SL.Sem

theorem quiescent : Cert.quiescent_Proj := fun m g _ => Cert.Proj.Gen.frame m g

theorem quiescentIdeal : Cert.quiescent_ProjIdeal := fun m g _ => Cert.ProjIdeal.Gen.frame m g

theorem quiescentRef : Cert.quiescent_ProjRefIdeal := fun m g _ =>
  (θ_run Cert.ProjRefIdeal.defs _ _).mono
    (fun r h => ⟨fun c => (h c).2, sem_eq_zero_of_no_sems (by decide) r.2⟩)
    (Cert.ProjRefIdeal.Value.run (F := Ideal) m g)

theorem preserves : Cert.preserves_Proj_ProjIdeal := by
  trivial

theorem algebraic : Cert.algebraic_ProjIdeal_ProjRefIdeal := by
  pair_intro
  · run_from Cert.ProjIdeal.Gen.run_main m g
  · run_from Cert.ProjRefIdeal.Value.run m' g'
    rw [final]
    funext y
    idx_vars y
    pointwise [proj]

end Cert.ProjProof
-- ==== Proof.MemKvValue.lean ====
/- The memory projection: the array the kernel leaves is the reference's term of the arguments. -/
module

public import proofs.«01_k».proof.Proof.Gen.MemKvIdeal.Value
public import proofs.«01_k».proof.Proof.Gen.MemKvRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.MemKvProof

open Idealize.ShloMosaic Idealize.ShloMosaic.TcCoe Idealize.SL.Sem
open Idealize.ShloMosaic.Pipeline (Dat)
open Cert.MemKvIdeal Cert.MemKvIdeal.Gen

variable (m : (ℓ : Loc nD τ sig) → Buf (Elt Ideal) ℓ)

theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- Normalization, then the product, read at row `i`, column `j`. -/
def proj (x : FVec Ideal S512x1024 .f32) (g : FVec Ideal S1024 .f32) (w : FVec Ideal S1024x512 .f32)
    (i : Fin 512) (j : Fin 512) : EReal :=
  ∑ k : Fin 1024, (x (ix2 i k) * Ideal.rsqrt (Ideal.div (∑ k : Fin 1024, x (ix2 i k) * x (ix2 i k))
    (Ideal.ofBits .f32 0x44800000#32) + Ideal.ofBits .f32 0x3727C5AC#32)) * g (ix1 k) * w (ix2 k j)

/-- The array after the run. -/
theorem final (c : Dev nD) : (dats m 0 c).arrAt 3 (cfgs 0).N
    = fun y => proj (m ((c : Thread nD τ).loc main_arg0)) (m ((c : Thread nD τ).loc main_arg1))
        (m ((c : Thread nD τ).loc main_arg2)) (y 0) (y 1) := by
  refine (dats m 0 c).arrAt_eq_of_covers 3 _ (by decide +kernel) fun t _ y => ?_
  blk_simp
  rw [after0_3]; frame_out
  pointwise [k0_pay1, proj]
  blk_point [iblk, V, idx t]

end Cert.MemKvProof
-- ==== Proof.MemKvPair.lean ====
/- The memory projection: the five claims. -/
module

public import proofs.«01_k».proof.Defs
public import proofs.«01_k».proof.Proof.Gen.MemKv.Frame
public import proofs.«01_k».proof.Proof.Gen.MemKvIdeal.Frame
public import proofs.«01_k».proof.Proof.Gen.MemKvRefIdeal
public import proofs.«01_k».proof.Proof.MemKvValue

@[expose] public section

set_option maxRecDepth 16384

noncomputable section

namespace Cert.MemKvProof

open Idealize.ShloMosaic Idealize.ShloMosaic.TcCoe Idealize.SL.Sem

theorem quiescent : Cert.quiescent_MemKv := fun m g _ => Cert.MemKv.Gen.frame m g

theorem quiescentIdeal : Cert.quiescent_MemKvIdeal := fun m g _ => Cert.MemKvIdeal.Gen.frame m g

theorem quiescentRef : Cert.quiescent_MemKvRefIdeal := fun m g _ =>
  (θ_run Cert.MemKvRefIdeal.defs _ _).mono
    (fun r h => ⟨fun c => (h c).2, sem_eq_zero_of_no_sems (by decide) r.2⟩)
    (Cert.MemKvRefIdeal.Value.run (F := Ideal) m g)

theorem preserves : Cert.preserves_MemKv_MemKvIdeal := by
  trivial

theorem algebraic : Cert.algebraic_MemKvIdeal_MemKvRefIdeal := by
  pair_intro
  · run_from Cert.MemKvIdeal.Gen.run_main m g
  · run_from Cert.MemKvRefIdeal.Value.run m' g'
    rw [final]
    funext y
    idx_vars y
    pointwise [proj]

end Cert.MemKvProof
-- ==== Proof.FfnKit.lean ====
/- The experts' kernel: the host side of its launch, its tables, its blocks and its branch conditions. -/
module

public import proofs.«01_k».proof.Proof.Gen.FfnIdeal.Launch
public import proofs.«01_k».proof.Proof.Gen.FfnIdeal.Skeleton
public import proofs.«01_k».proof.Proof.Gen.FfnIdeal
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem flush0_5 (a : (pcfg0 (F := F)).Adm) : ∀ t : Fin (cfg0 a).N, ((cfg0 a).win 5).flush t = true ↔ t.val % 7 = 6 :=
  (fun t => Pipeline.Window.flushOf_reads cc0_transform_5 reads0_5 hreads0_5 0 (by decide) (by decide) (Pipeline.Window.sep_of_coord cc0_transform_5 0 0 (fun _ => rfl) (by decide)) (P := 7) (m := 6) (by decide) rfl t : ∀ t : Fin grid0.N, Pipeline.Window.flushOf grid0 true cc0_transform_5 t = true ↔ t.val % 7 = 6)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

abbrev bodyAt0 (a : (pcfg0 (F := F)).Adm) (t : Fin (cfg0 a).N) : Prog (TpuEff nD τ sig (Elt F) Λ₀ .tc) PUnit :=
  cc0_swiglu_ffn (grid0.coords t) (Memref.whole main_arg4) (Memref.isWhole_whole _) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operation before the region writes `main_v0` alone: every other buffer is found as launched. -/
theorem V_of_ne (c : Dev nD) (b : Ref sig .tc) (h : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne h))

/-- The tables' contents when the region is entered. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The two tables as the body is handed them. -/
abbrev tbM0_0 : Memref sig .tc .smem S41 .i32 := Memref.whole main_arg4
abbrev htbM0_0 : tbM0_0.IsWhole := Memref.isWhole_whole _
abbrev tbM0_1 : Memref sig .tc .smem S1 .i32 := Memref.whole main_arg5
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, of its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) (v0 : BitVec 32) : Prop := k0_cond1 i v0 = 1#1

abbrev cond0_1 (i : grid0.Coords) : Prop := (Scalar.cmpi .ne (Scalar.extui (Scalar.cmpi .eq (BitVec.ofNat 32 (i 1).val) 0#32)) 0#32) = 1#1
theorem hcond0_1 : ∀ t : Fin grid0.N, cond0_1 (grid0.coords t) ↔ t.val % 7 = 0 :=
  (fun t => by
    have ht : t.val < 287 := Nat.lt_of_lt_of_eq t.isLt N_0
    have e0 : (grid0.coords t 0).val = t.val / 7 % 41 := Pipeline.Grid.coords_val t 0 (by decide) rfl
    have e1 : (grid0.coords t 1).val = t.val / 1 % 7 := Pipeline.Grid.coords_val t 1 (by decide) rfl
    simp only [cond0_1, e0, e1]
    word_cmp
   : ∀ t : Fin grid0.N, cond0_1 (grid0.coords t) ↔ t.val % 7 = 0)

abbrev cond0_2 (i : grid0.Coords) : Prop := k0_cond3 i = 1#1
theorem hcond0_2 : ∀ t : Fin grid0.N, cond0_2 (grid0.coords t) ↔ t.val % 7 = 6 :=
  (fun t => by
    have ht : t.val < 287 := Nat.lt_of_lt_of_eq t.isLt N_0
    have e0 : (grid0.coords t 0).val = t.val / 7 % 41 := Pipeline.Grid.coords_val t 0 (by decide) rfl
    have e1 : (grid0.coords t 1).val = t.val / 1 % 7 := Pipeline.Grid.coords_val t 1 (by decide) rfl
    simp only [cond0_2, k0_cond3, e0, e1]
    word_cmp
   : ∀ t : Fin grid0.N, cond0_2 (grid0.coords t) ↔ t.val % 7 = 6)

abbrev cond0_3 (i : grid0.Coords) (v4 : BitVec 32) : Prop := k0_cond4 i v4 = 1#1

theorem liveAt0_0 (hO : Ok m) : ∀ t : Fin (cfgM m hO).N, (cfgM m hO).idle 0 (grid0.coords t) = false :=
  fun _ => rfl
theorem liveAt0_1 (hO : Ok m) : ∀ t : Fin (cfgM m hO).N, (cfgM m hO).idle 1 (grid0.coords t) = false :=
  fun _ => rfl
theorem liveAt0_2 (hO : Ok m) : ∀ t : Fin (cfgM m hO).N, (cfgM m hO).idle 2 (grid0.coords t) = false :=
  fun _ => rfl
theorem liveAt0_3 (hO : Ok m) : ∀ t : Fin (cfgM m hO).N, (cfgM m hO).idle 3 (grid0.coords t) = false :=
  fun _ => rfl
theorem liveAt0_4 (hO : Ok m) : ∀ t : Fin (cfgM m hO).N, (cfgM m hO).idle 4 (grid0.coords t) = false :=
  fun _ => rfl

abbrev ms0_0 (hO : Ok m) (t : Fin (cfgM m hO).N) : Memref sig .tc .vmem S1024x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x512 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x512x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1024x1024 .f32 := spec0_5.stage ((cfgM m hO).slots t 5)
abbrev hs0_5 (hO : Ok m) (t : Fin (cfgM m hO).N) : (ms0_5 m hO t).IsWhole := hstage0_5 (((cfgM m hO).slots t 5).cast nbuf0_5)

abbrev scM0_0 : Memref sig .tc .vmem S1024x1024 .bf16 := Memref.whole cc0_scratch0
abbrev scM0_1 : Memref sig .tc .vmem S1024x1024 .f32 := Memref.whole cc0_scratch1
abbrev VS0_0 : View sig .tc .vmem S1024x1024 .bf16 := scM0_0.view
abbrev VS0_1 : View sig .tc .vmem S1024x1024 .f32 := scM0_1.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.FfnIdeal.Gen

end
-- ==== Proof.FfnRun.lean ====
/- The experts' kernel: one run of its body, with what every buffer then holds. -/
module

public import proofs.«01_k».proof.Proof.FfnKit
public import Idealize.ShloMosaic.Lib.VecWindow

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The word the body reads of the second table: the number of row blocks in use. -/
abbrev wordAt {c : Dev nD} (xt1 : TbBuf0 (F := F) c tbM0_1) : BitVec 32 :=
  tbM0_1.view.readAt (Elt F) (Rect.unit (s := S1) ![0] S1.size inb_S1_S1_0).toLoadRect xt1 (Shape.Idx.first (numel1_S1.symm ▸ Nat.one_pos))

theorem pay1_congr {a a' : Vec F S1024x1024 .f32} {b b' : Vec F S1x1024 .f32} (ha : a = a') (hb : b = b') :
    k0_pay1 a b = k0_pay1 a' b' := by rw [ha, hb]

theorem pay3_congr {a a' : Vec F S1024x1024 .bf16} {b b' e e' : Vec F S1x1024x512 .f32} {f f' : Vec F S1024x1024 .f32} {g g' : Vec F S1x512x1024 .f32}
    (ha : a = a') (hb : b = b') (he : e = e') (hf : f = f') (hg : g = g') : k0_pay3 a b e f g = k0_pay3 a' b' e' f' g' := by
  rw [ha, hb, he, hf, hg]

/-- A load of a whole buffer held at `X` reads `X`. -/
theorem load_unread {S : Shape} {e : EltTy} {M : Memref sig .tc .vmem S e} (h : M.IsWhole) (X : S.Idx → Elt F e) {off : Fin S.rank → ℕ}
    (inb : ∀ a, off a + S.size a ≤ S.size a) : M.view.readAt (Elt F) (Rect.unit off S.size inb).toLoadRect (h.unread X) = X :=
  (View.readAt_full _ _ _).trans (h.read_unread X)

set_option maxHeartbeats 4000000 in
/-- The body, from buffers at any contents: what each holds afterwards, by the four branch conditions. -/
theorem run (c : Dev nD) (i : grid0.Coords) (arg4 : Memref sig .tc .vmem S1024x1024 .f32) (harg4 : arg4.IsWhole) (arg5 : Memref sig .tc .vmem S1x1024 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .f32) (harg11 : arg11.IsWhole)
    (x0 : Vec F S1024x1024 .f32) (x1 : Vec F S1x1024 .f32) (x2 : Vec F S1x1024x512 .f32) (x3 : Vec F S1x1024x512 .f32) (x4 : Vec F S1x512x1024 .f32) (d : Vec F S1024x1024 .f32) (s0 : Vec F S1024x1024 .bf16) (s1 : Vec F S1024x1024 .f32)
    (xt0 : TbBuf0 (F := F) c tbM0_0) (xt1 : TbBuf0 (F := F) c tbM0_1)
    (n0 : Vec F S1024x1024 .bf16) (n1 o : Vec F S1024x1024 .f32)
    (h0 : n0 = if cond0_0 i (wordAt xt1) then (if cond0_1 i then k0_pay1 x0 x1 else s0) else s0)
    (h1 : n1 = if cond0_0 i (wordAt xt1) then k0_pay3 n0 x2 x3 (if cond0_1 i then k0_pay2 else s1) x4 else s1)
    (ho : o = if cond0_0 i (wordAt xt1) then (if cond0_2 i then n1 else d) else (if cond0_3 i (wordAt xt1) then k0_pay4 else d))
    (hx : cond0_0 i (wordAt xt1) → ¬cond0_3 i (wordAt xt1))
    (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare d ∗ owns (c : Thread nD τ) arg10 fullShare s0 ∗ owns (c : Thread nD τ) arg11 fullShare s1 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare o ∗ owns (c : Thread nD τ) arg10 fullShare n0 ∗ owns (c : Thread nD τ) arg11 fullShare n1 ∗ tbPt0 c tbM0_0 xt0 ∗ tbPt0 c tbM0_1 xt1) -∗ K ⟨⟩))
          ⊢ wp frame (wpE (defs₀ (F := F)) Variants.none c none) E (cc0_swiglu_ffn i tbM0_0 htbM0_0 tbM0_1 htbM0_1 arg4 harg4 arg5 harg5 arg6 harg6 arg7 harg7 arg8 harg8 arg9 harg9 arg10 harg10 arg11 harg11) K := by
  by_cases hc0 : cond0_0 i (wordAt xt1)
  on_goal 1 =>
    have hc3 := hx hc0
    by_cases hc1 : cond0_1 i <;> by_cases hc2 : cond0_2 i
  on_goal 5 => by_cases hc3 : cond0_3 i (wordAt xt1)
  all_goals
    first | rw [if_pos hc0] at h0 h1 ho | rw [if_neg hc0] at h0 h1 ho
    try first | rw [if_pos hc1] at h0 h1 | rw [if_neg hc1] at h0 h1
    first | rw [if_pos hc2] at ho | rw [if_neg hc2] at ho | rw [if_pos hc3] at ho | rw [if_neg hc3] at ho
    subst ho; subst h1; subst h0
    simp only [cc0_swiglu_ffn_eq_skeleton]; unfold cc0_swiglu_ffn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, HT0, HT1, Hk⟩
    obtain rfl := harg4.eq_unread hf0; obtain rfl := harg5.eq_unread hf1; obtain rfl := harg6.eq_unread hf2; obtain rfl := harg7.eq_unread hf3; obtain rfl := harg8.eq_unread hf4
    obtain rfl := harg9.eq_unread hf5; obtain rfl := harg10.eq_unread hs0; obtain rfl := harg11.eq_unread hs1
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    on_goal 1 => iexists _; isplitr; swap; iexact H5; ipureintro
    on_goal 2 =>
      isplitl [HS0]
      on_goal 1 => iexists _; isplitr; swap; iexact HS0; ipureintro
      on_goal 2 =>
        isplitl [HS1]
        on_goal 1 => iexists _; isplitr; swap; iexact HS1; ipureintro
        on_goal 2 => isplitl [HT0]; iexact HT0; iexact HT1
    all_goals
      first
        | with_reducible exact harg9.read_unread _
        | with_reducible exact harg10.read_unread _
        | with_reducible exact harg11.read_unread _
        | refine (View.read_writes_full _ _ _ _ _).trans ?_
    all_goals try refine (View.readCov_full _ _ _ _ _).trans ?_
    all_goals
      first
        | with_reducible rfl
        | refine pay3_congr ?_ (load_unread _ _ _) (load_unread _ _ _) ?_ (load_unread _ _ _)
        | refine pay1_congr (load_unread _ _ _) (load_unread _ _ _)
    all_goals
      first
        | with_reducible exact load_unread _ _ _
        | refine (View.readCov_full _ _ _ _ _).trans ?_
    all_goals
      first
        | with_reducible rfl
        | refine pay1_congr (load_unread _ _ _) (load_unread _ _ _)

end Cert.FfnIdeal.Gen

end
-- ==== Proof.FfnFrame.lean ====
/- The experts' kernel: what it carries from point to point, and its launch. -/
module

public import proofs.«01_k».proof.Proof.FfnRun
public import Idealize.ShloMosaic.Lib.Pipeline.TableIdle

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The number of row blocks in use, as the second table has it. -/
def nu : BitVec 32 := wordAt (c := 0) (tbl m 1)

/-- Point `n` belongs to a row block in use. -/
def act (n : ℕ) : Prop := (BitVec.ofNat 32 (n / 7)).slt (nu m) = true

instance (n : ℕ) : Decidable (act m n) := inferInstanceAs (Decidable (_ = true))

theorem act_congr {n k : ℕ} (h : n / 7 = k / 7) : act m n ↔ act m k := by unfold act; rw [h]

theorem bit_ne (b : BitVec 1) : Scalar.cmpi .ne (Scalar.extui b) (0#32) = 1#1 ↔ b = 1#1 := by
  revert b; decide

theorem cmpi_slt (a b : BitVec 32) : Scalar.cmpi .slt a b = 1#1 ↔ a.slt b = true := by
  show BitVec.ofBool (a.slt b) = 1#1 ↔ _
  cases a.slt b <;> decide

theorem cmpi_sge (a b : BitVec 32) : Scalar.cmpi .sge a b = 1#1 ↔ ¬ a.slt b = true := by
  show BitVec.ofBool (b.sle a) = 1#1 ↔ _
  rw [BitVec.sle_eq_not_slt]
  cases a.slt b <;> decide

theorem andi_bit (a b : BitVec 1) : Scalar.andi a b = 1#1 ↔ a = 1#1 ∧ b = 1#1 := by
  revert a b; decide

theorem hcond0_0 (t : Fin grid0.N) : cond0_0 (grid0.coords t) (nu m) ↔ act m t.val := by
  have ht : t.val < 287 := Nat.lt_of_lt_of_eq t.isLt N_0
  have e0 : (grid0.coords t 0).val = t.val / 7 % 41 := Pipeline.Grid.coords_val t 0 (by decide) rfl
  have e1 : t.val / 7 % 41 = t.val / 7 := Nat.mod_eq_of_lt (by omega)
  unfold cond0_0 act
  simp only [k0_cond1, e0, e1]
  exact (bit_ne _).trans (cmpi_slt _ _)

theorem hcond0_3 (t : Fin grid0.N) : cond0_3 (grid0.coords t) (nu m) ↔ ¬ act m t.val ∧ t.val % 7 = 0 := by
  have ht : t.val < 287 := Nat.lt_of_lt_of_eq t.isLt N_0
  have e0 : (grid0.coords t 0).val = t.val / 7 % 41 := Pipeline.Grid.coords_val t 0 (by decide) rfl
  have e1 : t.val / 7 % 41 = t.val / 7 := Nat.mod_eq_of_lt (by omega)
  have h1 := hcond0_1 t
  unfold cond0_1 at h1
  rw [bit_ne] at h1
  unfold cond0_3 act
  simp only [k0_cond4, e0, e1]
  rw [bit_ne, andi_bit, cmpi_sge, h1]

/-- The configuration reads the same word as the body. -/
theorem atD_nu : (tbl m).atD 1 ![0] = nu m :=
  (dif_pos (fun a : Fin 1 => by obtain rfl : a = (0 : Fin 1) := Subsingleton.elim _ _; decide)).trans
    (congrArg (tbl m 1) (funext fun a : Fin 1 => by obtain rfl : a = (0 : Fin 1) := Subsingleton.elim _ _; rfl))

theorem bits_idle (a b e : BitVec 1) : (!(a == 1#1 && b == 1#1) && !(e == 1#1)) = true ↔ ¬ (a = 1#1 ∧ b = 1#1) ∧ ¬ e = 1#1 := by
  revert a b e; decide

theorem idle_iff (pf : pre0.Contents (Elt F)) (i : grid0.Coords) (w : BitVec 32) (hw : pf.atD 1 ![0] = w) :
    idle0 pf 5 i = true ↔ ¬ (cond0_0 i w ∧ cond0_2 i) ∧ ¬ cond0_3 i w := by
  subst hw
  exact bits_idle _ _ _

theorem idle_cfg (hO : Ok m) : (cfgM m hO).idle = idle0 (tbl m) := rfl

/-- Where the output window is idle. -/
theorem idle0_5 (hO : Ok m) (t : Fin (cfgM m hO).N) :
    (cfgM m hO).idle 5 (grid0.coords t) = true ↔ ¬ (act m t.val ∧ t.val % 7 = 6) ∧ ¬ (¬ act m t.val ∧ t.val % 7 = 0) := by
  rw [idle_cfg]
  have h := idle_iff (tbl m) (grid0.coords t) (nu m) (atD_nu m)
  rw [hcond0_0 m t, hcond0_2 t, hcond0_3 m t] at h
  exact h

/-- What the two carried buffers hold after point `n` of a row block in use: the normed rows, and the products summed so far. -/
def scr (hO : Ok m) (c : Dev nD) : (n : ℕ) → n < (cfgM m hO).N → Vec F S1024x1024 .bf16 × Vec F S1024x1024 .f32
  | 0, h => (k0_pay1 (iblk m hO c 0 ⟨0, h⟩) (iblk m hO c 1 ⟨0, h⟩),
      k0_pay3 (k0_pay1 (iblk m hO c 0 ⟨0, h⟩) (iblk m hO c 1 ⟨0, h⟩)) (iblk m hO c 2 ⟨0, h⟩) (iblk m hO c 3 ⟨0, h⟩) k0_pay2 (iblk m hO c 4 ⟨0, h⟩))
  | n + 1, h =>
    let p := if (n + 1) % 7 = 0 then (k0_pay1 (iblk m hO c 0 ⟨n + 1, h⟩) (iblk m hO c 1 ⟨n + 1, h⟩), k0_pay2) else scr hO c n (Nat.lt_of_succ_lt h)
    (p.1, k0_pay3 p.1 (iblk m hO c 2 ⟨n + 1, h⟩) (iblk m hO c 3 ⟨n + 1, h⟩) p.2 (iblk m hO c 4 ⟨n + 1, h⟩))

theorem scr_first (hO : Ok m) (c : Dev nD) (t : Fin (cfgM m hO).N) (h : t.val % 7 = 0) :
    scr m hO c t.val t.isLt = (k0_pay1 (iblk m hO c 0 t) (iblk m hO c 1 t),
      k0_pay3 (k0_pay1 (iblk m hO c 0 t) (iblk m hO c 1 t)) (iblk m hO c 2 t) (iblk m hO c 3 t) k0_pay2 (iblk m hO c 4 t)) := by
  obtain ⟨n, hn⟩ := t
  cases n with
  | zero => rfl
  | succ n => unfold scr; rw [if_pos h]

theorem scr_next (hO : Ok m) (c : Dev nD) (n : ℕ) (hn : n + 1 < (cfgM m hO).N) (h : ¬ (n + 1) % 7 = 0) :
    scr m hO c (n + 1) hn = ((scr m hO c n (Nat.lt_of_succ_lt hn)).1,
      k0_pay3 (scr m hO c n (Nat.lt_of_succ_lt hn)).1 (iblk m hO c 2 ⟨n + 1, hn⟩) (iblk m hO c 3 ⟨n + 1, hn⟩)
        (scr m hO c n (Nat.lt_of_succ_lt hn)).2 (iblk m hO c 4 ⟨n + 1, hn⟩)) := by
  conv_lhs => unfold scr
  rw [if_neg h]

/-- What is known of the carried buffers before point `n`. -/
def Kept (hO : Ok m) (c : Dev nD) (n : ℕ) (s0 : Vec F S1024x1024 .bf16) (s1 : Vec F S1024x1024 .f32) : Prop :=
  ∀ (k : ℕ) (hk : k < (cfgM m hO).N), n = k + 1 → act m k → s0 = (scr m hO c k hk).1 ∧ s1 = (scr m hO c k hk).2

/-- The invariant before point `n`. -/
def Phi (hO : Ok m) (c : Dev nD) (n : ℕ) : sProp 𝕄 :=
  iprop(iprop((∃ s0, ∃ s1, ⌜Kept m hO c n s0 s1⌝ ∗ owns (c : Thread nD τ) scM0_0 fullShare s0 ∗ owns (c : Thread nD τ) scM0_1 fullShare s1) ∗ (∃ r, prngReg c r)) ∗ Pipeline.ΦT pre0 (tbl m) c)

/-- The output's block after point `t`. -/
def outAt (hO : Ok m) (c : Dev nD) (t : Fin (cfgM m hO).N) : Vec F S1024x1024 .f32 :=
  if act m t.val then (scr m hO c t.val t.isLt).2 else k0_pay4

/-- The proof data of the launch. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := Phi m hO c t.val
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-- Before the last point of a row block not in use the output's buffer holds the zeros its first point stored. -/
theorem fresh0_5 (hO : Ok m) (n : ℕ) (hn : n < (cfgM m hO).N) (h7 : n % 7 ≠ 0) (ha : ¬ act m n) : (cfgM m hO).fresh 5 n = false := by
  induction n with
  | zero => exact absurd rfl h7
  | succ n ih =>
    have hn' : n < (cfgM m hO).N := Nat.lt_of_succ_lt hn
    have ha' : ¬ act m n := fun h => ha ((act_congr m (by omega)).mp h)
    rw [Pipeline.Cfg.fresh_succ _ 5 n hn', Bool.or_eq_false_iff, Bool.and_eq_false_iff]
    refine ⟨Bool.eq_false_iff.mpr fun h => h7 ?_, ?_⟩
    · have h6 : n % 7 = 6 := (flush0_5 (adm m hO) ⟨n, hn'⟩).mp h
      omega
    · by_cases hz : n % 7 = 0
      · refine Or.inl (Bool.eq_false_iff.mpr fun h => ?_)
        exact ((idle0_5 m hO ⟨n, hn'⟩).mp h).2 ⟨ha', hz⟩
      · exact Or.inr (ih hn' hz ha')

theorem fresh_act (hO : Ok m) (n : ℕ) (hn : n < (cfgM m hO).N) (h : n % 7 = 0 ∨ act m n) : (cfgM m hO).fresh 5 n = true := by
  induction n with
  | zero => rfl
  | succ n ih =>
    have hn' : n < (cfgM m hO).N := Nat.lt_of_succ_lt hn
    rw [Pipeline.Cfg.fresh_succ _ 5 n hn', Bool.or_eq_true, Bool.and_eq_true]
    by_cases h6 : n % 7 = 6
    · exact Or.inl ((flush0_5 (adm m hO) ⟨n, hn'⟩).mpr h6)
    · have ha : act m n := (act_congr m (by omega)).mp (h.resolve_left (by omega))
      refine Or.inr ⟨(idle0_5 m hO ⟨n, hn'⟩).mpr ⟨fun h => h6 h.2, fun h => h.1 ha⟩, ih hn' (Or.inr ha)⟩

theorem before0_5 (hO : Ok m) (c : Dev nD) (t : Fin (cfgM m hO).N) (d) (h7 : t.val % 7 ≠ 0) (ha : ¬ act m t.val) :
    (dats m hO 0 c).before 5 t d = k0_pay4 := by
  rw [(dats m hO 0 c).before_out_traj 5 rfl (fun _ _ => rfl) (fun t h0 hi hf => ?_) t.val t rfl d, fresh0_5 m hO t.val t.isLt h7 ha,
    if_neg Bool.false_ne_true, after0_5, outAt, if_neg]
  · exact fun h => ha ((act_congr m (by show t.val / 7 = (t.val - 1) / 7; omega)).mpr h)
  · have hn : ¬ (t.val % 7 = 0 ∨ act m t.val) := fun h => by
      rw [fresh_act m hO t.val t.isLt h] at hf; exact Bool.noConfusion hf
    rw [not_or] at hn
    rw [after0_5, after0_5, outAt, outAt, if_neg hn.2, if_neg]
    exact fun h => hn.2 ((act_congr m (by show t.val / 7 = (t.val - 1) / 7; omega)).mpr h)

/-- What the body leaves in the output's buffer is what the launch wants of it. -/
theorem leaves0_5 (hO : Ok m) (c : Dev nD) (t : Fin (cfgM m hO).N) (d) (o : Vec F S1024x1024 .f32)
    (h1 : act m t.val → t.val % 7 = 6 → o = (scr m hO c t.val t.isLt).2)
    (h2 : ¬ act m t.val → t.val % 7 = 0 → o = k0_pay4)
    (h3 : ¬ (act m t.val ∧ t.val % 7 = 6) → ¬ (¬ act m t.val ∧ t.val % 7 = 0) → o = (dats m hO 0 c).before 5 t d) :
    owns (c : Thread nD τ) (ms0_5 m hO t) fullShare o ⊢ ((dats m hO 0 c).leavesExact 5 t : sProp 𝕄) := by
  have hfl := flush0_5 (adm m hO) t
  have hid := idle0_5 m hO t
  unfold Pipeline.Dat.leavesExact
  by_cases hi : (cfgM m hO).idle 5 (grid0.coords t) = true
  · have hi' := hid.mp hi
    obtain rfl := h3 hi'.1 hi'.2
    rw [hi]
    by_cases h6 : t.val % 7 = 6
    · have ha : ¬ act m t.val := fun h => hi'.1 ⟨h, h6⟩
      rw [hfl.mpr h6]
      show _ ⊢ owns _ _ _ ((dats m hO 0 c).after 5 t)
      rw [after0_5, outAt, if_neg ha, before0_5 m hO c t d (by omega) ha]
      exact .rfl
    · rw [Bool.eq_false_iff.mpr fun h => h6 (hfl.mp h)]
      show _ ⊢ iprop(∃ d, owns _ _ _ ((dats m hO 0 c).before 5 t d))
      iintro H
      iexists d
      iexact H
  · rw [Bool.eq_false_iff.mpr hi]
    show _ ⊢ owns _ _ _ ((dats m hO 0 c).after 5 t)
    rw [after0_5, outAt]
    by_cases ha : act m t.val
    · have h6 : t.val % 7 = 6 := by
        by_contra h6
        exact hi (hid.mpr ⟨fun h => h6 h.2, fun h => h.1 ha⟩)
      rw [if_pos ha, ← h1 ha h6]
      exact .rfl
    · have h6 : t.val % 7 = 0 := by
        by_contra h6
        exact hi (hid.mpr ⟨fun h => ha h.1, fun h => h6 h.2⟩)
      rw [if_neg ha, ← h2 ha h6]
      exact .rfl

/-- The invariant goes from point to point. -/
theorem kept_succ (hO : Ok m) (c : Dev nD) (t : Fin (cfgM m hO).N) (s0 n0 : Vec F S1024x1024 .bf16) (s1 n1 : Vec F S1024x1024 .f32)
    (hk : Kept m hO c t.val s0 s1)
    (h0 : act m t.val → n0 = if t.val % 7 = 0 then k0_pay1 (iblk m hO c 0 t) (iblk m hO c 1 t) else s0)
    (h1 : act m t.val → n1 = k0_pay3 n0 (iblk m hO c 2 t) (iblk m hO c 3 t) (if t.val % 7 = 0 then k0_pay2 else s1) (iblk m hO c 4 t)) :
    Kept m hO c (t.val + 1) n0 n1 := by
  intro k hkN e ha
  obtain ⟨n, hn⟩ := t
  obtain rfl : n = k := by simpa using e
  have h0 := h0 ha
  have h1 := h1 ha
  subst h0
  by_cases hz : n % 7 = 0
  · rw [scr_first m hO c ⟨n, hn⟩ hz, h1, if_pos hz, if_pos hz]
    exact ⟨rfl, rfl⟩
  · cases n with
    | zero => exact absurd rfl hz
    | succ n =>
      obtain ⟨e0, e1⟩ := hk n (Nat.lt_of_succ_lt hn) rfl ((act_congr m (by omega)).mp ha)
      rw [scr_next m hO c n hn hz, h1, if_neg hz, if_neg hz, e0, e1]
      exact ⟨rfl, rfl⟩

/-- What the body is called with at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ (dats m hO 0 c).leavesExact 5 t)

set_option maxHeartbeats 4000000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl,
    after0_0, after0_1, after0_2, after0_3, after0_4]
  rw [show (dats m hO 0 c).Φ t.succ = Phi m hO c (t.val + 1) from rfl, show (dats m hO 0 c).Φ t.castSucc = Phi m hO c t.val from rfl]
  unfold Phi
  rw [PhiT0_eq]
  have hc0 : cond0_0 (grid0.coords t) (wordAt (c := c) (tbl m 1)) ↔ act m t.val := hcond0_0 m t
  have hc1 := hcond0_1 t
  have hc2 := hcond0_2 t
  have hc3 : cond0_3 (grid0.coords t) (wordAt (c := c) (tbl m 1)) ↔ ¬ act m t.val ∧ t.val % 7 = 0 := hcond0_3 m t
  iintro ⟨⟨⟨⟨%s0, %s1, %hk, HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
  obtain ⟨n0, h0⟩ : ∃ n0 : Vec F S1024x1024 .bf16, n0 = if cond0_0 (grid0.coords t) (wordAt (c := c) (tbl m 1)) then (if cond0_1 (grid0.coords t) then k0_pay1 (iblk m hO c 0 t) (iblk m hO c 1 t) else s0) else s0 := ⟨_, rfl⟩
  obtain ⟨n1, h1⟩ : ∃ n1 : Vec F S1024x1024 .f32, n1 = if cond0_0 (grid0.coords t) (wordAt (c := c) (tbl m 1)) then k0_pay3 n0 (iblk m hO c 2 t) (iblk m hO c 3 t) (if cond0_1 (grid0.coords t) then k0_pay2 else s1) (iblk m hO c 4 t) else s1 := ⟨_, rfl⟩
  obtain ⟨o, ho⟩ : ∃ o : Vec F S1024x1024 .f32, o = if cond0_0 (grid0.coords t) (wordAt (c := c) (tbl m 1)) then (if cond0_2 (grid0.coords t) then n1 else (dats m hO 0 c).before 5 t d5) else (if cond0_3 (grid0.coords t) (wordAt (c := c) (tbl m 1)) then k0_pay4 else (dats m hO 0 c).before 5 t d5) := ⟨_, rfl⟩
  have hK : Kept m hO c (t.val + 1) n0 n1 := by
    refine kept_succ m hO c t s0 n0 s1 n1 hk (fun ha => ?_) (fun ha => ?_)
    · rw [h0, if_pos (hc0.mpr ha)]
      simp only [hc1]
    · rw [h1, if_pos (hc0.mpr ha)]
      simp only [hc1]
  have hL := leaves0_5 m hO c t d5 o
    (fun ha h6 => (ho.trans ((if_pos (hc0.mpr ha)).trans (if_pos (hc2.mpr h6)))).trans (hK t.val t.isLt rfl ha).2)
    (fun ha h6 => ho.trans ((if_neg fun h => ha (hc0.mp h)).trans (if_pos (hc3.mpr ⟨ha, h6⟩))))
    (fun h h' => by
      by_cases ha : act m t.val
      · exact ho.trans ((if_pos (hc0.mpr ha)).trans (if_neg fun h6 => h ⟨ha, hc2.mp h6⟩))
      · exact ho.trans ((if_neg fun h => ha (hc0.mp h)).trans (if_neg fun h6 => h' (hc3.mp h6))))
  iapply (run c (grid0.coords t) _ (hs0_0 m hO t) _ (hs0_1 m hO t) _ (hs0_2 m hO t) _ (hs0_3 m hO t) _ (hs0_4 m hO t) _ (hs0_5 m hO t) _ (Memref.isWhole_whole _) _ (Memref.isWhole_whole _)
    (iblk m hO c 0 t) (iblk m hO c 1 t) (iblk m hO c 2 t) (iblk m hO c 3 t) (iblk m hO c 4 t) ((dats m hO 0 c).before 5 t d5) s0 s1 (tbl m 0) (tbl m 1)
    n0 n1 o h0 h1 ho (fun h h' => (hc3.mp h').1 (hc0.mp h)) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HT0]; · iexact HT0
  isplitl [HT1]; · iexact HT1
  iintro ⟨H0, H1, H2, H3, H4, H5, HS0, HS1, HT0, HT1⟩
  isplitl [HS0 HS1 Hg HT0 HT1]
  · isplitl [HS0 HS1 Hg]
    · isplitl [HS0 HS1]
      · iexists n0, n1
        isplitr
        swap
        · isplitl [HS0]; · iexact HS0
          iexact HS1
        ipureintro
        exact hK
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iapply hL
  iexact H5

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = Phi m hO c 0 from rfl, PhiA0_eq]
  unfold Phi
  iintro ⟨⟨⟨⟨%s0, HS0⟩, ⟨%s1, HS1⟩⟩, Hg⟩, HT⟩
  isplitl [HS0 HS1 Hg]
  · isplitl [HS0 HS1]
    · iexists s0, s1
      isplitr
      swap
      · isplitl [HS0]; · iexact HS0
        iexact HS1
      ipureintro
      intro k _ e
      exact absurd e (by omega)
    iexact Hg
  iexact HT

theorem hout (hO : Ok m) (c : Dev nD) : (dats m hO 0 c).Φ (Fin.last (cfgM m hO).N) ⊢ Pipeline.ΦA spec0 c := by
  rw [show (dats m hO 0 c).Φ (Fin.last (cfgM m hO).N) = Phi m hO c (cfgM m hO).N from rfl, PhiA0_eq]
  unfold Phi
  iintro ⟨⟨⟨%s0, %s1, -, HS0, HS1⟩, Hg⟩, -⟩
  isplitl [HS0 HS1]
  · isplitl [HS0]
    · iexists _; iexact HS0
    iexists _; iexact HS1
  iexact Hg

set_option backward.isDefEq.respectTransparency.types false in
/-- The launch: every array at what the proof data says, every other buffer as the region found it, every counter at zero. -/
theorem run_main (hO : Ok m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m) (hin := hin m hO) (hout := hout m hO)

/-- What an input window's array holds when the run is over: what it held. -/
theorem arrAt_eq (hO : Ok m) (c : Dev nD) (w : Fin 6) (h : w ≠ 5) (k : ℕ) : (dats m hO 0 c).arrAt w k = (dats m hO 0 c).A w := by
  refine (dats m hO 0 c).arrAt_in w ?_ k
  fin_cases w <;> first | rfl | exact absurd rfl h

/-- What the run's post says of the argument arrays. -/
theorem args_of_post (hO : Ok m) {r} (h : Pipeline.FramePost (Pipeline.pin pcfgs fun _ => adm m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans ((arrAt_eq m hO c 0 (by decide) _).trans (V_of_ne m c main_arg0 (by decide))),
   ((h c).2 main_arg1 (by decide : main_arg1 ∈ Pipeline.restRefs sig spec0)).trans (V_of_ne m c _ (by decide)),
   ((h c).1 2).trans ((arrAt_eq m hO c 2 (by decide) _).trans (V_of_ne m c main_arg2 (by decide))),
   ((h c).1 4).trans ((arrAt_eq m hO c 4 (by decide) _).trans (V_of_ne m c main_arg3 (by decide))),
   ((h c).2 main_arg4 (by decide : main_arg4 ∈ Pipeline.restRefs sig spec0)).trans (V_of_ne m c _ (by decide)),
   ((h c).2 main_arg5 (by decide : main_arg5 ∈ Pipeline.restRefs sig spec0)).trans (V_of_ne m c _ (by decide))⟩

/-- The frame: the argument arrays end unchanged, every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of_post m hO h.1, h.2⟩) (run_main m ρ hO)

end Cert.FfnIdeal.Gen

end
-- ==== Proof.FfnTables.lean ====
/- The feed-forward's index maps: at tables that name experts every block lies inside its array. -/
module

public import proofs.«01_k».proof.Proof.FfnFrame
public import Idealize.ShloMosaic.Lib.StableHlo.Predicate
public import Idealize.ShloMosaic.Lib.Pointwise
public import proofs.«01_k».proof.Pre_experts_named

@[expose] public section

set_option maxRecDepth 16384

noncomputable section

namespace Cert.FfnIdeal.Gen

open Idealize.ShloMosaic Idealize.ShloMosaic.TcCoe
open Cert.FfnIdeal

variable {F : FTy → Type} [FloatOps F]

/-- The expert of row block `a`. -/
def teOf (pf : pre0.Contents (Elt F)) (a : Fin 41) : BitVec 32 := pf 0 (ix1 a)

/-- The number of row blocks in use. -/
def nuOf (pf : pre0.Contents (Elt F)) : BitVec 32 := pf 1 (ix1 (0 : Fin 1))

theorem at1 (pf : pre0.Contents (Elt F)) : pf.at 1 (Rect.unit (s := S1) ![0] S1.size inb_S1_S1_0) numel1_S1 = nuOf pf :=
  congrArg (pf 1) (funext fun a : Fin 1 => by obtain rfl : a = (0 : Fin 1) := Subsingleton.elim _ _; rfl)

theorem at0 (pf : pre0.Contents (Elt F)) (i : grid0.Coords) :
    pf.at 0 (Rect.unit (s := S41) ![(Scalar.indexCast (BitVec.ofNat 32 (i 0).val)).toNat] S1.size (k0_off1_inb i)) numel1_S1 = teOf pf (i 0) :=
  congrArg (pf 0) (funext fun a : Fin 1 => by
    obtain rfl : a = (0 : Fin 1) := Subsingleton.elim _ _
    refine Fin.ext ?_
    have h : (i 0).val < 41 := (i 0).isLt
    show (BitVec.ofNat 32 (i 0).val).toNat + 0 * 1 = (i 0).val
    rw [BitVec.toNat_ofNat]
    omega)

theorem toInt_small (n : ℕ) (hn : n < 41) : (BitVec.ofNat 32 n).toInt = n := by
  rw [BitVec.toInt_eq_toNat_cond, BitVec.toNat_ofNat]
  omega

theorem slt_iff (n : ℕ) (hn : n < 41) (w : BitVec 32) : ((BitVec.ofNat 32 n).slt w = true) ↔ (n : ℤ) < w.toInt := by
  rw [BitVec.slt_iff_toInt_lt, toInt_small n hn]

/-- The column step a window reads at: the point's own while the row block is in use, the last one after. -/
def colOf (pf : pre0.Contents (Elt F)) (i : grid0.Coords) : ℕ := if ((i 0).val : ℤ) < (nuOf pf).toInt then (i 1).val else 6

/-- The row block window 0 reads. -/
def rowOf (pf : pre0.Contents (Elt F)) (i : grid0.Coords) : ℕ := (min ((i 0).val : ℤ) ((nuOf pf).toInt - 1)).toNat

theorem toInt_pred (w : BitVec 32) (h : 1 ≤ w.toInt) : (w - 1#32).toInt = w.toInt - 1 := by
  have h2 := BitVec.toInt_lt (x := w)
  rw [BitVec.toInt_sub, show (1#32).toInt = 1 from rfl, Int.bmod_def]
  omega

theorem toNat_of_toInt (w : BitVec 32) (h : 0 ≤ w.toInt) : w.toNat = w.toInt.toNat := by
  rw [BitVec.toInt_eq_toNat_cond] at h ⊢
  have := w.isLt
  split_ifs at h ⊢ <;> omega

theorem minsi_toNat (n : ℕ) (hn : n < 41) (w : BitVec 32) (h : 1 ≤ w.toInt) :
    (Scalar.minsi (BitVec.ofNat 32 n) (Scalar.subi w 1#32)).toNat = (min (n : ℤ) (w.toInt - 1)).toNat := by
  show (if (BitVec.ofNat 32 n).slt (w - 1#32) then BitVec.ofNat 32 n else w - 1#32).toNat = _
  have e := toInt_pred w h
  by_cases hc : (BitVec.ofNat 32 n).slt (w - 1#32) = true
  · have hc' := (slt_iff n hn _).mp hc
    rw [e] at hc'
    rw [if_pos hc, BitVec.toNat_ofNat]
    omega
  · have hc' : ¬ (n : ℤ) < (w - 1#32).toInt := fun h' => hc ((slt_iff n hn _).mpr h')
    rw [e] at hc'
    rw [if_neg hc, toNat_of_toInt _ (by omega), e]
    omega

theorem tr0 (pf : pre0.Contents (Elt F)) (h : 1 ≤ (nuOf pf).toInt) (i : grid0.Coords) :
    cc0_transform_0 inb_S1_S1_0 numel1_S1 pf i = ![rowOf pf i, 0] := by
  unfold cc0_transform_0
  rw [at1]
  simp only [minsi_toNat _ (i 0).isLt _ h]
  rfl

theorem select_col (n k : ℕ) (hn : n < 41) (hk : k < 7) (w : BitVec 32) :
    (Scalar.select (Scalar.cmpi .slt (BitVec.ofNat 32 n) w) (BitVec.ofNat 32 k) 6#32) = BitVec.ofNat 32 (if (n : ℤ) < w.toInt then k else 6) := by
  show (if Scalar.cmpi .slt (BitVec.ofNat 32 n) w = 1#1 then _ else _) = _
  by_cases hc : (BitVec.ofNat 32 n).slt w = true
  · rw [if_pos ((cmpi_slt _ _).mpr hc), if_pos ((slt_iff n hn _).mp hc)]
  · rw [if_neg fun h => hc ((cmpi_slt _ _).mp h), if_neg fun h => hc ((slt_iff n hn _).mpr h)]

theorem colOf_lt (pf : pre0.Contents (Elt F)) (i : grid0.Coords) : colOf pf i < 7 := by
  have : (i 1).val < 7 := (i 1).isLt
  unfold colOf; split <;> omega

theorem col_word (pf : pre0.Contents (Elt F)) (i : grid0.Coords) :
    Scalar.select (Scalar.cmpi .slt (BitVec.ofNat 32 (i 0).val) (pf.at 1 (Rect.unit (s := S1) ![0] S1.size inb_S1_S1_0) numel1_S1)) (BitVec.ofNat 32 (i 1).val) 6#32
      = BitVec.ofNat 32 (colOf pf i) := by
  rw [at1]
  exact select_col _ _ (i 0).isLt (i 1).isLt _

theorem col_toNat (pf : pre0.Contents (Elt F)) (i : grid0.Coords) : (BitVec.ofNat 32 (colOf pf i)).toNat = colOf pf i := by
  have := colOf_lt pf i
  rw [BitVec.toNat_ofNat]
  omega

theorem vec3 {a a' b b' e e' : ℕ} (ha : a = a') (hb : b = b') (he : e = e') : ![a, b, e] = ![a', b', e'] := by
  subst ha hb he; rfl

theorem tr2 (pf : pre0.Contents (Elt F)) (i : grid0.Coords) :
    cc0_transform_2 k0_off1_inb numel1_S1 inb_S1_S1_0 pf i = ![(teOf pf (i 0)).toNat, 0, colOf pf i] :=
  vec3 (congrArg BitVec.toNat (at0 pf i)) rfl ((congrArg BitVec.toNat (col_word pf i)).trans (col_toNat pf i))

theorem tr3 (pf : pre0.Contents (Elt F)) (i : grid0.Coords) :
    cc0_transform_3 k0_off1_inb numel1_S1 inb_S1_S1_0 pf i = ![(teOf pf (i 0)).toNat, 0, 7 + colOf pf i] :=
  vec3 (congrArg BitVec.toNat (at0 pf i)) rfl ((congrArg (fun w => (7#32 + w).toNat) (col_word pf i)).trans (by
    have := colOf_lt pf i
    show (7#32 + BitVec.ofNat 32 (colOf pf i)).toNat = _
    rw [BitVec.toNat_add, col_toNat, show (7#32).toNat = 7 from rfl]
    omega))

theorem tr4 (pf : pre0.Contents (Elt F)) (i : grid0.Coords) :
    cc0_transform_4 k0_off1_inb numel1_S1 inb_S1_S1_0 pf i = ![(teOf pf (i 0)).toNat, colOf pf i, 0] :=
  vec3 (congrArg BitVec.toNat (at0 pf i)) ((congrArg BitVec.toNat (col_word pf i)).trans (col_toNat pf i)) rfl

/-- Tables that name experts, of which a first part is in use, pass the pipeline's condition. -/
theorem ok_of (pf : pre0.Contents (Elt F)) (ht : ∀ a, (teOf pf a).toNat < 8) (hn : 1 ≤ (nuOf pf).toInt) : ok0 pf := by
  have hc := colOf_lt pf
  refine ⟨fun i => ⟨?_, .inl rfl⟩, fun i => ⟨?_, .inl rfl⟩, fun i => ⟨?_, .inl rfl⟩, fun i => ⟨?_, .inl rfl⟩⟩
  · rw [tr0 pf hn]
    have h0 : (i 0).val < 41 := (i 0).isLt
    have hr : rowOf pf i < 41 := by unfold rowOf; omega
    intro a
    fin_cases a
    · show (rowOf pf i + 1) * 1024 ≤ 41984; omega
    · show (0 + 1) * 1024 ≤ 1024; omega
  · rw [tr2]
    have := ht (i 0)
    have := hc i
    intro a
    fin_cases a
    · show ((teOf pf (i 0)).toNat + 1) * 1 ≤ 8; omega
    · show (0 + 1) * 1024 ≤ 1024; omega
    · show (colOf pf i + 1) * 512 ≤ 7168; omega
  · rw [tr3]
    have := ht (i 0)
    have := hc i
    intro a
    fin_cases a
    · show ((teOf pf (i 0)).toNat + 1) * 1 ≤ 8; omega
    · show (0 + 1) * 1024 ≤ 1024; omega
    · show (7 + colOf pf i + 1) * 512 ≤ 7168; omega
  · rw [tr4]
    have := ht (i 0)
    have := hc i
    intro a
    fin_cases a
    · show ((teOf pf (i 0)).toNat + 1) * 1 ≤ 8; omega
    · show (colOf pf i + 1) * 512 ≤ 3584; omega
    · show (0 + 1) * 1024 ≤ 1024; omega

/-- What the precondition says of the two tables. -/
theorem of_named [Cert.Pre_experts_named.Facts] (x : FVec F S41984x1024 .f32) (g : FVec F S1024 .f32) (w : FVec F S8x1024x7168 .f32) (w' : FVec F S8x3584x1024 .f32) (te : IVec S41 32) (nu : IVec S1 32)
    (h : Cert.Pre_experts_named.fn x g w w' te nu = fun _ => 1#1) :
    (∀ a : Fin 41, (te (ix1 a)).toNat < 8) ∧ 1 ≤ (nu (ix1 (0 : Fin 1))).toInt := by
  have key : ∀ a : Fin 41, ((0 : ℤ) ≤ (te (ix1 a)).toInt ∧ (te (ix1 a)).toInt < 8) ∧ 1 ≤ (nu (ix1 (0 : Fin 1))).toInt := by
    intro a
    have e := congrFun h (ix1 a)
    simp only [Cert.Pre_experts_named.fn, andi, cmpi, constantI, broadcastInDim] at e
    obtain ⟨e1, e3⟩ := (andi_bit _ _).mp e
    obtain ⟨e1, e2⟩ := (andi_bit _ _).mp e1
    have e1 := (cmpi_sge _ _).mp e1
    have e2 := (cmpi_slt _ _).mp e2
    have e3 : ¬ (nu (ix1 (0 : Fin 1))).slt 1#32 = true := by
      refine fun h' => (cmpi_sge _ _).mp e3 ?_
      rw [← h']
      refine congrArg (fun v : BitVec 32 => v.slt 1#32) (congrArg nu ?_)
      funext b
      obtain rfl : b = (0 : Fin 1) := Subsingleton.elim (α := Fin 1) _ _
      exact Subsingleton.elim (α := Fin 1) _ _
    rw [BitVec.slt_iff_toInt_lt] at e1 e2 e3
    rw [show (0#32).toInt = 0 from rfl] at e1
    rw [show (8#32).toInt = 8 from rfl] at e2
    rw [show (1#32).toInt = 1 from rfl] at e3
    exact ⟨⟨not_lt.mp e1, e2⟩, not_lt.mp e3⟩
  refine ⟨fun a => ?_, (key 0).2⟩
  have := (key a).1
  rw [toNat_of_toInt _ this.1]
  omega

end Cert.FfnIdeal.Gen
-- ==== Proof.FfnBlocks.lean ====
/- The feed-forward: the body's stores read at one entry. -/
module

public import proofs.«01_k».proof.Proof.Gen.FfnIdeal.Skeleton
public import Idealize.ShloMosaic.Lib.Pipeline.ValueKit
public import Idealize.ShloMosaic.Lib.Pointwise

@[expose] public section

set_option maxRecDepth 16384

noncomputable section

namespace Cert.FfnProof

open Idealize.ShloMosaic
open Cert.FfnIdeal Cert.FfnIdeal.Gen

/-- The normed rows, read at row `i`, column `k`. -/
theorem pay1_at (x : Vec Ideal S1024x1024 .f32) (g : Vec Ideal S1x1024 .f32) (i k : Fin 1024) :
    k0_pay1 x g (ix2 i k) = x (ix2 i k) * Ideal.rsqrt (Ideal.div (∑ k : Fin 1024, x (ix2 i k) * x (ix2 i k))
      (Ideal.ofBits .f32 0x44800000#32) + Ideal.ofBits .f32 0x3727C5AC#32) * g (ix2 0 k) := by
  pointwise [k0_pay1]

theorem pay2_at (i k : Fin 1024) : (k0_pay2 (F := Ideal)) (ix2 i k) = 0 := by
  pointwise [k0_pay2]

theorem pay4_at (i k : Fin 1024) : (k0_pay4 (F := Ideal)) (ix2 i k) = 0 := by
  pointwise [k0_pay4]

/-- One step of the sum over the hidden columns, read at row `i`, column `d`. -/
theorem pay3_at (h : Vec Ideal S1024x1024 .bf16) (wg wu : Vec Ideal S1x1024x512 .f32) (acc : Vec Ideal S1024x1024 .f32) (wd : Vec Ideal S1x512x1024 .f32) (i d : Fin 1024) :
    k0_pay3 h wg wu acc wd (ix2 i d) = acc (ix2 i d) + ∑ f : Fin 512,
      ((∑ k : Fin 1024, h (ix2 i k) * wg (ix3 0 k f)) * Ideal.logistic (∑ k : Fin 1024, h (ix2 i k) * wg (ix3 0 k f))
        * (∑ k : Fin 1024, h (ix2 i k) * wu (ix3 0 k f))) * wd (ix3 0 f d) := by
  pointwise [k0_pay3]

end Cert.FfnProof
-- ==== Proof.FfnValue.lean ====
/- The feed-forward: the array the kernel leaves, read at one entry. -/
module

public import proofs.«01_k».proof.Proof.FfnTables
public import proofs.«01_k».proof.Proof.FfnBlocks
public import Idealize.ShloMosaic.Lib.Claim

@[expose] public section

set_option maxRecDepth 16384

noncomputable section

namespace Cert.FfnProof

open Idealize.ShloMosaic Idealize.ShloMosaic.TcCoe Idealize.SL.Sem
open Idealize.ShloMosaic.Pipeline (Dat)
open Cert.FfnIdeal Cert.FfnIdeal.Gen

/-- The normed rows, read at row `r`, column `k`. -/
def normed (x : FVec Ideal S41984x1024 .f32) (g : FVec Ideal S1024 .f32) (r : Fin 41984) (k : Fin 1024) : EReal :=
  x (ix2 r k) * Ideal.rsqrt (Ideal.div (∑ k : Fin 1024, x (ix2 r k) * x (ix2 r k))
    (Ideal.ofBits .f32 0x44800000#32) + Ideal.ofBits .f32 0x3727C5AC#32) * g (ix1 k)

/-- Column `q` of the first product under expert `e`. -/
def up (x : FVec Ideal S41984x1024 .f32) (g : FVec Ideal S1024 .f32) (w : FVec Ideal S8x1024x7168 .f32) (e : Fin 8) (r : Fin 41984) (q : Fin 7168) : EReal :=
  ∑ k : Fin 1024, normed x g r k * w (ix3 e k q)

/-- The gate's column. -/
def lo (f : Fin 3584) : Fin 7168 := ⟨f.val, by omega⟩

/-- The other half's column. -/
def hi (f : Fin 3584) : Fin 7168 := ⟨3584 + f.val, by omega⟩

/-- Hidden column `f` under expert `e`. -/
def hid (x : FVec Ideal S41984x1024 .f32) (g : FVec Ideal S1024 .f32) (w : FVec Ideal S8x1024x7168 .f32) (e : Fin 8) (r : Fin 41984) (f : Fin 3584) : EReal :=
  up x g w e r (lo f) * Ideal.logistic (up x g w e r (lo f)) * up x g w e r (hi f)

/-- Expert `e`'s feed-forward of row `r`, column `d`. -/
def expert (x : FVec Ideal S41984x1024 .f32) (g : FVec Ideal S1024 .f32) (w : FVec Ideal S8x1024x7168 .f32) (w' : FVec Ideal S8x3584x1024 .f32) (e : Fin 8) (r : Fin 41984) (d : Fin 1024) : EReal :=
  ∑ f : Fin 3584, hid x g w e r f * w' (ix3 e f d)

/-- The row block of row `r`. -/
def blockOf (r : Fin 41984) : Fin 41 := ⟨r.val / 1024, by omega⟩

/-- The expert row `r` is sent to, or nothing beyond the blocks in use. -/
def ffn (x : FVec Ideal S41984x1024 .f32) (g : FVec Ideal S1024 .f32) (w : FVec Ideal S8x1024x7168 .f32) (w' : FVec Ideal S8x3584x1024 .f32) (te : IVec S41 32) (nu : IVec S1 32) (r : Fin 41984) (d : Fin 1024) : EReal :=
  if ((blockOf r).val : ℤ) < (nu (ix1 0)).toInt then expert x g w w' (Fin.ofNat 8 (te (ix1 (blockOf r))).toNat) r d else 0

variable (m : (ℓ : Loc nD τ sig) → Buf (Elt Ideal) ℓ)

theorem co0 (t : Fin grid0.N) : (grid0.coords t 0).val = t.val / 7 := by
  have ht : t.val < 287 := Nat.lt_of_lt_of_eq t.isLt N_0
  have e0 : (grid0.coords t 0).val = t.val / 7 % 41 := Pipeline.Grid.coords_val t 0 (by decide) rfl
  omega

theorem co1 (t : Fin grid0.N) : (grid0.coords t 1).val = t.val % 7 := by
  have e1 : (grid0.coords t 1).val = t.val / 1 % 7 := Pipeline.Grid.coords_val t 1 (by decide) rfl
  omega

theorem nu_eq : nu m = nuOf (tbl m) :=
  congrArg (tbl m 1) (funext fun a : Fin 1 => by obtain rfl : a = (0 : Fin 1) := Subsingleton.elim _ _; rfl)

theorem act_iff {n : ℕ} (hn : n < 287) : act m n ↔ ((n / 7 : ℕ) : ℤ) < (nuOf (tbl m)).toInt := by
  have h := slt_iff (n / 7) (by omega) (nuOf (tbl m))
  rw [← nu_eq] at h ⊢
  exact h

/-- What the launch finds the norm's weight as. -/
theorem V_v0 (c : Dev nD) (b : Fin 1024) : V m c main_v0 (ix2 0 b) = m ((c : Thread nD τ).loc main_arg1) (ix1 b) := by
  refine (congrFun (StableHlo.reshape_result main_arg1 main_v0 (rfl : (.f32 : EltTy) = .f32) shapeCasts_S1024_S1x1024 (by decide) (by decide) (fun b => m (c, b))) (ix2 0 b)).trans ?_
  show shapeCast S1x1024 (m ((c : Thread nD τ).loc main_arg1)) shapeCasts_S1024_S1x1024 (ix2 0 b) = _
  pointwise

section Blocks

variable (hO : Ok m) (c : Dev nD) (t : Fin (cfgM m hO).N) (ht : act m t.val)

include ht

theorem row_act : rowOf (tbl m) (grid0.coords t) = t.val / 7 := by
  have h287 : t.val < 287 := Nat.lt_of_lt_of_eq t.isLt N_0
  have h := (act_iff m h287).mp ht
  have e := co0 t
  unfold rowOf
  omega

theorem col_act : colOf (tbl m) (grid0.coords t) = t.val % 7 := by
  have h287 : t.val < 287 := Nat.lt_of_lt_of_eq t.isLt N_0
  have h := (act_iff m h287).mp ht
  have e := co0 t
  have e' := co1 t
  unfold colOf
  rw [if_pos (by omega), e']

theorem blk0 (a b : Fin 1024) (r : Fin 41984) (hr : r.val = t.val / 7 * 1024 + a.val) :
    iblk m hO c 0 t (ix2 a b) = m ((c : Thread nD τ).loc main_arg0) (ix2 r b) := by
  have h287 : t.val < 287 := Nat.lt_of_lt_of_eq t.isLt N_0
  have hn : 1 ≤ (nuOf (tbl m)).toInt := by have := (act_iff m h287).mp ht; omega
  have e : ((cfgM m hO).win 0).index t = ![t.val / 7, 0] := (tr0 (tbl m) hn (grid0.coords t)).trans (by rw [row_act m hO t ht])
  refine Eq.trans (?_ : _ = V m c main_arg0 (ix2 r b)) (congrFun (V_of_ne m c main_arg0 (by decide)) _)
  refine congrArg (V m c main_arg0) (funext fun ax : Fin 2 => Fin.ext ?_)
  refine (Pipeline.Window.rect_emb_val ((cfgM m hO).win 0) t _ ax).trans ?_
  rw [e]
  fin_cases ax
  · exact hr.symm
  · exact Nat.zero_add _

theorem blk1 (b : Fin 1024) : iblk m hO c 1 t (ix2 0 b) = m ((c : Thread nD τ).loc main_arg1) (ix1 b) := by
  have e : ((cfgM m hO).win 1).index t = ![0, 0] := rfl
  refine Eq.trans (?_ : _ = V m c main_v0 (ix2 0 b)) (V_v0 m c b)
  refine congrArg (V m c main_v0) (funext fun ax : Fin 2 => Fin.ext ?_)
  refine (Pipeline.Window.rect_emb_val ((cfgM m hO).win 1) t _ ax).trans ?_
  rw [e]
  fin_cases ax
  · exact Nat.zero_add _
  · exact Nat.zero_add _

theorem blk2 (e : Fin 8) (he : e.val = (teOf (tbl m) (grid0.coords t 0)).toNat) (k : Fin 1024) (f : Fin 512) (q : Fin 7168) (hq : q.val = t.val % 7 * 512 + f.val) :
    iblk m hO c 2 t (ix3 0 k f) = m ((c : Thread nD τ).loc main_arg2) (ix3 e k q) := by
  have ei : ((cfgM m hO).win 2).index t = ![e.val, 0, t.val % 7] := (tr2 (tbl m) (grid0.coords t)).trans (by rw [col_act m hO t ht, he])
  refine Eq.trans (?_ : _ = V m c main_arg2 (ix3 e k q)) (congrFun (V_of_ne m c main_arg2 (by decide)) _)
  refine congrArg (V m c main_arg2) (funext fun ax : Fin 3 => Fin.ext ?_)
  refine (Pipeline.Window.rect_emb_val ((cfgM m hO).win 2) t _ ax).trans ?_
  rw [ei]
  fin_cases ax
  · exact Nat.mul_one _
  · exact Nat.zero_add _
  · exact hq.symm

theorem blk3 (e : Fin 8) (he : e.val = (teOf (tbl m) (grid0.coords t 0)).toNat) (k : Fin 1024) (f : Fin 512) (q : Fin 7168) (hq : q.val = (7 + t.val % 7) * 512 + f.val) :
    iblk m hO c 3 t (ix3 0 k f) = m ((c : Thread nD τ).loc main_arg2) (ix3 e k q) := by
  have ei : ((cfgM m hO).win 3).index t = ![e.val, 0, 7 + t.val % 7] := (tr3 (tbl m) (grid0.coords t)).trans (by rw [col_act m hO t ht, he])
  refine Eq.trans (?_ : _ = V m c main_arg2 (ix3 e k q)) (congrFun (V_of_ne m c main_arg2 (by decide)) _)
  refine congrArg (V m c main_arg2) (funext fun ax : Fin 3 => Fin.ext ?_)
  refine (Pipeline.Window.rect_emb_val ((cfgM m hO).win 3) t _ ax).trans ?_
  rw [ei]
  fin_cases ax
  · exact Nat.mul_one _
  · exact Nat.zero_add _
  · exact hq.symm

theorem blk4 (e : Fin 8) (he : e.val = (teOf (tbl m) (grid0.coords t 0)).toNat) (f : Fin 512) (d : Fin 1024) (q : Fin 3584) (hq : q.val = t.val % 7 * 512 + f.val) :
    iblk m hO c 4 t (ix3 0 f d) = m ((c : Thread nD τ).loc main_arg3) (ix3 e q d) := by
  have ei : ((cfgM m hO).win 4).index t = ![e.val, t.val % 7, 0] := (tr4 (tbl m) (grid0.coords t)).trans (by rw [col_act m hO t ht, he])
  refine Eq.trans (?_ : _ = V m c main_arg3 (ix3 e q d)) (congrFun (V_of_ne m c main_arg3 (by decide)) _)
  refine congrArg (V m c main_arg3) (funext fun ax : Fin 3 => Fin.ext ?_)
  refine (Pipeline.Window.rect_emb_val ((cfgM m hO).win 4) t _ ax).trans ?_
  rw [ei]
  fin_cases ax
  · exact Nat.mul_one _
  · exact hq.symm
  · exact Nat.zero_add _

end Blocks

/-- Hidden column `n`'s summand of the second product, nothing beyond the columns. -/
def part (x : FVec Ideal S41984x1024 .f32) (g : FVec Ideal S1024 .f32) (w : FVec Ideal S8x1024x7168 .f32) (w' : FVec Ideal S8x3584x1024 .f32) (e : Fin 8) (r : Fin 41984) (d : Fin 1024) (n : ℕ) : EReal :=
  if h : n < 3584 then hid x g w e r ⟨n, h⟩ * w' (ix3 e ⟨n, h⟩ d) else 0

theorem part_lt (x : FVec Ideal S41984x1024 .f32) (g : FVec Ideal S1024 .f32) (w : FVec Ideal S8x1024x7168 .f32) (w' : FVec Ideal S8x3584x1024 .f32) (e : Fin 8) (r : Fin 41984) (d : Fin 1024) (n : ℕ) (h : n < 3584) :
    part x g w w' e r d n = hid x g w e r ⟨n, h⟩ * w' (ix3 e ⟨n, h⟩ d) := dif_pos h

theorem expert_eq (x : FVec Ideal S41984x1024 .f32) (g : FVec Ideal S1024 .f32) (w : FVec Ideal S8x1024x7168 .f32) (w' : FVec Ideal S8x3584x1024 .f32) (e : Fin 8) (r : Fin 41984) (d : Fin 1024) :
    ∑ n ∈ Finset.range 3584, part x g w w' e r d n = expert x g w w' e r d := by
  rw [Finset.sum_range]
  exact Finset.sum_congr rfl fun f _ => part_lt x g w w' e r d f.val f.isLt

section Fold

variable (hO : Ok m) (c : Dev nD) (e : Fin 8) (r : Fin 41984)

/-- The first argument's contents, and so on. -/
abbrev X0 : FVec Ideal S41984x1024 .f32 := m ((c : Thread nD τ).loc main_arg0)
abbrev X1 : FVec Ideal S1024 .f32 := m ((c : Thread nD τ).loc main_arg1)
abbrev X2 : FVec Ideal S8x1024x7168 .f32 := m ((c : Thread nD τ).loc main_arg2)
abbrev X3 : FVec Ideal S8x3584x1024 .f32 := m ((c : Thread nD τ).loc main_arg3)

theorem hn_at (t : Fin (cfgM m hO).N) (ht : act m t.val) (a k : Fin 1024) (hr : r.val = t.val / 7 * 1024 + a.val) :
    k0_pay1 (iblk m hO c 0 t) (iblk m hO c 1 t) (ix2 a k) = normed (X0 m c) (X1 m c) r k := by
  have hx : ∀ k : Fin 1024, iblk m hO c 0 t (ix2 a k) = X0 m c (ix2 r k) := fun k => blk0 m hO c t ht a k r hr
  have hg := blk1 m hO c t ht k
  refine (pay1_at (iblk m hO c 0 t) (iblk m hO c 1 t) a k).trans ?_
  unfold normed
  refine congr (congrArg HMul.hMul (congr (congrArg HMul.hMul (hx k)) (congrArg Ideal.rsqrt (congrArg (· + Ideal.ofBits .f32 0x3727C5AC#32) (congrArg (Ideal.div · (Ideal.ofBits .f32 0x44800000#32)) (Finset.sum_congr rfl fun k _ => ?_)))))) hg
  exact congr (congrArg HMul.hMul (hx k)) (hx k)

theorem step_at (t : Fin (cfgM m hO).N) (ht : act m t.val) (he : e.val = (teOf (tbl m) (grid0.coords t 0)).toNat) (a d : Fin 1024)
    (h : Vec Ideal S1024x1024 .bf16) (acc : Vec Ideal S1024x1024 .f32) (hh : ∀ k, h (ix2 a k) = normed (X0 m c) (X1 m c) r k) :
    k0_pay3 h (iblk m hO c 2 t) (iblk m hO c 3 t) acc (iblk m hO c 4 t) (ix2 a d)
      = acc (ix2 a d) + ∑ f : Fin 512, part (X0 m c) (X1 m c) (X2 m c) (X3 m c) e r d (512 * (t.val % 7) + f.val) := by
  refine (pay3_at h (iblk m hO c 2 t) (iblk m hO c 3 t) acc (iblk m hO c 4 t) a d).trans (congrArg (acc (ix2 a d) + ·) (Finset.sum_congr rfl fun f _ => ?_))
  have hlt : 512 * (t.val % 7) + f.val < 3584 := by have := f.isLt; omega
  rw [part_lt _ _ _ _ _ _ _ _ hlt]
  unfold hid
  have hg := fun k => blk2 m hO c t ht e he k f (lo ⟨_, hlt⟩) (by show 512 * (t.val % 7) + f.val = _; omega)
  have hu := fun k => blk3 m hO c t ht e he k f (hi ⟨_, hlt⟩) (by show 3584 + (512 * (t.val % 7) + f.val) = _; omega)
  have hD := blk4 m hO c t ht e he f d ⟨_, hlt⟩ (by show 512 * (t.val % 7) + f.val = _; omega)
  have hG := Finset.sum_congr rfl fun k (_ : k ∈ (Finset.univ : Finset (Fin 1024))) => congr (congrArg (HMul.hMul (α := EReal) (β := EReal) (γ := EReal)) (hh k)) (hg k)
  have hU := Finset.sum_congr rfl fun k (_ : k ∈ (Finset.univ : Finset (Fin 1024))) => congr (congrArg (HMul.hMul (α := EReal) (β := EReal) (γ := EReal)) (hh k)) (hu k)
  exact congr (congrArg (HMul.hMul (α := EReal) (β := EReal) (γ := EReal)) (congr (congrArg HMul.hMul (congr (congrArg HMul.hMul hG) (congrArg Ideal.logistic hG))) hU)) hD

/-- What the two scratch buffers hold after step `j` of a row block in use. -/
theorem scr_at (i : ℕ) (hi : i < 41) (he : e.val = (teOf (tbl m) ⟨i, hi⟩).toNat) (ha : act m (7 * i)) (a d : Fin 1024) (hr : r.val = i * 1024 + a.val) :
    ∀ (j : ℕ) (hj : j < 7) (hN : 7 * i + j < (cfgM m hO).N), (∀ k, (scr m hO c (7 * i + j) hN).1 (ix2 a k) = normed (X0 m c) (X1 m c) r k)
      ∧ (scr m hO c (7 * i + j) hN).2 (ix2 a d) = ∑ n ∈ Finset.range (512 * (j + 1)), part (X0 m c) (X1 m c) (X2 m c) (X3 m c) e r d n := by
  intro j
  induction j with
  | zero =>
    intro hj hN
    have h0 : (7 * i + 0) / 7 = i := by omega
    have hc : grid0.coords (⟨7 * i + 0, hN⟩ : Fin grid0.N) 0 = ⟨i, hi⟩ := Fin.ext ((co0 ⟨7 * i + 0, hN⟩).trans h0)
    have hn := fun k => hn_at m hO c r ⟨7 * i + 0, hN⟩ ha a k (by show r.val = (7 * i + 0) / 7 * 1024 + _; rw [h0, hr])
    rw [scr_first m hO c ⟨7 * i + 0, hN⟩ (by show (7 * i + 0) % 7 = 0; omega)]
    refine ⟨hn, (step_at m hO c e r ⟨7 * i + 0, hN⟩ ha (by rw [hc]; exact he) a d _ _ hn).trans ?_⟩
    rw [pay2_at, zero_add, Finset.sum_range]
    refine Finset.sum_congr rfl fun f _ => congrArg _ ?_
    show 512 * ((7 * i + 0) % 7) + f.val = f.val
    omega
  | succ j ih =>
    intro hj hN
    have h0 : (7 * i + j + 1) / 7 = i := by omega
    have hc : grid0.coords (⟨7 * i + j + 1, hN⟩ : Fin grid0.N) 0 = ⟨i, hi⟩ := Fin.ext ((co0 ⟨7 * i + j + 1, hN⟩).trans h0)
    obtain ⟨hn, hs⟩ := ih (by omega) (Nat.lt_of_succ_lt hN)
    have ha' : act m (7 * i + j + 1) := (act_congr m (by omega)).mp ha
    show (∀ k, (scr m hO c (7 * i + j + 1) hN).1 (ix2 a k) = _) ∧ (scr m hO c (7 * i + j + 1) hN).2 (ix2 a d) = _
    rw [scr_next m hO c (7 * i + j) hN (by omega)]
    refine ⟨hn, (step_at m hO c e r ⟨7 * i + j + 1, hN⟩ ha' (by rw [hc]; exact he) a d _ _ hn).trans ?_⟩
    rw [hs, show 512 * (j + 1 + 1) = 512 * (j + 1) + 512 from rfl, Finset.sum_range_add, Finset.sum_range (n := 512)]
    refine congrArg (_ + ·) (Finset.sum_congr rfl fun f _ => congrArg _ ?_)
    show 512 * ((7 * i + j + 1) % 7) + f.val = 512 * (j + 1) + f.val
    omega

end Fold

section Final

variable (hO : Ok m) (c : Dev nD)

/-- The two tables' contents. -/
abbrev X4 : IVec S41 32 := m ((c : Thread nD τ).loc main_arg4)
abbrev X5 : IVec S1 32 := m ((c : Thread nD τ).loc main_arg5)

theorem tbl_te (a : Fin 41) : teOf (tbl m) a = X4 m c (ix1 a) := by
  obtain rfl : c = 0 := Subsingleton.elim _ _
  rfl

theorem tbl_nu : nuOf (tbl m) = X5 m c (ix1 0) := by
  obtain rfl : c = 0 := Subsingleton.elim _ _
  rfl

theorem idx5 (t : Fin (cfgM m hO).N) : ((cfgM m hO).win 5).index t = ![t.val / 7, 0] := by
  have h287 : t.val < 287 := Nat.lt_of_lt_of_eq t.isLt N_0
  show ![(BitVec.ofNat 32 (grid0.coords t 0).val).toNat, 0] = _
  rw [co0 t, BitVec.toNat_ofNat, Nat.mod_eq_of_lt (by omega)]

theorem covers5 : ((cfgM m hO).win 5).Covers := by
  refine ⟨fun a : Fin 2 => by fin_cases a <;> exact Nat.zero_lt_succ _, fun β => ?_⟩
  have h0 : (β (0 : Fin 2)).val < 41 := Nat.lt_of_lt_of_eq (β (0 : Fin 2)).isLt (by show (41984 + 1024 - 1) / 1024 = 41; norm_num)
  have h1 : (β (1 : Fin 2)).val < 1 := Nat.lt_of_lt_of_eq (β (1 : Fin 2)).isLt (by show (1024 + 1024 - 1) / 1024 = 1; norm_num)
  have hN : 7 * (β (0 : Fin 2)).val + 6 < (cfgM m hO).N := Nat.lt_of_lt_of_eq (by omega : _ < 287) N_0.symm
  refine ⟨⟨7 * (β (0 : Fin 2)).val + 6, hN⟩, (flush0_5 (adm m hO) ⟨_, hN⟩).mpr (by show (7 * (β (0 : Fin 2)).val + 6) % 7 = 6; omega), fun a : Fin 2 => ⟨?_, .inl rfl⟩⟩
  rw [idx5]
  fin_cases a
  · show (7 * (β (0 : Fin 2)).val + 6) / 7 = (β (0 : Fin 2)).val
    omega
  · show 0 = (β (1 : Fin 2)).val
    omega

/-- The array after the run. -/
theorem final (hte : ∀ a, (teOf (tbl m) a).toNat < 8) : (dats m hO 0 c).arrAt 5 (cfgM m hO).N
    = fun y : S41984x1024.Idx => ffn (X0 m c) (X1 m c) (X2 m c) (X3 m c) (X4 m c) (X5 m c) (y 0) (y 1) := by
  refine (dats m hO 0 c).arrAt_eq_of_covers 5 _ (covers5 m hO) fun t hf y => ?_
  have h6 : t.val % 7 = 6 := (flush0_5 (adm m hO) t).mp hf
  have h287 : t.val < 287 := Nat.lt_of_lt_of_eq t.isLt N_0
  have hy0 : (y (0 : Fin 2)).val < 1024 := (y (0 : Fin 2)).isLt
  have e0 : ((((cfgM m hO).win 5).rect t).emb y (0 : Fin 2)).val = t.val / 7 * 1024 + (y (0 : Fin 2)).val :=
    (Pipeline.Window.rect_emb_val ((cfgM m hO).win 5) t y (0 : Fin 2)).trans (by rw [idx5]; rfl)
  have e1 : ((((cfgM m hO).win 5).rect t).emb y (1 : Fin 2)).val = (y (1 : Fin 2)).val :=
    (Pipeline.Window.rect_emb_val ((cfgM m hO).win 5) t y (1 : Fin 2)).trans (by rw [idx5]; exact Nat.zero_add _)
  show (dats m hO 0 c).after 5 t y = ffn (X0 m c) (X1 m c) (X2 m c) (X3 m c) (X4 m c) (X5 m c) ((((cfgM m hO).win 5).rect t).emb y (0 : Fin 2)) ((((cfgM m hO).win 5).rect t).emb y (1 : Fin 2))
  generalize ((((cfgM m hO).win 5).rect t).emb y (0 : Fin 2)) = r at e0
  generalize ((((cfgM m hO).win 5).rect t).emb y (1 : Fin 2)) = d at e1
  change Fin 41984 at r
  change Fin 1024 at d
  have hb : blockOf r = ⟨t.val / 7, by omega⟩ := Fin.ext (by show r.val / 1024 = t.val / 7; omega)
  have hy : y = ix2 (y (0 : Fin 2)) d := funext fun a : Fin 2 => by
    fin_cases a
    · rfl
    · exact Fin.ext e1.symm
  rw [hy, after0_5, outAt, ffn, hb]
  have hact := act_iff m h287
  rw [tbl_nu m c] at hact
  by_cases ha : act m t.val
  · rw [if_pos ha, if_pos (hact.mp ha)]
    have ht7 : 7 * (t.val / 7) + 6 = t.val := by omega
    have he := hte ⟨t.val / 7, by omega⟩
    have key := (scr_at m hO c (Fin.ofNat 8 (X4 m c (ix1 ⟨t.val / 7, by omega⟩)).toNat) r (t.val / 7) (by omega) (by
      rw [tbl_te m c] at he ⊢
      exact Nat.mod_eq_of_lt he) ((act_congr m (by omega)).mp ha) (y (0 : Fin 2)) d e0 6 (by omega) (Nat.lt_of_le_of_lt (Nat.le_of_eq ht7) t.isLt)).2
    simp only [ht7] at key
    exact key.trans (expert_eq _ _ _ _ _ _ _)
  · rw [if_neg ha, if_neg fun h => ha (hact.mpr h)]
    exact pay4_at _ _

end Final

end Cert.FfnProof
-- ==== Proof.FfnRef.lean ====
/- The feed-forward's reference, read at one entry. -/
module

public import proofs.«01_k».proof.Proof.FfnValue
public import proofs.«01_k».proof.Proof.Gen.FfnRefIdeal.Run
public import Idealize.ShloMosaic.Lib.Pointwise
public import Idealize.ShloMosaic.Lib.Routing.OpsSet
public import Idealize.ShloMosaic.Lib.Claim

@[expose] public section

set_option maxRecDepth 16384

noncomputable section

namespace Cert.FfnProof

open Idealize.ShloMosaic Idealize.ShloMosaic.TcCoe Idealize.SL.Sem
open Cert.FfnRefIdeal Cert.FfnRefIdeal.Gen Cert.FfnRefIdeal.Value

variable (V : Valuation τ sig (Elt Ideal))

/-- The arguments' contents. -/
abbrev R0 : FVec Ideal S41984x1024 .f32 := V (Proc.devRef .tc main_arg0)
abbrev R1 : FVec Ideal S1024 .f32 := V (Proc.devRef .tc main_arg1)
abbrev R2 : FVec Ideal S8x1024x7168 .f32 := V (Proc.devRef .tc main_arg2)
abbrev R3 : FVec Ideal S8x3584x1024 .f32 := V (Proc.devRef .tc main_arg3)
abbrev R4 : IVec S41 32 := V (Proc.devRef .tc main_arg4)
abbrev R5 : IVec S1 32 := V (Proc.devRef .tc main_arg5)

theorem h_at (r : Fin 41984) (k : Fin 1024) : res_main_v12 V (ix2 r k) = normed (R0 V) (R1 V) r k := by
  pointwise [res_main_v12, normed]

/-- Expert `e`'s first weights. -/
theorem w_at (w : FVec Ideal S8x1024x7168 .f32) (e : Fin 8) (hs) (hc) (k : Fin 1024) (q : Fin 7168) :
    shapeCast S1024x7168 (extractStridedSlice S1x1024x7168 ![e.val, 0, 0] w hs) hc (ix2 k q) = w (ix3 e k q) := by
  pointwise

/-- Expert `e`'s second weights. -/
theorem w'_at (w : FVec Ideal S8x3584x1024 .f32) (e : Fin 8) (hs) (hc) (f : Fin 3584) (d : Fin 1024) :
    shapeCast S3584x1024 (extractStridedSlice S1x3584x1024 ![e.val, 0, 0] w hs) hc (ix2 f d) = w (ix3 e f d) := by
  pointwise

/-- The first product. -/
def prod1 (h : FVec Ideal S41984x1024 .f32) (w : FVec Ideal S1024x7168 .f32) : FVec Ideal S41984x7168 .f32 :=
  Host.dotGeneral dot_S41984x1024_S1024x7168_S41984x7168_1_0_0_1_n_n none h w

theorem prod1_at (h : FVec Ideal S41984x1024 .f32) (w : FVec Ideal S1024x7168 .f32) (r : Fin 41984) (q : Fin 7168) :
    prod1 h w (ix2 r q) = ∑ k : Fin 1024, h (ix2 r k) * w (ix2 k q) := by
  pointwise [prod1]

/-- The hidden columns. -/
def hidden (p : FVec Ideal S41984x7168 .f32) : FVec Ideal S41984x3584 .f32 :=
  mulf (mulf (extractStridedSlice S41984x3584 ![0, 0] p slices_S41984x7168_S41984x3584_0_0) (Host.divf (broadcastInDim S41984x3584 ![] bcast_S_S41984x3584 (constant S_ .f32 0x3F800000#32)) (addf (broadcastInDim S41984x3584 ![] bcast_S_S41984x3584 (constant S_ .f32 0x3F800000#32)) (Host.exp (Host.negf (extractStridedSlice S41984x3584 ![0, 0] p slices_S41984x7168_S41984x3584_0_0)))))) (extractStridedSlice S41984x3584 ![0, 3584] p slices_S41984x7168_S41984x3584_0_3584)

theorem hidden_at (p : FVec Ideal S41984x7168 .f32) (r : Fin 41984) (f : Fin 3584) :
    hidden p (ix2 r f) = p (ix2 r (lo f)) * Ideal.logistic (p (ix2 r (lo f))) * p (ix2 r (hi f)) := by
  pointwise [hidden, Ideal.logistic, lo, hi]

/-- The second product. -/
def prod2 (h : FVec Ideal S41984x3584 .f32) (w : FVec Ideal S3584x1024 .f32) : FVec Ideal S41984x1024 .f32 :=
  Host.dotGeneral dot_S41984x3584_S3584x1024_S41984x1024_1_0_0_1_n_n none h w

theorem prod2_at (h : FVec Ideal S41984x3584 .f32) (w : FVec Ideal S3584x1024 .f32) (r : Fin 41984) (q : Fin 1024) :
    prod2 h w (ix2 r q) = ∑ k : Fin 3584, h (ix2 r k) * w (ix2 k q) := by
  pointwise [prod2]

/-- Column `e` of the choices, times an array. -/
def chosen (o : FVec Ideal S41984x8 .f32) (e : Fin 8) (hs : S41984x8.Slices ![0, e.val] S41984x1) (z : FVec Ideal S41984x1024 .f32) : FVec Ideal S41984x1024 .f32 :=
  mulf (broadcastInDim S41984x1024 ![0, 1] bcast_S41984x1_S41984x1024_0_1 (extractStridedSlice S41984x1 ![0, e.val] o hs)) z

theorem chosen_at (o : FVec Ideal S41984x8 .f32) (e : Fin 8) (hs : S41984x8.Slices ![0, e.val] S41984x1) (z : FVec Ideal S41984x1024 .f32) (r : Fin 41984) (d : Fin 1024) :
    chosen o e hs z (ix2 r d) = o (ix2 r e) * z (ix2 r d) := by
  pointwise [chosen]

theorem msb_small (n : ℕ) (hn : n < 41984) : (BitVec.ofNat 32 n).msb = false := by
  rw [BitVec.msb_eq_false_iff_two_mul_lt, BitVec.toNat_ofNat]
  omega

theorem not_corner (n : ℕ) : ¬ IntOp.SDivCorner (BitVec.ofNat 32 n) 1024#32 := by
  rintro (h | ⟨_, h⟩)
  · exact absurd h (by decide)
  · exact absurd h (by decide)

theorem div_word (n : ℕ) (hn : n < 41984) : IntOp.divsi .host (BitVec.ofNat 32 n) 1024#32 = BitVec.ofNat 32 (n / 1024) := by
  unfold IntOp.divsi
  rw [if_neg (not_corner n), BitVec.sdiv_eq, msb_small n hn, show (1024#32).msb = false from rfl]
  refine BitVec.eq_of_toNat_eq ?_
  show (BitVec.ofNat 32 n / 1024#32).toNat = _
  rw [BitVec.toNat_udiv, BitVec.toNat_ofNat, BitVec.toNat_ofNat, BitVec.toNat_ofNat, Nat.mod_eq_of_lt (show n < 2 ^ 32 by omega), show 1024 % 2 ^ 32 = 1024 from rfl]
  omega

theorem rem_word (n : ℕ) (hn : n < 41984) : IntOp.remsi .host (BitVec.ofNat 32 n) 1024#32 = BitVec.ofNat 32 (n % 1024) := by
  unfold IntOp.remsi
  rw [if_neg (not_corner n), BitVec.srem_eq, msb_small n hn, show (1024#32).msb = false from rfl]
  refine BitVec.eq_of_toNat_eq ?_
  show (BitVec.ofNat 32 n % 1024#32).toNat = _
  rw [BitVec.toNat_umod, BitVec.toNat_ofNat, BitVec.toNat_ofNat, BitVec.toNat_ofNat, Nat.mod_eq_of_lt (show n < 2 ^ 32 by omega), show 1024 % 2 ^ 32 = 1024 from rfl]
  omega

/-- Rounding down agrees with the division of words where nothing is negative. -/
theorem floor_word (n : ℕ) (hn : n < 41984) :
    Scalar.select
      (IntOp.andi (IntOp.cmpi .ne (if BitVec.ofNat 32 n = 0 then (0 : BitVec 32) else if (BitVec.ofNat 32 n).msb = true then -1 else 1) 1#32)
        (IntOp.cmpi .ne (IntOp.remsi .host (BitVec.ofNat 32 n) 1024#32) 0#32))
      (IntOp.subi (IntOp.divsi .host (BitVec.ofNat 32 n) 1024#32) 1#32)
      (IntOp.divsi .host (BitVec.ofNat 32 n) 1024#32) = BitVec.ofNat 32 (n / 1024) := by
  rw [div_word n hn, rem_word n hn, msb_small n hn]
  by_cases h0 : n = 0
  · subst h0; decide
  · have hz : BitVec.ofNat 32 n ≠ 0 := fun h => by
      have := congrArg BitVec.toNat h
      rw [BitVec.toNat_ofNat, show (0 : BitVec 32).toNat = 0 from rfl] at this
      omega
    rw [if_neg hz, if_neg Bool.false_ne_true, show IntOp.cmpi .ne (1 : BitVec 32) 1#32 = 0#1 from rfl]
    generalize IntOp.cmpi .ne (BitVec.ofNat 32 (n % 1024)) 0#32 = b
    have hb : IntOp.andi 0#1 b = 0#1 := by revert b; decide
    rw [hb]
    rfl

theorem v14_at (r : Fin 41984) : res_main_v14 V (ix1 r) = BitVec.ofNat 32 (blockOf r).val := by
  pointwise [res_main_v14, res_main_call0_v2, res_main_call0_v0, res_main_v13]
  exact floor_word r.val r.isLt

/-- The index the choice of expert looks up. -/
def looked : IVec S41984x1 32 :=
  broadcastInDim S41984x1 ![0] bcast_S41984_S41984x1_0 (select (cmpi .slt (res_main_v14 V) (broadcastInDim S41984 ![] bcast_S_S41984 (constantI S_ 32 0#32))) (addi (res_main_v14 V) (broadcastInDim S41984 ![] bcast_S_S41984 (constantI S_ 32 41#32))) (res_main_v14 V))

theorem looked_at (r : Fin 41984) : looked V (ix2 r 0) = BitVec.ofNat 32 (blockOf r).val := by
  pointwise [looked]
  rw [v14_at]
  have h : ¬ (BitVec.ofNat 32 (blockOf r).val).slt 0#32 = true := by
    rw [FfnIdeal.Gen.slt_iff _ (blockOf r).isLt, show (0#32).toInt = 0 from rfl]
    omega
  show (if BitVec.ofBool ((BitVec.ofNat 32 (blockOf r).val).slt 0#32) = 1#1 then _ else _) = _
  rw [Bool.eq_false_iff.mpr h]
  rfl

/-- The expert looked up. -/
def found : IVec S41984 32 := Host.gather gather_S41_S41984x1_S41984_n_0_n_n_0_1_1 (R4 V) (looked V)

theorem found_at (r : Fin 41984) : found V (ix1 r) = R4 V (ix1 (blockOf r)) :=
  Routing.gather_take1 gather_S41_S41984x1_S41984_n_0_n_n_0_1_1 rfl rfl rfl rfl (R4 V) (looked V) r (blockOf r) (looked_at V r) (by norm_num)

/-- The word row `r` is compared with: its expert, or minus one beyond the blocks in use. -/
def word (r : Fin 41984) : BitVec 32 :=
  if ((blockOf r).val : ℤ) < (R5 V (ix1 0)).toInt then R4 V (ix1 (blockOf r)) else 4294967295#32

theorem v26_at (r : Fin 41984) (e : Fin 8) : res_main_v26 V (ix2 r e)
    = (if word V r = BitVec.ofNat 32 e.val then 1 else 0 : EReal) := by
  pointwise [res_main_v26]
  show FloatOps.uitofp FTy.f32 (IntOp.cmpi CmpIPredicate.eq
        (Scalar.select (IntOp.cmpi CmpIPredicate.slt (res_main_v14 V (ix1 r)) (R5 V (ix1 0))) (found V (ix1 r)) 4294967295#32)
        (BitVec.ofNat 32 e.val)) = _
  have h : Scalar.select (IntOp.cmpi CmpIPredicate.slt (res_main_v14 V (ix1 r)) (R5 V (ix1 0))) (found V (ix1 r)) 4294967295#32 = word V r := by
    rw [v14_at, found_at]
    unfold word
    have hs := FfnIdeal.Gen.slt_iff _ (blockOf r).isLt (R5 V (ix1 0))
    by_cases hc : ((blockOf r).val : ℤ) < (R5 V (ix1 0)).toInt
    · rw [if_pos hc]
      show (if BitVec.ofBool ((BitVec.ofNat 32 (blockOf r).val).slt (R5 V (ix1 0))) = 1#1 then _ else _) = _
      rw [hs.mpr hc]
      rfl
    · rw [if_neg hc]
      show (if BitVec.ofBool ((BitVec.ofNat 32 (blockOf r).val).slt (R5 V (ix1 0))) = 1#1 then _ else _) = _
      rw [Bool.eq_false_iff.mpr fun h => hc (hs.mp h)]
      rfl
  rw [h]
  by_cases he : word V r = BitVec.ofNat 32 e.val
  · rw [if_pos he, he]
    show FloatOps.uitofp FTy.f32 (BitVec.ofBool (BitVec.ofNat 32 e.val == BitVec.ofNat 32 e.val)) = _
    rw [beq_self_eq_true]
    simp [FloatOps.uitofp]
  · rw [if_neg he]
    show FloatOps.uitofp FTy.f32 (BitVec.ofBool (word V r == BitVec.ofNat 32 e.val)) = _
    rw [beq_false_of_ne he]
    simp [FloatOps.uitofp]

/-- One expert's summand. -/
def term (V : Valuation τ sig (Elt Ideal)) (e : Fin 8) (hs : S41984x8.Slices ![0, e.val] S41984x1) (hw : S8x1024x7168.Slices ![e.val, 0, 0] S1x1024x7168) (hc : S1x1024x7168.ShapeCasts S1024x7168)
    (hw' : S8x3584x1024.Slices ![e.val, 0, 0] S1x3584x1024) (hc' : S1x3584x1024.ShapeCasts S3584x1024) : FVec Ideal S41984x1024 .f32 :=
  chosen (res_main_v26 V) e hs (prod2 (hidden (prod1 (res_main_v12 V)
      (shapeCast S1024x7168 (extractStridedSlice S1x1024x7168 ![e.val, 0, 0] (R2 V) hw) hc)))
    (shapeCast S3584x1024 (extractStridedSlice S1x3584x1024 ![e.val, 0, 0] (R3 V) hw') hc'))

theorem term_at (e : Fin 8) (hs : S41984x8.Slices ![0, e.val] S41984x1) (hw : S8x1024x7168.Slices ![e.val, 0, 0] S1x1024x7168) (hc : S1x1024x7168.ShapeCasts S1024x7168)
    (hw' : S8x3584x1024.Slices ![e.val, 0, 0] S1x3584x1024) (hc' : S1x3584x1024.ShapeCasts S3584x1024) (r : Fin 41984) (d : Fin 1024) : term V e hs hw hc hw' hc' (ix2 r d)
    = (if word V r = BitVec.ofNat 32 e.val then 1 else 0 : EReal) * expert (R0 V) (R1 V) (R2 V) (R3 V) e r d := by
  unfold term
  rw [chosen_at, v26_at, prod2_at]
  unfold expert hid up
  simp only [hidden_at, prod1_at, h_at, w_at, w'_at]

/-- Of eight summands times their choice, the chosen one. -/
theorem one_hot (w : BitVec 32) (x : Fin 8 → EReal) :
    0 + (if w = BitVec.ofNat 32 (0 : Fin 8).val then 1 else 0) * x 0 + (if w = BitVec.ofNat 32 (1 : Fin 8).val then 1 else 0) * x 1
      + (if w = BitVec.ofNat 32 (2 : Fin 8).val then 1 else 0) * x 2 + (if w = BitVec.ofNat 32 (3 : Fin 8).val then 1 else 0) * x 3
      + (if w = BitVec.ofNat 32 (4 : Fin 8).val then 1 else 0) * x 4 + (if w = BitVec.ofNat 32 (5 : Fin 8).val then 1 else 0) * x 5
      + (if w = BitVec.ofNat 32 (6 : Fin 8).val then 1 else 0) * x 6 + (if w = BitVec.ofNat 32 (7 : Fin 8).val then 1 else 0) * x 7
      = if w.toNat < 8 then x (Fin.ofNat 8 w.toNat) else 0 := by
  by_cases h : w.toNat < 8
  · rw [if_pos h]
    obtain ⟨k, rfl⟩ : ∃ k : Fin 8, w = BitVec.ofNat 32 k.val := ⟨⟨w.toNat, h⟩, by simp⟩
    fin_cases k <;> simp <;> rfl
  · rw [if_neg h]
    have hne : ∀ k : Fin 8, w ≠ BitVec.ofNat 32 k.val := fun k hk => h (by
      rw [hk, BitVec.toNat_ofNat]
      have := k.isLt
      omega)
    simp only [if_neg (hne _), zero_mul, add_zero]

/-- The reference's result. -/
def refOut : FVec Ideal S41984x1024 .f32 :=
  (addf (addf (addf (addf (addf (addf (addf (addf (broadcastInDim S41984x1024 ![] bcast_S_S41984x1024 (constant S_ .f32 0x00000000#32))
    (term V 0 slices_S41984x8_S41984x1_0_0 slices_S8x1024x7168_S1x1024x7168_0_0_0 shapeCasts_S1x1024x7168_S1024x7168 slices_S8x3584x1024_S1x3584x1024_0_0_0 shapeCasts_S1x3584x1024_S3584x1024))
    (term V 1 slices_S41984x8_S41984x1_0_1 slices_S8x1024x7168_S1x1024x7168_1_0_0 shapeCasts_S1x1024x7168_S1024x7168 slices_S8x3584x1024_S1x3584x1024_1_0_0 shapeCasts_S1x3584x1024_S3584x1024))
    (term V 2 slices_S41984x8_S41984x1_0_2 slices_S8x1024x7168_S1x1024x7168_2_0_0 shapeCasts_S1x1024x7168_S1024x7168 slices_S8x3584x1024_S1x3584x1024_2_0_0 shapeCasts_S1x3584x1024_S3584x1024))
    (term V 3 slices_S41984x8_S41984x1_0_3 slices_S8x1024x7168_S1x1024x7168_3_0_0 shapeCasts_S1x1024x7168_S1024x7168 slices_S8x3584x1024_S1x3584x1024_3_0_0 shapeCasts_S1x3584x1024_S3584x1024))
    (term V 4 slices_S41984x8_S41984x1_0_4 slices_S8x1024x7168_S1x1024x7168_4_0_0 shapeCasts_S1x1024x7168_S1024x7168 slices_S8x3584x1024_S1x3584x1024_4_0_0 shapeCasts_S1x3584x1024_S3584x1024))
    (term V 5 slices_S41984x8_S41984x1_0_5 slices_S8x1024x7168_S1x1024x7168_5_0_0 shapeCasts_S1x1024x7168_S1024x7168 slices_S8x3584x1024_S1x3584x1024_5_0_0 shapeCasts_S1x3584x1024_S3584x1024))
    (term V 6 slices_S41984x8_S41984x1_0_6 slices_S8x1024x7168_S1x1024x7168_6_0_0 shapeCasts_S1x1024x7168_S1024x7168 slices_S8x3584x1024_S1x3584x1024_6_0_0 shapeCasts_S1x3584x1024_S3584x1024))
    (term V 7 slices_S41984x8_S41984x1_0_7 slices_S8x1024x7168_S1x1024x7168_7_0_0 shapeCasts_S1x1024x7168_S1024x7168 slices_S8x3584x1024_S1x3584x1024_7_0_0 shapeCasts_S1x3584x1024_S3584x1024))

theorem refOut_at (hte : ∀ a : Fin 41, (R4 V (ix1 a)).toNat < 8) (r : Fin 41984) (d : Fin 1024) :
    refOut V (ix2 r d) = ffn (R0 V) (R1 V) (R2 V) (R3 V) (R4 V) (R5 V) r d := by
  refine Eq.trans ?_ ((one_hot (word V r) fun e => expert (R0 V) (R1 V) (R2 V) (R3 V) e r d).trans ?_)
  · pointwise [refOut]
    simp only [term_at]
    rfl
  · unfold word ffn
    by_cases h : ((blockOf r).val : ℤ) < (R5 V (ix1 0)).toInt
    · rw [if_pos h, if_pos h, if_pos (hte _)]
    · rw [if_neg h, if_neg h, if_neg (by decide)]

end Cert.FfnProof
-- ==== Proof.FfnPair.lean ====
/- The feed-forward's claims. -/
module

public import proofs.«01_k».proof.Defs
public import proofs.«01_k».proof.Proof.FfnRef
public import proofs.«01_k».proof.Proof.FfnBitsFrame
public import proofs.«01_k».proof.Proof.Gen.Pre_experts_named
public import Idealize.ShloMosaic.Lib.Pipeline.ValueKit
public import Idealize.ShloMosaic.Lib.Claim

@[expose] public section

set_option maxRecDepth 16384

noncomputable section

namespace Cert.FfnProof

open Idealize.ShloMosaic Idealize.ShloMosaic.TcCoe Idealize.SL.Sem

section

open Cert.FfnIdeal Cert.FfnIdeal.Gen

theorem named (m : (ℓ : Loc nD τ sig) → Buf (Elt Ideal) ℓ) (h : Cert.Pre_FfnIdeal m) : (∀ a, (teOf (tbl m) a).toNat < 8) ∧ 1 ≤ (nuOf (tbl m)).toInt :=
  of_named _ _ _ _ _ _ (h 0)

theorem ok (m : (ℓ : Loc nD τ sig) → Buf (Elt Ideal) ℓ) (h : Cert.Pre_FfnIdeal m) : Ok m := ok_of (tbl m) (named m h).1 (named m h).2

end

theorem okBits (m : (ℓ : Loc Cert.Ffn.nD Cert.Ffn.τ Cert.Ffn.sig) → Buf (Elt Bits) ℓ) (h : Cert.Pre_Ffn m) : Cert.Ffn.Gen.Ok m :=
  have n := Cert.FfnIdeal.Gen.of_named _ _ _ _ _ _ (h 0)
  Cert.FfnIdeal.Gen.ok_of (F := Bits) (Cert.Ffn.Gen.tbl m) n.1 n.2

theorem quiescent : Cert.quiescent_Ffn := fun m g h => Cert.Ffn.Gen.frame m g (okBits m h)

theorem quiescentIdeal : Cert.quiescent_FfnIdeal := fun m g h => Cert.FfnIdeal.Gen.frame m g (ok m h)

theorem quiescentRef : Cert.quiescent_FfnRefIdeal := fun m g _ =>
  (θ_run Cert.FfnRefIdeal.defs _ _).mono
    (fun r h => ⟨fun c => (h c).2, sem_eq_zero_of_no_sems (by decide) r.2⟩)
    (Cert.FfnRefIdeal.Value.run (F := Ideal) m g)

theorem quiescentRefNamed : Cert.quiescent_FfnRefIdeal_pre_experts_named := fun m g _ => quiescentRef m g trivial

theorem preserves : Cert.preserves_Ffn_FfnIdeal := by
  trivial

theorem algebraic : Cert.algebraic_FfnIdeal_FfnRefIdeal := by
  intro m g m' g' hpre hargs
  have hO := ok m hpre
  have hte := (named m hpre).1
  refine ⟨fun c => fun y : Cert.FfnIdeal.S41984x1024.Idx => ffn (X0 m c) (X1 m c) (X2 m c) (X3 m c) (X4 m c) (X5 m c) (y 0) (y 1), ?_, ?_⟩
  · exact (θ_run Cert.FfnIdeal.defs _ _).mono
      (fun r h c => ⟨((h.1 c).1 5).trans (final m hO c hte), Cert.FfnIdeal.Gen.args_of_post m hO h.1 c⟩)
      (Cert.FfnIdeal.Gen.run_main m g hO)
  · refine (θ_run Cert.FfnRefIdeal.defs _ _).mono (fun r h c => ⟨(h c).1.trans ?_, (h c).2⟩) (Cert.FfnRefIdeal.Value.run (F := Ideal) m' g')
    obtain ⟨a0, a1, a2, a3, a4, a5⟩ := hargs c
    have key := refOut_at (StableHlo.launchContents m' c) (fun a => by
      show (m' ((c.tc : Thread Cert.FfnRefIdeal.nD Cert.FfnRefIdeal.τ).loc Cert.FfnRefIdeal.main_arg4) (ix1 a)).toNat < 8
      rw [a4]
      exact (congrArg (fun w : BitVec 32 => w.toNat < 8) (tbl_te m c a)).mp (hte a))
    refine funext fun y : Cert.FfnRefIdeal.S41984x1024.Idx => ?_
    have hy : y = ix2 (y 0) (y 1) := funext fun a : Fin 2 => by fin_cases a <;> rfl
    refine (congrArg (refOut (StableHlo.launchContents m' c)) hy).trans ((key (y 0) (y 1)).trans ?_)
    show ffn (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1))
      (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3))
      (m' ((c.tc : Thread Cert.FfnRefIdeal.nD Cert.FfnRefIdeal.τ).loc Cert.FfnRefIdeal.main_arg4)) (m' ((c.tc : Thread Cert.FfnRefIdeal.nD Cert.FfnRefIdeal.τ).loc Cert.FfnRefIdeal.main_arg5)) (y 0) (y 1) = _
    rw [a0, a1, a2, a3, a4, a5]

end Cert.FfnProof
-- ==== Proof.DenseKit.lean ====
/- The dense feed-forward's kernel: the host side of its launch, its tables, its blocks and its branch conditions. -/
module

public import proofs.«01_k».proof.Proof.Gen.DenseIdeal.Launch
public import proofs.«01_k».proof.Proof.Gen.DenseIdeal.Skeleton
public import proofs.«01_k».proof.Proof.Gen.DenseIdeal
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DenseIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem flush0_5 (a : (pcfg0 (F := F)).Adm) : ∀ t : Fin (cfg0 a).N, ((cfg0 a).win 5).flush t = true ↔ t.val % 7 = 6 :=
  (fun t => Pipeline.Window.flushOf_reads cc0_transform_5 reads0_5 hreads0_5 0 (by decide) (by decide) (Pipeline.Window.sep_of_coord cc0_transform_5 0 0 (fun _ => rfl) (by decide)) (P := 7) (m := 6) (by decide) rfl t : ∀ t : Fin grid0.N, Pipeline.Window.flushOf grid0 true cc0_transform_5 t = true ↔ t.val % 7 = 6)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

abbrev bodyAt0 (a : (pcfg0 (F := F)).Adm) (t : Fin (cfg0 a).N) : Prog (TpuEff nD τ sig (Elt F) Λ₀ .tc) PUnit :=
  cc0_swiglu_ffn (grid0.coords t) (Memref.whole main_v0) (Memref.isWhole_whole _) (Memref.whole main_v1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operations before the region write five buffers of their own: every other is found as launched. -/
theorem V_of_ne (c : Dev nD) (b : Ref sig .tc) (h0 : b ≠ main_c) (h1 : b ≠ main_v0) (h2 : b ≠ main_c_0) (h3 : b ≠ main_v1) (h4 : b ≠ main_v2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, StableHlo.nullary_writes, StableHlo.unary_writes, Finset.mem_singleton]
    exact ⟨StableHlo.devRef_ne_of_ne h0, StableHlo.devRef_ne_of_ne h1, StableHlo.devRef_ne_of_ne h2, StableHlo.devRef_ne_of_ne h3, StableHlo.devRef_ne_of_ne h4⟩))

/-- The tables' contents when the region is entered. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The two tables as the body is handed them. -/
abbrev tbM0_0 : Memref sig .tc .smem S16 .i32 := Memref.whole main_v0
abbrev htbM0_0 : tbM0_0.IsWhole := Memref.isWhole_whole _
abbrev tbM0_1 : Memref sig .tc .smem S1 .i32 := Memref.whole main_v1
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, of its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) (v0 : BitVec 32) : Prop := k0_cond1 i v0 = 1#1

abbrev cond0_1 (i : grid0.Coords) : Prop := (Scalar.cmpi .ne (Scalar.extui (Scalar.cmpi .eq (BitVec.ofNat 32 (i 1).val) 0#32)) 0#32) = 1#1
theorem hcond0_1 : ∀ t : Fin grid0.N, cond0_1 (grid0.coords t) ↔ t.val % 7 = 0 :=
  (fun t => by
    have ht : t.val < 112 := Nat.lt_of_lt_of_eq t.isLt N_0
    have e0 : (grid0.coords t 0).val = t.val / 7 % 16 := Pipeline.Grid.coords_val t 0 (by decide) rfl
    have e1 : (grid0.coords t 1).val = t.val / 1 % 7 := Pipeline.Grid.coords_val t 1 (by decide) rfl
    simp only [cond0_1, e0, e1]
    word_cmp
   : ∀ t : Fin grid0.N, cond0_1 (grid0.coords t) ↔ t.val % 7 = 0)

abbrev cond0_2 (i : grid0.Coords) : Prop := k0_cond3 i = 1#1
theorem hcond0_2 : ∀ t : Fin grid0.N, cond0_2 (grid0.coords t) ↔ t.val % 7 = 6 :=
  (fun t => by
    have ht : t.val < 112 := Nat.lt_of_lt_of_eq t.isLt N_0
    have e0 : (grid0.coords t 0).val = t.val / 7 % 16 := Pipeline.Grid.coords_val t 0 (by decide) rfl
    have e1 : (grid0.coords t 1).val = t.val / 1 % 7 := Pipeline.Grid.coords_val t 1 (by decide) rfl
    simp only [cond0_2, k0_cond3, e0, e1]
    word_cmp
   : ∀ t : Fin grid0.N, cond0_2 (grid0.coords t) ↔ t.val % 7 = 6)

abbrev cond0_3 (i : grid0.Coords) (v4 : BitVec 32) : Prop := k0_cond4 i v4 = 1#1

theorem liveAt0_0 (hO : Ok m) : ∀ t : Fin (cfgM m hO).N, (cfgM m hO).idle 0 (grid0.coords t) = false :=
  fun _ => rfl
theorem liveAt0_1 (hO : Ok m) : ∀ t : Fin (cfgM m hO).N, (cfgM m hO).idle 1 (grid0.coords t) = false :=
  fun _ => rfl
theorem liveAt0_2 (hO : Ok m) : ∀ t : Fin (cfgM m hO).N, (cfgM m hO).idle 2 (grid0.coords t) = false :=
  fun _ => rfl
theorem liveAt0_3 (hO : Ok m) : ∀ t : Fin (cfgM m hO).N, (cfgM m hO).idle 3 (grid0.coords t) = false :=
  fun _ => rfl
theorem liveAt0_4 (hO : Ok m) : ∀ t : Fin (cfgM m hO).N, (cfgM m hO).idle 4 (grid0.coords t) = false :=
  fun _ => rfl

abbrev ms0_0 (hO : Ok m) (t : Fin (cfgM m hO).N) : Memref sig .tc .vmem S1024x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x512 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x512x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1024x1024 .f32 := spec0_5.stage ((cfgM m hO).slots t 5)
abbrev hs0_5 (hO : Ok m) (t : Fin (cfgM m hO).N) : (ms0_5 m hO t).IsWhole := hstage0_5 (((cfgM m hO).slots t 5).cast nbuf0_5)

abbrev scM0_0 : Memref sig .tc .vmem S1024x1024 .bf16 := Memref.whole cc0_scratch0
abbrev scM0_1 : Memref sig .tc .vmem S1024x1024 .f32 := Memref.whole cc0_scratch1
abbrev VS0_0 : View sig .tc .vmem S1024x1024 .bf16 := scM0_0.view
abbrev VS0_1 : View sig .tc .vmem S1024x1024 .f32 := scM0_1.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.DenseIdeal.Gen

end
-- ==== Proof.DenseRun.lean ====
/- The dense feed-forward's kernel: one run of its body, with what every buffer then holds. -/
module

public import proofs.«01_k».proof.Proof.DenseKit
public import Idealize.ShloMosaic.Lib.VecWindow

@[expose] public section

set_option maxRecDepth 16384

noncomputable section

namespace Cert.DenseIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The word the body reads of the second table: the number of row blocks in use. -/
abbrev wordAt {c : Dev nD} (xt1 : TbBuf0 (F := F) c tbM0_1) : BitVec 32 :=
  tbM0_1.view.readAt (Elt F) (Rect.unit (s := S1) ![0] S1.size inb_S1_S1_0).toLoadRect xt1 (Shape.Idx.first (numel1_S1.symm ▸ Nat.one_pos))

theorem pay1_congr {a a' : Vec F S1024x1024 .f32} {b b' : Vec F S1x1024 .f32} (ha : a = a') (hb : b = b') :
    k0_pay1 a b = k0_pay1 a' b' := by rw [ha, hb]

theorem pay3_congr {a a' : Vec F S1024x1024 .bf16} {b b' e e' : Vec F S1x1024x512 .f32} {f f' : Vec F S1024x1024 .f32} {g g' : Vec F S1x512x1024 .f32}
    (ha : a = a') (hb : b = b') (he : e = e') (hf : f = f') (hg : g = g') : k0_pay3 a b e f g = k0_pay3 a' b' e' f' g' := by
  rw [ha, hb, he, hf, hg]

theorem pay4_congr {a a' b b' : Vec F S1024x1024 .f32} (ha : a = a') (hb : b = b') :
    k0_pay4 a b = k0_pay4 a' b' := by rw [ha, hb]

/-- A load of a whole buffer held at `X` reads `X`. -/
theorem load_unread {S : Shape} {e : EltTy} {M : Memref sig .tc .vmem S e} (h : M.IsWhole) (X : S.Idx → Elt F e) {off : Fin S.rank → ℕ}
    (inb : ∀ a, off a + S.size a ≤ S.size a) : M.view.readAt (Elt F) (Rect.unit off S.size inb).toLoadRect (h.unread X) = X :=
  (View.readAt_full _ _ _).trans (h.read_unread X)

set_option maxHeartbeats 1000000 in
/-- The body, from buffers at any contents: what each holds afterwards, by the first and the last column step. -/
theorem run (c : Dev nD) (i : grid0.Coords) (arg4 : Memref sig .tc .vmem S1024x1024 .f32) (harg4 : arg4.IsWhole) (arg5 : Memref sig .tc .vmem S1x1024 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .f32) (harg11 : arg11.IsWhole)
    (x0 : Vec F S1024x1024 .f32) (x1 : Vec F S1x1024 .f32) (x2 : Vec F S1x1024x512 .f32) (x3 : Vec F S1x1024x512 .f32) (x4 : Vec F S1x512x1024 .f32) (d : Vec F S1024x1024 .f32) (s0 : Vec F S1024x1024 .bf16) (s1 : Vec F S1024x1024 .f32)
    (xt0 : TbBuf0 (F := F) c tbM0_0) (xt1 : TbBuf0 (F := F) c tbM0_1)
    (n0 : Vec F S1024x1024 .bf16) (n1 o : Vec F S1024x1024 .f32)
    (hc0 : cond0_0 i (wordAt xt1)) (hc3 : ¬cond0_3 i (wordAt xt1))
    (h0 : n0 = if cond0_1 i then k0_pay1 x0 x1 else s0)
    (h1 : n1 = k0_pay3 n0 x2 x3 (if cond0_1 i then k0_pay2 else s1) x4)
    (ho : o = if cond0_2 i then k0_pay4 x0 n1 else d)
    (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare d ∗ owns (c : Thread nD τ) arg10 fullShare s0 ∗ owns (c : Thread nD τ) arg11 fullShare s1 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare o ∗ owns (c : Thread nD τ) arg10 fullShare n0 ∗ owns (c : Thread nD τ) arg11 fullShare n1 ∗ tbPt0 c tbM0_0 xt0 ∗ tbPt0 c tbM0_1 xt1) -∗ K ⟨⟩))
          ⊢ wp frame (wpE (defs₀ (F := F)) Variants.none c none) E (cc0_swiglu_ffn i tbM0_0 htbM0_0 tbM0_1 htbM0_1 arg4 harg4 arg5 harg5 arg6 harg6 arg7 harg7 arg8 harg8 arg9 harg9 arg10 harg10 arg11 harg11) K := by
  by_cases hc1 : cond0_1 i <;> by_cases hc2 : cond0_2 i
  all_goals
    first | rw [if_pos hc1] at h0 h1 | rw [if_neg hc1] at h0 h1
    first | rw [if_pos hc2] at ho | rw [if_neg hc2] at ho
    subst ho; subst h1; subst h0
    simp only [cc0_swiglu_ffn_eq_skeleton]; unfold cc0_swiglu_ffn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, HT0, HT1, Hk⟩
    obtain rfl := harg4.eq_unread hf0; obtain rfl := harg5.eq_unread hf1; obtain rfl := harg6.eq_unread hf2; obtain rfl := harg7.eq_unread hf3; obtain rfl := harg8.eq_unread hf4
    obtain rfl := harg9.eq_unread hf5; obtain rfl := harg10.eq_unread hs0; obtain rfl := harg11.eq_unread hs1
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    on_goal 1 => iexists _; isplitr; swap; iexact H5; ipureintro
    on_goal 2 =>
      isplitl [HS0]
      on_goal 1 => iexists _; isplitr; swap; iexact HS0; ipureintro
      on_goal 2 =>
        isplitl [HS1]
        on_goal 1 => iexists _; isplitr; swap; iexact HS1; ipureintro
        on_goal 2 => isplitl [HT0]; iexact HT0; iexact HT1
    all_goals
      first
        | with_reducible exact harg9.read_unread _
        | with_reducible exact harg10.read_unread _
        | with_reducible exact harg11.read_unread _
        | refine (View.read_writes_full _ _ _ _ _).trans ?_
    all_goals try with_reducible refine pay4_congr (load_unread _ _ _) ?_
    all_goals try refine (View.readCov_full _ _ _ _ _).trans ?_
    all_goals
      first
        | with_reducible rfl
        | refine pay3_congr ?_ (load_unread _ _ _) (load_unread _ _ _) ?_ (load_unread _ _ _)
        | refine pay1_congr (load_unread _ _ _) (load_unread _ _ _)
    all_goals
      first
        | with_reducible exact load_unread _ _ _
        | refine (View.readCov_full _ _ _ _ _).trans ?_
    all_goals
      first
        | with_reducible rfl
        | refine pay1_congr (load_unread _ _ _) (load_unread _ _ _)

end Cert.DenseIdeal.Gen

end
-- ==== Proof.DenseTables.lean ====
/- The dense feed-forward's tables: both are constants, so every row block is in use and has the one expert. -/
module

public import proofs.«01_k».proof.Proof.DenseRun
public import Idealize.ShloMosaic.Lib.StableHlo.RunRead
public import Idealize.ShloMosaic.Lib.Pointwise

@[expose] public section

set_option maxRecDepth 16384

noncomputable section

namespace Cert.DenseIdeal.Gen

open Idealize.ShloMosaic Idealize.ShloMosaic.TcCoe

variable {F : FTy → Type} [FloatOps F]

variable (m : (ℓ : Loc nD τ sig) → Buf (Elt F) ℓ)

/-- The first table holds zeros. -/
theorem V_te (c : Dev nD) (y : S16.Idx) : V m c main_v0 y = 0#32 := by
  have h := (StableHlo.after_last_write (ops := (hostOps0 : List (HloOp τ sig (Elt F)))) (i := 1) (r := main_v0) [main_c_0, main_v1, main_v2] rfl rfl (by decide) (fun b => m (c, b))).trans
    (StableHlo.unary_result main_c main_v0 _ _ _ _)
  refine (congrFun h y).trans ?_
  have h' := (StableHlo.upto_last_write (ops := (hostOps0 : List (HloOp τ sig (Elt F)))) (n := 1) (i := 0) (r := main_c) [] rfl rfl (by decide) (fun b => m (c, b))).trans
    (StableHlo.nullary_result main_c _ _ _)
  exact (congrArg (fun v : (⟨S_, .i32⟩ : BufTy).Contents (Elt F) => broadcastInDim S16 ![] bcast_S_S16 v y) h').trans rfl

/-- The second table holds the number of row blocks. -/
theorem V_nu (c : Dev nD) (y : S1.Idx) : V m c main_v1 y = 16#32 := by
  have h := (StableHlo.after_last_write (ops := (hostOps0 : List (HloOp τ sig (Elt F)))) (i := 3) (r := main_v1) [main_v2] rfl rfl (by decide) (fun b => m (c, b))).trans
    (StableHlo.unary_result main_c_0 main_v1 _ _ _ _)
  refine (congrFun h y).trans ?_
  have h' := (StableHlo.upto_last_write (ops := (hostOps0 : List (HloOp τ sig (Elt F)))) (n := 3) (i := 2) (r := main_c_0) [] rfl rfl (by decide) (fun b => m (c, b))).trans
    (StableHlo.nullary_result main_c_0 _ _ _)
  exact (congrArg (fun v : (⟨S_, .i32⟩ : BufTy).Contents (Elt F) => broadcastInDim S1 ![] bcast_S_S1 v y) h').trans rfl

/-- The norm's weight, as the launch finds it. -/
theorem V_g (c : Dev nD) (b : Fin 1024) : V m c main_v2 (ix2 0 b) = m ((c : Thread nD τ).loc main_arg1) (ix1 b) := by
  have h := (StableHlo.after_last_write (ops := (hostOps0 : List (HloOp τ sig (Elt F)))) (i := 4) (r := main_v2) [] rfl rfl (by decide) (fun b => m (c, b))).trans
    (StableHlo.reshape_result main_arg1 main_v2 (rfl : (.f32 : EltTy) = .f32) shapeCasts_S1024_S1x1024 (by decide) (by decide) _)
  have h' := StableHlo.upto_unwritten (ops := (hostOps0 : List (HloOp τ sig (Elt F)))) (n := 4) (r := main_arg1) [main_c, main_v0, main_c_0, main_v1] rfl (by decide) (fun b => m (c, b))
  refine (congrFun h (ix2 0 b)).trans ?_
  refine (congrArg (fun v : (⟨S1024, .f32⟩ : BufTy).Contents (Elt F) => shapeCast S1x1024 v shapeCasts_S1024_S1x1024 (ix2 0 b)) h').trans ?_
  show shapeCast S1x1024 (m ((c : Thread nD τ).loc main_arg1)) shapeCasts_S1024_S1x1024 (ix2 0 b) = _
  pointwise

/-- The word the body reads of the second table. -/
theorem nu_word (c : Dev nD) : wordAt (c := c) (tbl m 1) = 16#32 := by
  obtain rfl : c = 0 := Subsingleton.elim _ _
  exact V_nu m 0 _

end Cert.DenseIdeal.Gen

end
-- ==== Proof.DenseFrame.lean ====
/- The dense feed-forward's kernel: what it carries from point to point, and its launch. -/
module

public import proofs.«01_k».proof.Proof.DenseTables
public import proofs.«01_k».proof.Proof.FfnTables
public import Idealize.ShloMosaic.Lib.Pipeline.TableIdle

@[expose] public section

set_option maxRecDepth 16384

noncomputable section

namespace Cert.DenseIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.FfnIdeal.Gen (bit_ne cmpi_slt cmpi_sge andi_bit slt_iff)

/-- Every row block is in use. -/
theorem act_word (t : Fin grid0.N) : (BitVec.ofNat 32 (grid0.coords t 0).val).slt 16#32 = true := by
  have h : (grid0.coords t 0).val < 16 := (grid0.coords t 0).isLt
  rw [slt_iff _ (by omega), show (16#32).toInt = 16 from rfl]
  omega

theorem hcond0_0 (t : Fin grid0.N) : cond0_0 (grid0.coords t) 16#32 := by
  unfold cond0_0
  exact (bit_ne _).mpr ((cmpi_slt _ _).mpr (act_word t))

theorem hcond0_3 (t : Fin grid0.N) : ¬ cond0_3 (grid0.coords t) 16#32 := by
  unfold cond0_3 k0_cond4
  rw [bit_ne, andi_bit, cmpi_sge]
  exact fun h => h.1 (act_word t)

/-- The configuration reads the same word as the body. -/
theorem atD_nu : (tbl m).atD 1 ![0] = 16#32 :=
  (dif_pos (fun a : Fin 1 => by obtain rfl : a = (0 : Fin 1) := Subsingleton.elim _ _; decide)).trans (V_nu m 0 _)

theorem idle_iff (pf : pre0.Contents (Elt F)) (i : grid0.Coords) (w : BitVec 32) (hw : pf.atD 1 ![0] = w) :
    idle0 pf 5 i = true ↔ ¬ (cond0_0 i w ∧ cond0_2 i) ∧ ¬ cond0_3 i w := by
  subst hw
  exact Cert.FfnIdeal.Gen.bits_idle _ _ _

theorem idle_cfg (hO : Ok m) : (cfgM m hO).idle = idle0 (tbl m) := rfl

/-- Where the output window is idle: at all but the last column step. -/
theorem idle0_5 (hO : Ok m) (t : Fin (cfgM m hO).N) : (cfgM m hO).idle 5 (grid0.coords t) = true ↔ ¬ t.val % 7 = 6 := by
  rw [idle_cfg]
  have h := idle_iff (tbl m) (grid0.coords t) 16#32 (atD_nu m)
  rw [hcond0_2 t] at h
  exact h.trans ⟨fun h h6 => h.1 ⟨hcond0_0 t, h6⟩, fun h6 => ⟨fun h => h6 h.2, hcond0_3 t⟩⟩

/-- What the two carried buffers hold after point `n`: the normed rows, and the products summed so far. -/
def scr (hO : Ok m) (c : Dev nD) : (n : ℕ) → n < (cfgM m hO).N → Vec F S1024x1024 .bf16 × Vec F S1024x1024 .f32
  | 0, h => (k0_pay1 (iblk m hO c 0 ⟨0, h⟩) (iblk m hO c 1 ⟨0, h⟩),
      k0_pay3 (k0_pay1 (iblk m hO c 0 ⟨0, h⟩) (iblk m hO c 1 ⟨0, h⟩)) (iblk m hO c 2 ⟨0, h⟩) (iblk m hO c 3 ⟨0, h⟩) k0_pay2 (iblk m hO c 4 ⟨0, h⟩))
  | n + 1, h =>
    let p := if (n + 1) % 7 = 0 then (k0_pay1 (iblk m hO c 0 ⟨n + 1, h⟩) (iblk m hO c 1 ⟨n + 1, h⟩), k0_pay2) else scr hO c n (Nat.lt_of_succ_lt h)
    (p.1, k0_pay3 p.1 (iblk m hO c 2 ⟨n + 1, h⟩) (iblk m hO c 3 ⟨n + 1, h⟩) p.2 (iblk m hO c 4 ⟨n + 1, h⟩))

theorem scr_first (hO : Ok m) (c : Dev nD) (t : Fin (cfgM m hO).N) (h : t.val % 7 = 0) :
    scr m hO c t.val t.isLt = (k0_pay1 (iblk m hO c 0 t) (iblk m hO c 1 t),
      k0_pay3 (k0_pay1 (iblk m hO c 0 t) (iblk m hO c 1 t)) (iblk m hO c 2 t) (iblk m hO c 3 t) k0_pay2 (iblk m hO c 4 t)) := by
  obtain ⟨n, hn⟩ := t
  cases n with
  | zero => rfl
  | succ n => unfold scr; rw [if_pos h]

theorem scr_next (hO : Ok m) (c : Dev nD) (n : ℕ) (hn : n + 1 < (cfgM m hO).N) (h : ¬ (n + 1) % 7 = 0) :
    scr m hO c (n + 1) hn = ((scr m hO c n (Nat.lt_of_succ_lt hn)).1,
      k0_pay3 (scr m hO c n (Nat.lt_of_succ_lt hn)).1 (iblk m hO c 2 ⟨n + 1, hn⟩) (iblk m hO c 3 ⟨n + 1, hn⟩)
        (scr m hO c n (Nat.lt_of_succ_lt hn)).2 (iblk m hO c 4 ⟨n + 1, hn⟩)) := by
  conv_lhs => unfold scr
  rw [if_neg h]

/-- What is known of the carried buffers before point `n`. -/
def Kept (hO : Ok m) (c : Dev nD) (n : ℕ) (s0 : Vec F S1024x1024 .bf16) (s1 : Vec F S1024x1024 .f32) : Prop :=
  ∀ (k : ℕ) (hk : k < (cfgM m hO).N), n = k + 1 → s0 = (scr m hO c k hk).1 ∧ s1 = (scr m hO c k hk).2

/-- The invariant before point `n`. -/
def Phi (hO : Ok m) (c : Dev nD) (n : ℕ) : sProp 𝕄 :=
  iprop(iprop((∃ s0, ∃ s1, ⌜Kept m hO c n s0 s1⌝ ∗ owns (c : Thread nD τ) scM0_0 fullShare s0 ∗ owns (c : Thread nD τ) scM0_1 fullShare s1) ∗ (∃ r, prngReg c r)) ∗ Pipeline.ΦT pre0 (tbl m) c)

/-- The output's block after point `t`: the rows themselves added to the sum so far. -/
def outAt (hO : Ok m) (c : Dev nD) (t : Fin (cfgM m hO).N) : Vec F S1024x1024 .f32 :=
  k0_pay4 (iblk m hO c 0 t) (scr m hO c t.val t.isLt).2

/-- The proof data of the launch. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := Phi m hO c t.val
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-- What the body leaves in the output's buffer is what the launch wants of it. -/
theorem leaves0_5 (hO : Ok m) (c : Dev nD) (t : Fin (cfgM m hO).N) (d) (o : Vec F S1024x1024 .f32)
    (h1 : t.val % 7 = 6 → o = outAt m hO c t) (h2 : ¬ t.val % 7 = 6 → o = (dats m hO 0 c).before 5 t d) :
    owns (c : Thread nD τ) (ms0_5 m hO t) fullShare o ⊢ ((dats m hO 0 c).leavesExact 5 t : sProp 𝕄) := by
  have hfl := flush0_5 (adm m hO) t
  have hid := idle0_5 m hO t
  unfold Pipeline.Dat.leavesExact
  by_cases h6 : t.val % 7 = 6
  · rw [Bool.eq_false_iff.mpr fun h => hid.mp h h6]
    show _ ⊢ owns _ _ _ ((dats m hO 0 c).after 5 t)
    rw [after0_5, ← h1 h6]
    exact .rfl
  · rw [hid.mpr h6, Bool.eq_false_iff.mpr fun h => h6 (hfl.mp h)]
    obtain rfl := h2 h6
    show _ ⊢ iprop(∃ d, owns _ _ _ ((dats m hO 0 c).before 5 t d))
    iintro H
    iexists d
    iexact H

/-- The invariant goes from point to point. -/
theorem kept_succ (hO : Ok m) (c : Dev nD) (t : Fin (cfgM m hO).N) (s0 n0 : Vec F S1024x1024 .bf16) (s1 n1 : Vec F S1024x1024 .f32)
    (hk : Kept m hO c t.val s0 s1)
    (h0 : n0 = if t.val % 7 = 0 then k0_pay1 (iblk m hO c 0 t) (iblk m hO c 1 t) else s0)
    (h1 : n1 = k0_pay3 n0 (iblk m hO c 2 t) (iblk m hO c 3 t) (if t.val % 7 = 0 then k0_pay2 else s1) (iblk m hO c 4 t)) :
    Kept m hO c (t.val + 1) n0 n1 := by
  intro k hkN e
  obtain ⟨n, hn⟩ := t
  obtain rfl : n = k := by simpa using e
  subst h0
  by_cases hz : n % 7 = 0
  · rw [scr_first m hO c ⟨n, hn⟩ hz, h1, if_pos hz, if_pos hz]
    exact ⟨rfl, rfl⟩
  · cases n with
    | zero => exact absurd rfl hz
    | succ n =>
      obtain ⟨e0, e1⟩ := hk n (Nat.lt_of_succ_lt hn) rfl
      rw [scr_next m hO c n hn hz, h1, if_neg hz, if_neg hz, e0, e1]
      exact ⟨rfl, rfl⟩

/-- What the body is called with at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ (dats m hO 0 c).leavesExact 5 t)

set_option maxHeartbeats 4000000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl,
    after0_0, after0_1, after0_2, after0_3, after0_4]
  rw [show (dats m hO 0 c).Φ t.succ = Phi m hO c (t.val + 1) from rfl, show (dats m hO 0 c).Φ t.castSucc = Phi m hO c t.val from rfl]
  unfold Phi
  rw [PhiT0_eq]
  have hc0 : cond0_0 (grid0.coords t) (wordAt (c := c) (tbl m 1)) := by rw [nu_word]; exact hcond0_0 t
  have hc1 := hcond0_1 t
  have hc2 := hcond0_2 t
  have hc3 : ¬ cond0_3 (grid0.coords t) (wordAt (c := c) (tbl m 1)) := by rw [nu_word]; exact hcond0_3 t
  iintro ⟨⟨⟨⟨%s0, %s1, %hk, HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
  obtain ⟨n0, h0⟩ : ∃ n0 : Vec F S1024x1024 .bf16, n0 = if cond0_1 (grid0.coords t) then k0_pay1 (iblk m hO c 0 t) (iblk m hO c 1 t) else s0 := ⟨_, rfl⟩
  obtain ⟨n1, h1⟩ : ∃ n1 : Vec F S1024x1024 .f32, n1 = k0_pay3 n0 (iblk m hO c 2 t) (iblk m hO c 3 t) (if cond0_1 (grid0.coords t) then k0_pay2 else s1) (iblk m hO c 4 t) := ⟨_, rfl⟩
  obtain ⟨o, ho⟩ : ∃ o : Vec F S1024x1024 .f32, o = if cond0_2 (grid0.coords t) then k0_pay4 (iblk m hO c 0 t) n1 else (dats m hO 0 c).before 5 t d5 := ⟨_, rfl⟩
  have hK : Kept m hO c (t.val + 1) n0 n1 :=
    kept_succ m hO c t s0 n0 s1 n1 hk (by rw [h0]; simp only [hc1]) (by rw [h1]; simp only [hc1])
  have hL := leaves0_5 m hO c t d5 o
    (fun h6 => (ho.trans (if_pos (hc2.mpr h6))).trans (congrArg (k0_pay4 (iblk m hO c 0 t)) (hK t.val t.isLt rfl).2))
    (fun h6 => ho.trans (if_neg fun h => h6 (hc2.mp h)))
  iapply (run c (grid0.coords t) _ (hs0_0 m hO t) _ (hs0_1 m hO t) _ (hs0_2 m hO t) _ (hs0_3 m hO t) _ (hs0_4 m hO t) _ (hs0_5 m hO t) _ (Memref.isWhole_whole _) _ (Memref.isWhole_whole _)
    (iblk m hO c 0 t) (iblk m hO c 1 t) (iblk m hO c 2 t) (iblk m hO c 3 t) (iblk m hO c 4 t) ((dats m hO 0 c).before 5 t d5) s0 s1 (tbl m 0) (tbl m 1)
    n0 n1 o hc0 hc3 h0 h1 ho Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HT0]; · iexact HT0
  isplitl [HT1]; · iexact HT1
  iintro ⟨H0, H1, H2, H3, H4, H5, HS0, HS1, HT0, HT1⟩
  isplitl [HS0 HS1 Hg HT0 HT1]
  · isplitl [HS0 HS1 Hg]
    · isplitl [HS0 HS1]
      · iexists n0, n1
        isplitr
        swap
        · isplitl [HS0]; · iexact HS0
          iexact HS1
        ipureintro
        exact hK
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iapply hL
  iexact H5

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 2000000 in
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = Phi m hO c 0 from rfl, PhiA0_eq]
  unfold Phi
  iintro ⟨⟨⟨⟨%s0, HS0⟩, ⟨%s1, HS1⟩⟩, Hg⟩, HT⟩
  isplitl [HS0 HS1 Hg]
  · isplitl [HS0 HS1]
    · iexists s0, s1
      isplitr
      swap
      · isplitl [HS0]; · iexact HS0
        iexact HS1
      ipureintro
      intro k _ e
      exact absurd e (by omega)
    iexact Hg
  iexact HT

theorem hout (hO : Ok m) (c : Dev nD) : (dats m hO 0 c).Φ (Fin.last (cfgM m hO).N) ⊢ Pipeline.ΦA spec0 c := by
  rw [show (dats m hO 0 c).Φ (Fin.last (cfgM m hO).N) = Phi m hO c (cfgM m hO).N from rfl, PhiA0_eq]
  unfold Phi
  iintro ⟨⟨⟨%s0, %s1, -, HS0, HS1⟩, Hg⟩, -⟩
  isplitl [HS0 HS1]
  · isplitl [HS0]
    · iexists _; iexact HS0
    iexists _; iexact HS1
  iexact Hg

set_option backward.isDefEq.respectTransparency.types false in
/-- The launch: every array at what the proof data says, every other buffer as the region found it, every counter at zero. -/
theorem run_main (hO : Ok m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m) (hin := hin m hO) (hout := hout m hO)

/-- What an input window's array holds when the run is over: what it held. -/
theorem arrAt_eq (hO : Ok m) (c : Dev nD) (w : Fin 6) (h : w ≠ 5) (k : ℕ) : (dats m hO 0 c).arrAt w k = (dats m hO 0 c).A w := by
  refine (dats m hO 0 c).arrAt_in w ?_ k
  fin_cases w <;> first | rfl | exact absurd rfl h

/-- What the run's post says of the argument arrays. -/
theorem args_of_post (hO : Ok m) {r} (h : Pipeline.FramePost (Pipeline.pin pcfgs fun _ => adm m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  have e : ∀ b : Ref sig .tc, b ≠ main_c ∧ b ≠ main_v0 ∧ b ≠ main_c_0 ∧ b ≠ main_v1 ∧ b ≠ main_v2 → V m c b = m ((c : Thread nD τ).loc b) :=
    fun b h => V_of_ne m c b h.1 h.2.1 h.2.2.1 h.2.2.2.1 h.2.2.2.2
  ⟨((h c).1 0).trans ((arrAt_eq m hO c 0 (by decide) _).trans (e main_arg0 (by decide))),
   ((h c).2 main_arg1 (by decide : main_arg1 ∈ Pipeline.restRefs sig spec0)).trans (e main_arg1 (by decide)),
   ((h c).1 2).trans ((arrAt_eq m hO c 2 (by decide) _).trans (e main_arg2 (by decide))),
   ((h c).1 4).trans ((arrAt_eq m hO c 4 (by decide) _).trans (e main_arg3 (by decide)))⟩

/-- The frame: the argument arrays end unchanged, every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_of_post m hO h.1, h.2⟩) (run_main m ρ hO)

end Cert.DenseIdeal.Gen

end
-- ==== Proof.DenseValue.lean ====
/- The dense feed-forward: the array the kernel leaves, read at one entry. -/
module

public import proofs.«01_k».proof.Proof.DenseFrame
public import proofs.«01_k».proof.Proof.FfnValue
public import Idealize.ShloMosaic.Lib.Pipeline.ValueKit
public import Idealize.ShloMosaic.Lib.Claim

@[expose] public section

set_option maxRecDepth 16384

noncomputable section

namespace Cert.DenseProof

open Idealize.ShloMosaic Idealize.ShloMosaic.TcCoe Idealize.SL.Sem
open Idealize.ShloMosaic.Pipeline (Dat)
open Cert.DenseIdeal Cert.DenseIdeal.Gen
open Cert.FfnIdeal.Gen (slt_iff minsi_toNat select_col vec3)
open Cert.FfnProof (lo hi)

section Index

variable {F : FTy → Type} [FloatOps F]

/-- Tables of zeros and of the number of row blocks. -/
def Full (pf : pre0.Contents (Elt F)) : Prop := (∀ y, pf 0 y = 0#32) ∧ ∀ y, pf 1 y = 16#32

variable (pf : pre0.Contents (Elt F)) (h : Full pf) (i : grid0.Coords)

include h

theorem at0 : pf.at 0 (Rect.unit (s := S16) ![(Scalar.indexCast (BitVec.ofNat 32 (i 0).val)).toNat] S1.size (k0_off1_inb i)) numel1_S1 = 0#32 := h.1 _

theorem at1 : pf.at 1 (Rect.unit (s := S1) ![0] S1.size inb_S1_S1_0) numel1_S1 = 16#32 := h.2 _

theorem tr0 : cc0_transform_0 inb_S1_S1_0 numel1_S1 pf i = ![(i 0).val, 0] := by
  have h0 : (i 0).val < 16 := (i 0).isLt
  have e : (Scalar.minsi (BitVec.ofNat 32 (i 0).val) (Scalar.subi 16#32 1#32)).toNat = (i 0).val :=
    (minsi_toNat (i 0).val (by omega) 16#32 (by decide)).trans (by rw [show (16#32).toInt = 16 from rfl]; omega)
  unfold cc0_transform_0
  rw [at1 pf h]
  simp only [e]
  rfl

theorem col_word : Scalar.select (Scalar.cmpi .slt (BitVec.ofNat 32 (i 0).val) (pf.at 1 (Rect.unit (s := S1) ![0] S1.size inb_S1_S1_0) numel1_S1)) (BitVec.ofNat 32 (i 1).val) 6#32
      = BitVec.ofNat 32 (i 1).val := by
  have h0 : (i 0).val < 16 := (i 0).isLt
  rw [at1 pf h, select_col _ _ (by omega) (i 1).isLt, if_pos (by rw [show (16#32).toInt = 16 from rfl]; omega)]

omit h in
theorem col_toNat : (BitVec.ofNat 32 (i 1).val).toNat = (i 1).val := by
  have : (i 1).val < 7 := (i 1).isLt
  rw [BitVec.toNat_ofNat]
  omega

theorem tr2 : cc0_transform_2 k0_off1_inb numel1_S1 inb_S1_S1_0 pf i = ![0, 0, (i 1).val] :=
  vec3 (congrArg BitVec.toNat (at0 pf h i)) rfl ((congrArg BitVec.toNat (col_word pf h i)).trans (col_toNat i))

theorem tr3 : cc0_transform_3 k0_off1_inb numel1_S1 inb_S1_S1_0 pf i = ![0, 0, 7 + (i 1).val] :=
  vec3 (congrArg BitVec.toNat (at0 pf h i)) rfl ((congrArg (fun w => (7#32 + w).toNat) (col_word pf h i)).trans (by
    have : (i 1).val < 7 := (i 1).isLt
    show (7#32 + BitVec.ofNat 32 (i 1).val).toNat = _
    rw [BitVec.toNat_add, col_toNat, show (7#32).toNat = 7 from rfl]
    omega))

theorem tr4 : cc0_transform_4 k0_off1_inb numel1_S1 inb_S1_S1_0 pf i = ![0, (i 1).val, 0] :=
  vec3 (congrArg BitVec.toNat (at0 pf h i)) ((congrArg BitVec.toNat (col_word pf h i)).trans (col_toNat i)) rfl

omit i in
/-- Such tables pass the pipeline's condition. -/
theorem ok_of : ok0 pf := by
  refine ⟨fun i => ⟨?_, .inl rfl⟩, fun i => ⟨?_, .inl rfl⟩, fun i => ⟨?_, .inl rfl⟩, fun i => ⟨?_, .inl rfl⟩⟩
  all_goals
    have h0 : (i 0).val < 16 := (i 0).isLt
    have h1 : (i 1).val < 7 := (i 1).isLt
  · rw [tr0 pf h]
    intro a
    fin_cases a
    · show ((i 0).val + 1) * 1024 ≤ 16384; omega
    · show (0 + 1) * 1024 ≤ 1024; omega
  · rw [tr2 pf h]
    intro a
    fin_cases a
    · show (0 + 1) * 1 ≤ 1; omega
    · show (0 + 1) * 1024 ≤ 1024; omega
    · show ((i 1).val + 1) * 512 ≤ 7168; omega
  · rw [tr3 pf h]
    intro a
    fin_cases a
    · show (0 + 1) * 1 ≤ 1; omega
    · show (0 + 1) * 1024 ≤ 1024; omega
    · show (7 + (i 1).val + 1) * 512 ≤ 7168; omega
  · rw [tr4 pf h]
    intro a
    fin_cases a
    · show (0 + 1) * 1 ≤ 1; omega
    · show ((i 1).val + 1) * 512 ≤ 3584; omega
    · show (0 + 1) * 1024 ≤ 1024; omega

end Index

/-- The normed rows, read at row `i`, column `k`. -/
theorem pay1_at (x : Vec Ideal S1024x1024 .f32) (g : Vec Ideal S1x1024 .f32) (i k : Fin 1024) :
    k0_pay1 x g (ix2 i k) = x (ix2 i k) * Ideal.rsqrt (Ideal.div (∑ k : Fin 1024, x (ix2 i k) * x (ix2 i k))
      (Ideal.ofBits .f32 0x44800000#32) + Ideal.ofBits .f32 0x3727C5AC#32) * g (ix2 0 k) := by
  pointwise [k0_pay1]

theorem pay2_at (i k : Fin 1024) : (k0_pay2 (F := Ideal)) (ix2 i k) = 0 := by
  pointwise [k0_pay2]

theorem pay4_at (x s : Vec Ideal S1024x1024 .f32) (i k : Fin 1024) : k0_pay4 x s (ix2 i k) = x (ix2 i k) + s (ix2 i k) := by
  pointwise [k0_pay4]

/-- One step of the sum over the hidden columns, read at row `i`, column `d`. -/
theorem pay3_at (h : Vec Ideal S1024x1024 .bf16) (wg wu : Vec Ideal S1x1024x512 .f32) (acc : Vec Ideal S1024x1024 .f32) (wd : Vec Ideal S1x512x1024 .f32) (i d : Fin 1024) :
    k0_pay3 h wg wu acc wd (ix2 i d) = acc (ix2 i d) + ∑ f : Fin 512,
      ((∑ k : Fin 1024, h (ix2 i k) * wg (ix3 0 k f)) * Ideal.logistic (∑ k : Fin 1024, h (ix2 i k) * wg (ix3 0 k f))
        * (∑ k : Fin 1024, h (ix2 i k) * wu (ix3 0 k f))) * wd (ix3 0 f d) := by
  pointwise [k0_pay3]

/-- The normed rows, read at row `r`, column `k`. -/
def normed (x : FVec Ideal S16384x1024 .f32) (g : FVec Ideal S1024 .f32) (r : Fin 16384) (k : Fin 1024) : EReal :=
  x (ix2 r k) * Ideal.rsqrt (Ideal.div (∑ k : Fin 1024, x (ix2 r k) * x (ix2 r k))
    (Ideal.ofBits .f32 0x44800000#32) + Ideal.ofBits .f32 0x3727C5AC#32) * g (ix1 k)

/-- Column `q` of the first product. -/
def up (x : FVec Ideal S16384x1024 .f32) (g : FVec Ideal S1024 .f32) (w : FVec Ideal S1x1024x7168 .f32) (r : Fin 16384) (q : Fin 7168) : EReal :=
  ∑ k : Fin 1024, normed x g r k * w (ix3 0 k q)

/-- Hidden column `f`. -/
def hid (x : FVec Ideal S16384x1024 .f32) (g : FVec Ideal S1024 .f32) (w : FVec Ideal S1x1024x7168 .f32) (r : Fin 16384) (f : Fin 3584) : EReal :=
  up x g w r (lo f) * Ideal.logistic (up x g w r (lo f)) * up x g w r (hi f)

/-- Row `r`, column `d` of the result: the row itself and its feed-forward. -/
def dense (x : FVec Ideal S16384x1024 .f32) (g : FVec Ideal S1024 .f32) (w : FVec Ideal S1x1024x7168 .f32) (w' : FVec Ideal S1x3584x1024 .f32) (r : Fin 16384) (d : Fin 1024) : EReal :=
  x (ix2 r d) + ∑ f : Fin 3584, hid x g w r f * w' (ix3 0 f d)

/-- Hidden column `n`'s summand of the second product, nothing beyond the columns. -/
def part (x : FVec Ideal S16384x1024 .f32) (g : FVec Ideal S1024 .f32) (w : FVec Ideal S1x1024x7168 .f32) (w' : FVec Ideal S1x3584x1024 .f32) (r : Fin 16384) (d : Fin 1024) (n : ℕ) : EReal :=
  if h : n < 3584 then hid x g w r ⟨n, h⟩ * w' (ix3 0 ⟨n, h⟩ d) else 0

theorem part_lt (x : FVec Ideal S16384x1024 .f32) (g : FVec Ideal S1024 .f32) (w : FVec Ideal S1x1024x7168 .f32) (w' : FVec Ideal S1x3584x1024 .f32) (r : Fin 16384) (d : Fin 1024) (n : ℕ) (h : n < 3584) :
    part x g w w' r d n = hid x g w r ⟨n, h⟩ * w' (ix3 0 ⟨n, h⟩ d) := dif_pos h

theorem dense_eq (x : FVec Ideal S16384x1024 .f32) (g : FVec Ideal S1024 .f32) (w : FVec Ideal S1x1024x7168 .f32) (w' : FVec Ideal S1x3584x1024 .f32) (r : Fin 16384) (d : Fin 1024) :
    x (ix2 r d) + ∑ n ∈ Finset.range 3584, part x g w w' r d n = dense x g w w' r d := by
  rw [Finset.sum_range]
  exact congrArg (x (ix2 r d) + ·) (Finset.sum_congr rfl fun f _ => part_lt x g w w' r d f.val f.isLt)

variable (m : (ℓ : Loc nD τ sig) → Buf (Elt Ideal) ℓ)

theorem full : Full (tbl m) := ⟨V_te m 0, V_nu m 0⟩

theorem ok : Ok m := ok_of (tbl m) (full m)

theorem co0 (t : Fin grid0.N) : (grid0.coords t 0).val = t.val / 7 := by
  have ht : t.val < 112 := Nat.lt_of_lt_of_eq t.isLt N_0
  have e0 : (grid0.coords t 0).val = t.val / 7 % 16 := Pipeline.Grid.coords_val t 0 (by decide) rfl
  omega

theorem co1 (t : Fin grid0.N) : (grid0.coords t 1).val = t.val % 7 := by
  have e1 : (grid0.coords t 1).val = t.val / 1 % 7 := Pipeline.Grid.coords_val t 1 (by decide) rfl
  omega

section Blocks

variable (c : Dev nD) (t : Fin (cfgM m (ok m)).N)

theorem blk0 (a b : Fin 1024) (r : Fin 16384) (hr : r.val = t.val / 7 * 1024 + a.val) :
    iblk m (ok m) c 0 t (ix2 a b) = m ((c : Thread nD τ).loc main_arg0) (ix2 r b) := by
  have e : ((cfgM m (ok m)).win 0).index t = ![t.val / 7, 0] := (tr0 (tbl m) (full m) (grid0.coords t)).trans (by rw [co0 t])
  refine Eq.trans (?_ : _ = V m c main_arg0 (ix2 r b)) (congrFun (V_of_ne m c main_arg0 (by decide) (by decide) (by decide) (by decide) (by decide)) _)
  refine congrArg (V m c main_arg0) (funext fun ax : Fin 2 => Fin.ext ?_)
  refine (Pipeline.Window.rect_emb_val ((cfgM m (ok m)).win 0) t _ ax).trans ?_
  rw [e]
  fin_cases ax
  · exact hr.symm
  · exact Nat.zero_add _

theorem blk1 (b : Fin 1024) : iblk m (ok m) c 1 t (ix2 0 b) = m ((c : Thread nD τ).loc main_arg1) (ix1 b) := by
  have e : ((cfgM m (ok m)).win 1).index t = ![0, 0] := rfl
  refine Eq.trans (?_ : _ = V m c main_v2 (ix2 0 b)) (V_g m c b)
  refine congrArg (V m c main_v2) (funext fun ax : Fin 2 => Fin.ext ?_)
  refine (Pipeline.Window.rect_emb_val ((cfgM m (ok m)).win 1) t _ ax).trans ?_
  rw [e]
  fin_cases ax
  · exact Nat.zero_add _
  · exact Nat.zero_add _

theorem blk2 (k : Fin 1024) (f : Fin 512) (q : Fin 7168) (hq : q.val = t.val % 7 * 512 + f.val) :
    iblk m (ok m) c 2 t (ix3 0 k f) = m ((c : Thread nD τ).loc main_arg2) (ix3 0 k q) := by
  have ei : ((cfgM m (ok m)).win 2).index t = ![0, 0, t.val % 7] := (tr2 (tbl m) (full m) (grid0.coords t)).trans (by rw [co1 t])
  refine Eq.trans (?_ : _ = V m c main_arg2 (ix3 0 k q)) (congrFun (V_of_ne m c main_arg2 (by decide) (by decide) (by decide) (by decide) (by decide)) _)
  refine congrArg (V m c main_arg2) (funext fun ax : Fin 3 => Fin.ext ?_)
  refine (Pipeline.Window.rect_emb_val ((cfgM m (ok m)).win 2) t _ ax).trans ?_
  rw [ei]
  fin_cases ax
  · exact Nat.zero_add _
  · exact Nat.zero_add _
  · exact hq.symm

theorem blk3 (k : Fin 1024) (f : Fin 512) (q : Fin 7168) (hq : q.val = (7 + t.val % 7) * 512 + f.val) :
    iblk m (ok m) c 3 t (ix3 0 k f) = m ((c : Thread nD τ).loc main_arg2) (ix3 0 k q) := by
  have ei : ((cfgM m (ok m)).win 3).index t = ![0, 0, 7 + t.val % 7] := (tr3 (tbl m) (full m) (grid0.coords t)).trans (by rw [co1 t])
  refine Eq.trans (?_ : _ = V m c main_arg2 (ix3 0 k q)) (congrFun (V_of_ne m c main_arg2 (by decide) (by decide) (by decide) (by decide) (by decide)) _)
  refine congrArg (V m c main_arg2) (funext fun ax : Fin 3 => Fin.ext ?_)
  refine (Pipeline.Window.rect_emb_val ((cfgM m (ok m)).win 3) t _ ax).trans ?_
  rw [ei]
  fin_cases ax
  · exact Nat.zero_add _
  · exact Nat.zero_add _
  · exact hq.symm

theorem blk4 (f : Fin 512) (d : Fin 1024) (q : Fin 3584) (hq : q.val = t.val % 7 * 512 + f.val) :
    iblk m (ok m) c 4 t (ix3 0 f d) = m ((c : Thread nD τ).loc main_arg3) (ix3 0 q d) := by
  have ei : ((cfgM m (ok m)).win 4).index t = ![0, t.val % 7, 0] := (tr4 (tbl m) (full m) (grid0.coords t)).trans (by rw [co1 t])
  refine Eq.trans (?_ : _ = V m c main_arg3 (ix3 0 q d)) (congrFun (V_of_ne m c main_arg3 (by decide) (by decide) (by decide) (by decide) (by decide)) _)
  refine congrArg (V m c main_arg3) (funext fun ax : Fin 3 => Fin.ext ?_)
  refine (Pipeline.Window.rect_emb_val ((cfgM m (ok m)).win 4) t _ ax).trans ?_
  rw [ei]
  fin_cases ax
  · exact Nat.zero_add _
  · exact hq.symm
  · exact Nat.zero_add _

end Blocks

section Fold

variable (c : Dev nD) (r : Fin 16384)

/-- The first argument's contents, and so on. -/
abbrev X0 : FVec Ideal S16384x1024 .f32 := m ((c : Thread nD τ).loc main_arg0)
abbrev X1 : FVec Ideal S1024 .f32 := m ((c : Thread nD τ).loc main_arg1)
abbrev X2 : FVec Ideal S1x1024x7168 .f32 := m ((c : Thread nD τ).loc main_arg2)
abbrev X3 : FVec Ideal S1x3584x1024 .f32 := m ((c : Thread nD τ).loc main_arg3)

theorem hn_at (t : Fin (cfgM m (ok m)).N) (a k : Fin 1024) (hr : r.val = t.val / 7 * 1024 + a.val) :
    k0_pay1 (iblk m (ok m) c 0 t) (iblk m (ok m) c 1 t) (ix2 a k) = normed (X0 m c) (X1 m c) r k := by
  have hx : ∀ k : Fin 1024, iblk m (ok m) c 0 t (ix2 a k) = X0 m c (ix2 r k) := fun k => blk0 m c t a k r hr
  have hg := blk1 m c t k
  refine (pay1_at (iblk m (ok m) c 0 t) (iblk m (ok m) c 1 t) a k).trans ?_
  unfold normed
  refine congr (congrArg HMul.hMul (congr (congrArg HMul.hMul (hx k)) (congrArg Ideal.rsqrt (congrArg (· + Ideal.ofBits .f32 0x3727C5AC#32) (congrArg (Ideal.div · (Ideal.ofBits .f32 0x44800000#32)) (Finset.sum_congr rfl fun k _ => ?_)))))) hg
  exact congr (congrArg HMul.hMul (hx k)) (hx k)

theorem step_at (t : Fin (cfgM m (ok m)).N) (a d : Fin 1024)
    (h : Vec Ideal S1024x1024 .bf16) (acc : Vec Ideal S1024x1024 .f32) (hh : ∀ k, h (ix2 a k) = normed (X0 m c) (X1 m c) r k) :
    k0_pay3 h (iblk m (ok m) c 2 t) (iblk m (ok m) c 3 t) acc (iblk m (ok m) c 4 t) (ix2 a d)
      = acc (ix2 a d) + ∑ f : Fin 512, part (X0 m c) (X1 m c) (X2 m c) (X3 m c) r d (512 * (t.val % 7) + f.val) := by
  refine (pay3_at h (iblk m (ok m) c 2 t) (iblk m (ok m) c 3 t) acc (iblk m (ok m) c 4 t) a d).trans (congrArg (acc (ix2 a d) + ·) (Finset.sum_congr rfl fun f _ => ?_))
  have hlt : 512 * (t.val % 7) + f.val < 3584 := by have := f.isLt; omega
  rw [part_lt _ _ _ _ _ _ _ hlt]
  unfold hid
  have hg := fun k => blk2 m c t k f (lo ⟨_, hlt⟩) (by show 512 * (t.val % 7) + f.val = _; omega)
  have hu := fun k => blk3 m c t k f (hi ⟨_, hlt⟩) (by show 3584 + (512 * (t.val % 7) + f.val) = _; omega)
  have hD := blk4 m c t f d ⟨_, hlt⟩ (by show 512 * (t.val % 7) + f.val = _; omega)
  have hG := Finset.sum_congr rfl fun k (_ : k ∈ (Finset.univ : Finset (Fin 1024))) => congr (congrArg (HMul.hMul (α := EReal) (β := EReal) (γ := EReal)) (hh k)) (hg k)
  have hU := Finset.sum_congr rfl fun k (_ : k ∈ (Finset.univ : Finset (Fin 1024))) => congr (congrArg (HMul.hMul (α := EReal) (β := EReal) (γ := EReal)) (hh k)) (hu k)
  exact congr (congrArg (HMul.hMul (α := EReal) (β := EReal) (γ := EReal)) (congr (congrArg HMul.hMul (congr (congrArg HMul.hMul hG) (congrArg Ideal.logistic hG))) hU)) hD

/-- What the two scratch buffers hold after step `j` of row block `i`. -/
theorem scr_at (i : ℕ) (a d : Fin 1024) (hr : r.val = i * 1024 + a.val) :
    ∀ (j : ℕ) (hj : j < 7) (hN : 7 * i + j < (cfgM m (ok m)).N), (∀ k, (scr m (ok m) c (7 * i + j) hN).1 (ix2 a k) = normed (X0 m c) (X1 m c) r k)
      ∧ (scr m (ok m) c (7 * i + j) hN).2 (ix2 a d) = ∑ n ∈ Finset.range (512 * (j + 1)), part (X0 m c) (X1 m c) (X2 m c) (X3 m c) r d n := by
  intro j
  induction j with
  | zero =>
    intro hj hN
    have h0 : (7 * i + 0) / 7 = i := by omega
    have hn := fun k => hn_at m c r ⟨7 * i + 0, hN⟩ a k (by show r.val = (7 * i + 0) / 7 * 1024 + _; rw [h0, hr])
    rw [scr_first m (ok m) c ⟨7 * i + 0, hN⟩ (by show (7 * i + 0) % 7 = 0; omega)]
    refine ⟨hn, (step_at m c r ⟨7 * i + 0, hN⟩ a d _ _ hn).trans ?_⟩
    rw [pay2_at, zero_add, Finset.sum_range]
    refine Finset.sum_congr rfl fun f _ => congrArg _ ?_
    show 512 * ((7 * i + 0) % 7) + f.val = f.val
    omega
  | succ j ih =>
    intro hj hN
    obtain ⟨hn, hs⟩ := ih (by omega) (Nat.lt_of_succ_lt hN)
    show (∀ k, (scr m (ok m) c (7 * i + j + 1) hN).1 (ix2 a k) = _) ∧ (scr m (ok m) c (7 * i + j + 1) hN).2 (ix2 a d) = _
    rw [scr_next m (ok m) c (7 * i + j) hN (by omega)]
    refine ⟨hn, (step_at m c r ⟨7 * i + j + 1, hN⟩ a d _ _ hn).trans ?_⟩
    rw [hs, show 512 * (j + 1 + 1) = 512 * (j + 1) + 512 from rfl, Finset.sum_range_add, Finset.sum_range (n := 512)]
    refine congrArg (_ + ·) (Finset.sum_congr rfl fun f _ => congrArg _ ?_)
    show 512 * ((7 * i + j + 1) % 7) + f.val = 512 * (j + 1) + f.val
    omega

end Fold

section Final

variable (c : Dev nD)

theorem idx5 (t : Fin (cfgM m (ok m)).N) : ((cfgM m (ok m)).win 5).index t = ![t.val / 7, 0] := by
  have h112 : t.val < 112 := Nat.lt_of_lt_of_eq t.isLt N_0
  show ![(BitVec.ofNat 32 (grid0.coords t 0).val).toNat, 0] = _
  rw [co0 t, BitVec.toNat_ofNat, Nat.mod_eq_of_lt (by omega)]

theorem covers5 : ((cfgM m (ok m)).win 5).Covers := by
  refine ⟨fun a : Fin 2 => by fin_cases a <;> exact Nat.zero_lt_succ _, fun β => ?_⟩
  have h0 : (β (0 : Fin 2)).val < 16 := Nat.lt_of_lt_of_eq (β (0 : Fin 2)).isLt (by show (16384 + 1024 - 1) / 1024 = 16; norm_num)
  have h1 : (β (1 : Fin 2)).val < 1 := Nat.lt_of_lt_of_eq (β (1 : Fin 2)).isLt (by show (1024 + 1024 - 1) / 1024 = 1; norm_num)
  have hN : 7 * (β (0 : Fin 2)).val + 6 < (cfgM m (ok m)).N := Nat.lt_of_lt_of_eq (by omega : _ < 112) N_0.symm
  refine ⟨⟨7 * (β (0 : Fin 2)).val + 6, hN⟩, (flush0_5 (adm m (ok m)) ⟨_, hN⟩).mpr (by show (7 * (β (0 : Fin 2)).val + 6) % 7 = 6; omega), fun a : Fin 2 => ⟨?_, .inl rfl⟩⟩
  rw [idx5]
  fin_cases a
  · show (7 * (β (0 : Fin 2)).val + 6) / 7 = (β (0 : Fin 2)).val
    omega
  · show 0 = (β (1 : Fin 2)).val
    omega

/-- The array after the run. -/
theorem final : (dats m (ok m) 0 c).arrAt 5 (cfgM m (ok m)).N
    = fun y : S16384x1024.Idx => dense (X0 m c) (X1 m c) (X2 m c) (X3 m c) (y 0) (y 1) := by
  refine (dats m (ok m) 0 c).arrAt_eq_of_covers 5 _ (covers5 m) fun t hf y => ?_
  have h6 : t.val % 7 = 6 := (flush0_5 (adm m (ok m)) t).mp hf
  have h112 : t.val < 112 := Nat.lt_of_lt_of_eq t.isLt N_0
  have e0 : ((((cfgM m (ok m)).win 5).rect t).emb y (0 : Fin 2)).val = t.val / 7 * 1024 + (y (0 : Fin 2)).val :=
    (Pipeline.Window.rect_emb_val ((cfgM m (ok m)).win 5) t y (0 : Fin 2)).trans (by rw [idx5]; rfl)
  have e1 : ((((cfgM m (ok m)).win 5).rect t).emb y (1 : Fin 2)).val = (y (1 : Fin 2)).val :=
    (Pipeline.Window.rect_emb_val ((cfgM m (ok m)).win 5) t y (1 : Fin 2)).trans (by rw [idx5]; exact Nat.zero_add _)
  show (dats m (ok m) 0 c).after 5 t y = dense (X0 m c) (X1 m c) (X2 m c) (X3 m c) ((((cfgM m (ok m)).win 5).rect t).emb y (0 : Fin 2)) ((((cfgM m (ok m)).win 5).rect t).emb y (1 : Fin 2))
  generalize ((((cfgM m (ok m)).win 5).rect t).emb y (0 : Fin 2)) = r at e0
  generalize ((((cfgM m (ok m)).win 5).rect t).emb y (1 : Fin 2)) = d at e1
  change Fin 16384 at r
  change Fin 1024 at d
  have hy : y = ix2 (y (0 : Fin 2)) d := funext fun a : Fin 2 => by
    fin_cases a
    · rfl
    · exact Fin.ext e1.symm
  rw [hy, after0_5, outAt]
  have ht7 : 7 * (t.val / 7) + 6 = t.val := by omega
  have key := (scr_at m c r (t.val / 7) (y (0 : Fin 2)) d e0 6 (by omega) (Nat.lt_of_le_of_lt (Nat.le_of_eq ht7) t.isLt)).2
  simp only [ht7] at key
  refine (pay4_at (iblk m (ok m) c 0 t) _ (y (0 : Fin 2)) d).trans (Eq.trans ?_ (dense_eq (X0 m c) (X1 m c) (X2 m c) (X3 m c) r d))
  exact congr (congrArg (HAdd.hAdd (α := EReal) (β := EReal) (γ := EReal)) (blk0 m c t (y (0 : Fin 2)) d r e0)) key

end Final

end Cert.DenseProof

end
-- ==== Proof.DenseRef.lean ====
/- The dense feed-forward's reference, read at one entry. -/
module

public import proofs.«01_k».proof.Proof.DenseValue
public import proofs.«01_k».proof.Proof.Gen.DenseRefIdeal.Run
public import Idealize.ShloMosaic.Lib.Pointwise
public import Idealize.ShloMosaic.Lib.Claim

@[expose] public section

set_option maxRecDepth 16384

noncomputable section

namespace Cert.DenseProof

open Idealize.ShloMosaic Idealize.ShloMosaic.TcCoe Idealize.SL.Sem
open Cert.DenseRefIdeal Cert.DenseRefIdeal.Gen Cert.DenseRefIdeal.Value
open Cert.FfnProof (lo hi)

/-- The normed rows. -/
def rows (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))

theorem rows_at (x : FVec Ideal S16384x1024 .f32) (g : FVec Ideal S1024 .f32) (r : Fin 16384) (k : Fin 1024) :
    rows x g (ix2 r k) = normed x g r k := by
  pointwise [rows, normed]

/-- The first product. -/
def prod1 (h : FVec Ideal S16384x1024 .f32) (w : FVec Ideal S1x1024x7168 .f32) : FVec Ideal S16384x7168 .f32 :=
  Host.dotGeneral dot_S16384x1024_S1024x7168_S16384x7168_1_0_0_1_n_n none h (shapeCast _ w shapeCasts_S1x1024x7168_S1024x7168)

theorem prod1_at (h : FVec Ideal S16384x1024 .f32) (w : FVec Ideal S1x1024x7168 .f32) (r : Fin 16384) (q : Fin 7168) :
    prod1 h w (ix2 r q) = ∑ k : Fin 1024, h (ix2 r k) * w (ix3 0 k q) := by
  pointwise [prod1]

/-- The hidden columns. -/
def hidden (p : FVec Ideal S16384x7168 .f32) : FVec Ideal S16384x3584 .f32 :=
  mulf (mulf (extractStridedSlice S16384x3584 ![0, 0] p slices_S16384x7168_S16384x3584_0_0) (Host.divf (broadcastInDim S16384x3584 ![] bcast_S_S16384x3584 (constant S_ .f32 0x3F800000#32)) (addf (broadcastInDim S16384x3584 ![] bcast_S_S16384x3584 (constant S_ .f32 0x3F800000#32)) (Host.exp (Host.negf (extractStridedSlice S16384x3584 ![0, 0] p slices_S16384x7168_S16384x3584_0_0)))))) (extractStridedSlice S16384x3584 ![0, 3584] p slices_S16384x7168_S16384x3584_0_3584)

theorem hidden_at (p : FVec Ideal S16384x7168 .f32) (r : Fin 16384) (f : Fin 3584) :
    hidden p (ix2 r f) = p (ix2 r (lo f)) * Ideal.logistic (p (ix2 r (lo f))) * p (ix2 r (hi f)) := by
  pointwise [hidden, Ideal.logistic, lo, hi]

/-- The second product. -/
def prod2 (h : FVec Ideal S16384x3584 .f32) (w : FVec Ideal S1x3584x1024 .f32) : FVec Ideal S16384x1024 .f32 :=
  Host.dotGeneral dot_S16384x3584_S3584x1024_S16384x1024_1_0_0_1_n_n none h (shapeCast _ w shapeCasts_S1x3584x1024_S3584x1024)

theorem prod2_at (h : FVec Ideal S16384x3584 .f32) (w : FVec Ideal S1x3584x1024 .f32) (r : Fin 16384) (d : Fin 1024) :
    prod2 h w (ix2 r d) = ∑ f : Fin 3584, h (ix2 r f) * w (ix3 0 f d) := by
  pointwise [prod2]

/-- The reference's result. -/
def refOut (x : FVec Ideal S16384x1024 .f32) (g : FVec Ideal S1024 .f32) (w : FVec Ideal S1x1024x7168 .f32) (w' : FVec Ideal S1x3584x1024 .f32) : FVec Ideal S16384x1024 .f32 :=
  addf x (prod2 (hidden (prod1 (rows x g) w)) w')

theorem refOut_at (x : FVec Ideal S16384x1024 .f32) (g : FVec Ideal S1024 .f32) (w : FVec Ideal S1x1024x7168 .f32) (w' : FVec Ideal S1x3584x1024 .f32) (r : Fin 16384) (d : Fin 1024) :
    refOut x g w w' (ix2 r d) = dense x g w w' r d := by
  show x (ix2 r d) + prod2 (hidden (prod1 (rows x g) w)) w' (ix2 r d) = _
  unfold dense hid up
  simp only [prod2_at, hidden_at, prod1_at, rows_at]

end Cert.DenseProof

end
-- ==== Proof.DensePair.lean ====
/- The dense feed-forward's claims. -/
module

public import proofs.«01_k».proof.Defs
public import proofs.«01_k».proof.Proof.DenseRef
public import proofs.«01_k».proof.Proof.DenseBitsFrame
public import Idealize.ShloMosaic.Lib.Pipeline.ValueKit
public import Idealize.ShloMosaic.Lib.Claim

@[expose] public section

set_option maxRecDepth 16384

noncomputable section

namespace Cert.DenseProof

open Idealize.ShloMosaic Idealize.ShloMosaic.TcCoe Idealize.SL.Sem

theorem okBits (m : (ℓ : Loc Cert.Dense.nD Cert.Dense.τ Cert.Dense.sig) → Buf (Elt Bits) ℓ) : Cert.Dense.Gen.Ok m :=
  ok_of (F := Bits) (Cert.Dense.Gen.tbl m) ⟨Cert.Dense.Gen.V_te m 0, Cert.Dense.Gen.V_nu m 0⟩

theorem quiescent : Cert.quiescent_Dense := fun m g _ => Cert.Dense.Gen.frame m g (okBits m)

theorem quiescentIdeal : Cert.quiescent_DenseIdeal := fun m g _ => Cert.DenseIdeal.Gen.frame m g (ok m)

theorem quiescentRef : Cert.quiescent_DenseRefIdeal := fun m g _ =>
  (θ_run Cert.DenseRefIdeal.defs _ _).mono
    (fun r h => ⟨fun c => (h c).2, sem_eq_zero_of_no_sems (by decide) r.2⟩)
    (Cert.DenseRefIdeal.Value.run (F := Ideal) m g)

theorem preserves : Cert.preserves_Dense_DenseIdeal := by
  trivial

theorem algebraic : Cert.algebraic_DenseIdeal_DenseRefIdeal := by
  intro m g m' g' _ hargs
  refine ⟨fun c => fun y : Cert.DenseIdeal.S16384x1024.Idx => dense (X0 m c) (X1 m c) (X2 m c) (X3 m c) (y 0) (y 1), ?_, ?_⟩
  · exact (θ_run Cert.DenseIdeal.defs _ _).mono
      (fun r h c => ⟨((h.1 c).1 5).trans (final m c), Cert.DenseIdeal.Gen.args_of_post m (ok m) h.1 c⟩)
      (Cert.DenseIdeal.Gen.run_main m g (ok m))
  · refine (θ_run Cert.DenseRefIdeal.defs _ _).mono (fun r h c => ⟨(h c).1.trans ?_, (h c).2⟩) (Cert.DenseRefIdeal.Value.run (F := Ideal) m' g')
    obtain ⟨a0, a1, a2, a3⟩ := hargs c
    rw [a0, a1, a2, a3]
    refine funext fun y : Cert.DenseRefIdeal.S16384x1024.Idx => ?_
    have hy : y = ix2 (y 0) (y 1) := funext fun a : Fin 2 => by fin_cases a <;> rfl
    exact (congrArg (refOut (X0 m c) (X1 m c) (X2 m c) (X3 m c)) hy).trans (refOut_at (X0 m c) (X1 m c) (X2 m c) (X3 m c) (y 0) (y 1))

end Cert.DenseProof

end
-- ==== Proof.ProjBValue.lean ====
/- The second layer's projection: the array the kernel leaves is the reference's term of the arguments. -/
module

public import proofs.«01_k».proof.Proof.Gen.ProjBIdeal.Value
public import proofs.«01_k».proof.Proof.Gen.ProjBRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.ProjBProof

open Idealize.ShloMosaic Idealize.ShloMosaic.TcCoe Idealize.SL.Sem
open Idealize.ShloMosaic.Pipeline (Dat)
open Cert.ProjBIdeal Cert.ProjBIdeal.Gen

variable (m : (ℓ : Loc nD τ sig) → Buf (Elt Ideal) ℓ)

theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- Normalization, then the product, read at row `i`, column `j`. -/
def proj (x : FVec Ideal S16384x1024 .f32) (g : FVec Ideal S1024 .f32) (w : FVec Ideal S1024x1024 .f32)
    (i : Fin 16384) (j : Fin 1024) : EReal :=
  ∑ k : Fin 1024, (x (ix2 i k) * Ideal.rsqrt (Ideal.div (∑ k : Fin 1024, x (ix2 i k) * x (ix2 i k))
    (Ideal.ofBits .f32 0x44800000#32) + Ideal.ofBits .f32 0x3727C5AC#32)) * g (ix1 k) * w (ix2 k j)

/-- The array after the run. -/
theorem final (c : Dev nD) : (dats m 0 c).arrAt 3 (cfgs 0).N
    = fun y => proj (m ((c : Thread nD τ).loc main_arg0)) (m ((c : Thread nD τ).loc main_arg1))
        (m ((c : Thread nD τ).loc main_arg2)) (y 0) (y 1) := by
  refine (dats m 0 c).arrAt_eq_of_covers 3 _ (by decide +kernel) fun t _ y => ?_
  blk_simp
  rw [after0_3]; frame_out
  pointwise [k0_pay1, proj]
  blk_point [iblk, V, idx t]

end Cert.ProjBProof
-- ==== Proof.ProjBPair.lean ====
/- The second layer's projection: the five claims. -/
module

public import proofs.«01_k».proof.Defs
public import proofs.«01_k».proof.Proof.Gen.ProjB.Frame
public import proofs.«01_k».proof.Proof.Gen.ProjBIdeal.Frame
public import proofs.«01_k».proof.Proof.Gen.ProjBRefIdeal
public import proofs.«01_k».proof.Proof.ProjBValue

@[expose] public section

set_option maxRecDepth 16384

noncomputable section

namespace Cert.ProjBProof

open Idealize.ShloMosaic Idealize.ShloMosaic.TcCoe Idealize.SL.Sem

theorem quiescent : Cert.quiescent_ProjB := fun m g _ => Cert.ProjB.Gen.frame m g

theorem quiescentIdeal : Cert.quiescent_ProjBIdeal := fun m g _ => Cert.ProjBIdeal.Gen.frame m g

theorem quiescentRef : Cert.quiescent_ProjBRefIdeal := fun m g _ =>
  (θ_run Cert.ProjBRefIdeal.defs _ _).mono
    (fun r h => ⟨fun c => (h c).2, sem_eq_zero_of_no_sems (by decide) r.2⟩)
    (Cert.ProjBRefIdeal.Value.run (F := Ideal) m g)

theorem preserves : Cert.preserves_ProjB_ProjBIdeal := by
  trivial

theorem algebraic : Cert.algebraic_ProjBIdeal_ProjBRefIdeal := by
  pair_intro
  · run_from Cert.ProjBIdeal.Gen.run_main m g
  · run_from Cert.ProjBRefIdeal.Value.run m' g'
    rw [final]
    funext y
    idx_vars y
    pointwise [proj]

end Cert.ProjBProof
-- ==== Proof.TailBRef.lean ====
/- The second layer's output product: its closed form, and its reference brought to it. -/
module

public import proofs.«01_k».proof.Proof.Gen.TailBRefIdeal.Run
public import proofs.«01_k».proof.Proof.AttnRefAt
public import Idealize.ShloMosaic.Lib.Pipeline.ValueKit
public import Idealize.ShloMosaic.Lib.Pointwise
public import Idealize.ShloMosaic.Lib.Claim

@[expose] public section

set_option maxRecDepth 16384

noncomputable section

namespace Cert.TailBProof

open Idealize.ShloMosaic Idealize.ShloMosaic.TcCoe Idealize.SL.Sem
open Cert.TailBRefIdeal Cert.TailBRefIdeal.Gen Cert.TailBRefIdeal.Value
open Cert.AttnProof (softRow scl rXO rXO_at rXWt rXWt_at rOut rOut_at scores_eq)

/-- Row `R` of the mixed sequence at column `k`: the scan's output, then four heads over the memory. -/
def tmix (s : FVec Ideal ⟨2, ![16384, 768]⟩ .bf16) (p : FVec Ideal ⟨2, ![16384, 1024]⟩ .f32) (mkv : FVec Ideal ⟨2, ![512, 512]⟩ .f32)
    (R : Fin 16384) (k : Fin 1024) : EReal :=
  if h : k.val < 768 then s (ix2 R ⟨k.val, h⟩)
  else
    softRow (fun j => ∑ e : Fin 64, p (ix2 R ⟨768 + ((k.val / 64 - 12) * 64 + e.val), by omega⟩) * scl
        * mkv (ix2 ⟨R.val / 8192 * 256 + j.val, by omega⟩ ⟨(k.val / 64 - 12) * 64 + e.val, by omega⟩))
      (fun j => mkv (ix2 ⟨R.val / 8192 * 256 + j.val, by omega⟩ ⟨256 + ((k.val / 64 - 12) * 64 + k.val % 64), by omega⟩))

/-- The call's result. -/
def tailG (s : FVec Ideal ⟨2, ![16384, 768]⟩ .bf16) (p x : FVec Ideal ⟨2, ![16384, 1024]⟩ .f32) (mkv : FVec Ideal ⟨2, ![512, 512]⟩ .f32)
    (w : FVec Ideal ⟨2, ![1024, 1024]⟩ .f32) : FVec Ideal ⟨2, ![16384, 1024]⟩ .f32 :=
  fun y => x y + ∑ k : Fin 1024, tmix s p mkv (y 0) k * w (ix2 k (y 1))

/-- The scan's output, by batch. -/
def tO (s : FVec Ideal S16384x768 .bf16) : FVec Ideal S2x8192x768 .f32 :=
  shapeCast _ (extf .f32 s bitsLt_bf16_f32) shapeCasts_S16384x768_S2x8192x768

/-- The scores against the memory. -/
def tXS (p : FVec Ideal S16384x1024 .f32) (mkv : FVec Ideal S512x512 .f32) : FVec Ideal S2x4x8192x256 .f32 :=
  (mulf (Host.dotGeneral (φ₁ := .f32) (φ₂ := .f32) dot_S2x8192x4x64_S2x256x4x64_S2x4x8192x256_3_3_1_1_02_02 none (shapeCast _ (extractStridedSlice S2x8192x256 ![0, 0, 768] (shapeCast _ p shapeCasts_S16384x1024_S2x8192x1024) slices_S2x8192x1024_S2x8192x256_0_0_768) shapeCasts_S2x8192x256_S2x8192x4x64) (shapeCast _ (extractStridedSlice S2x256x256 ![0, 0, 0] (shapeCast _ mkv shapeCasts_S512x512_S2x256x512) slices_S2x256x512_S2x256x256_0_0_0) shapeCasts_S2x256x256_S2x256x4x64)) (broadcastInDim S2x4x8192x256 ![] bcast_S_S2x4x8192x256 (constant S_ .f32 0x3E000000#32)))

/-- The reference's result of its arguments. -/
def tRes (s : FVec Ideal S16384x768 .bf16) (p x : FVec Ideal S16384x1024 .f32) (mkv : FVec Ideal S512x512 .f32)
    (w : FVec Ideal S1024x1024 .f32) : FVec Ideal S16384x1024 .f32 :=
  rOut x (tO s) (rXO mkv (rXWt (tXS p mkv))) w

variable (m : (ℓ : Loc nD τ sig) → Buf (Elt Ideal) ℓ)

set_option maxHeartbeats 1600000 in
theorem res_eq (c : Dev nD) : res_out0 m c = tRes (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4)) := by
  unfold res_out0 res_main_v31 tRes rOut tO rXO rXWt AttnProof.rXW AttnProof.rXL AttnProof.rXE AttnProof.rXMr tXS
  rfl

theorem tO_at (s : FVec Ideal S16384x768 .bf16) (b : Fin 2) (r : Fin 8192) (k : Fin 768) :
    tO s (ix3 b r k) = s (ix2 ⟨b.val * 8192 + r.val, by omega⟩ k) := by
  pointwise [tO]

theorem tXS_at (p : FVec Ideal S16384x1024 .f32) (mkv : FVec Ideal S512x512 .f32) (b : Fin 2) (h : Fin 4) (r : Fin 8192) (g : Fin 256) :
    tXS p mkv (ix4 b h r g) = (∑ x : Fin 64, p (ix2 ⟨b.val * 8192 + r.val, by omega⟩ ⟨768 + (h.val * 64 + x.val), by omega⟩)
      * mkv (ix2 ⟨b.val * 256 + g.val, by omega⟩ ⟨h.val * 64 + x.val, by omega⟩)) * scl := by
  pointwise [tXS]

theorem row_eq (R : Fin 16384) : (⟨R.val / 8192 * 8192 + R.val % 8192, by omega⟩ : Fin 16384) = R :=
  Fin.ext (by simp only; omega)

theorem scan_at (s : FVec Ideal S16384x768 .bf16) (p : FVec Ideal S16384x1024 .f32) (mkv : FVec Ideal S512x512 .f32)
    (R : Fin 16384) (k : Fin 768) :
    tO s (ix3 ⟨R.val / 8192, by omega⟩ ⟨R.val % 8192, by omega⟩ k) = tmix s p mkv R ⟨k.val, by omega⟩ := by
  rw [tO_at, row_eq]
  unfold tmix
  rw [dif_pos k.isLt]

theorem xatt_at (s : FVec Ideal S16384x768 .bf16) (p : FVec Ideal S16384x1024 .f32) (mkv : FVec Ideal S512x512 .f32)
    (R : Fin 16384) (k : Fin 256) :
    rXO mkv (rXWt (tXS p mkv)) (ix3 ⟨R.val / 8192, by omega⟩ ⟨R.val % 8192, by omega⟩ k)
      = tmix s p mkv R ⟨768 + k.val, by omega⟩ := by
  rw [rXO_at, rXWt_at _ _ _ _ (fun x => mkv (ix2 ⟨R.val / 8192 * 256 + x.val, by omega⟩ ⟨256 + k.val, by omega⟩))]
  unfold tmix
  rw [dif_neg (by simp only; omega)]
  have hk : (768 + k.val) / 64 - 12 = k.val / 64 := by omega
  have hk' : k.val / 64 * 64 + (768 + k.val) % 64 = k.val := by omega
  simp only [hk, hk']
  congr 1
  funext j
  rw [tXS_at, ← scores_eq, row_eq]
  refine congrArg (· * scl) (Finset.sum_congr rfl fun e _ => ?_)
  rw [mul_comm]

/-- The reference's result in closed form. -/
theorem tRes_eq (s : FVec Ideal S16384x768 .bf16) (p x : FVec Ideal S16384x1024 .f32) (mkv : FVec Ideal S512x512 .f32)
    (w : FVec Ideal S1024x1024 .f32) : tRes s p x mkv w = tailG s p x mkv w := by
  funext y
  idx_vars y
  unfold tRes tailG
  rw [rOut_at]
  simp only [scan_at s p mkv, xatt_at s p mkv]
  refine congrArg (x (ix2 y0 y1) + ·) ?_
  exact (Fin.sum_univ_add (a := 768) (b := 256) fun k : Fin 1024 => tmix s p mkv y0 k * w (ix2 k y1)).symm

end Cert.TailBProof
-- ==== Proof.TailBValue.lean ====
/- The second layer's output product: the array the kernel leaves is the closed form of the arguments. -/
module

public import proofs.«01_k».proof.Proof.Gen.TailBIdeal.Value
public import proofs.«01_k».proof.Proof.AttnValue
public import proofs.«01_k».proof.Proof.TailBRef
public import Idealize.ShloMosaic.Lib.Pipeline.ValueKit
public import Idealize.ShloMosaic.Lib.Pointwise
public import Idealize.ShloMosaic.Lib.Claim

@[expose] public section

set_option maxRecDepth 16384

noncomputable section

namespace Cert.TailBProof

open Idealize.ShloMosaic Idealize.ShloMosaic.TcCoe Idealize.SL.Sem
open Idealize.ShloMosaic.Pipeline (Dat)
open Cert.TailBIdeal Cert.TailBIdeal.Gen
open Cert.AttnProof (softRow softRow_congr)

/-- Cross-attention head `h` of one block: row `r`, column `d`. -/
def xheadAt (Q K V : FVec Ideal S256x256 .f32) (h : Fin 4) (r : Fin 256) (d : Fin 64) : EReal :=
  softRow (fun j => ∑ e : Fin 64, Q (ix2 r ⟨h.val * 64 + e.val, by omega⟩) * Ideal.ofBits .f32 0x3E000000#32
      * K (ix2 j ⟨h.val * 64 + e.val, by omega⟩))
    (fun j => V (ix2 j ⟨h.val * 64 + d.val, by omega⟩))

section
variable (q k v : FVec Ideal S256x256 .f32) (r : Fin 256) (d : Fin 64)

theorem xh0 : k0_pay7 (F := Ideal) q k v (ix2 r d) = xheadAt q k v 0 r d := by
  pointwise [k0_pay7, k0_pay4, k0_pay5, k0_pay6, xheadAt, softRow]

theorem xh1 : k0_pay9 (F := Ideal) (k0_pay5 v) (k0_pay8 q k) (ix2 r d) = xheadAt q k v 1 r d := by
  pointwise [k0_pay9, k0_pay8, k0_pay4, k0_pay5, k0_pay6, xheadAt, softRow]

theorem xh2 : k0_pay10 (F := Ideal) (k0_pay4 k) (k0_pay5 v) (k0_pay6 q) (ix2 r d) = xheadAt q k v 2 r d := by
  pointwise [k0_pay10, k0_pay4, k0_pay5, k0_pay6, xheadAt, softRow]

theorem xh3 : k0_pay1 (F := Ideal) (k0_pay11 (k0_pay4 k) (k0_pay5 v) (k0_pay6 q)) (ix2 r d) = xheadAt q k v 3 r d := by
  pointwise [k0_pay1, k0_pay11, k0_pay4, k0_pay5, k0_pay6, xheadAt, softRow]
end

/-- The block's mixed rows: the scan's output, then the four heads side by side. -/
def kmix (s : FVec Ideal S256x768 .bf16) (q k v : FVec Ideal S256x256 .f32) : FVec Ideal S256x1024 .f32 := fun y =>
  if h : (y 1).val < 768 then s (ix2 (y 0) ⟨(y 1).val, h⟩)
  else xheadAt q k v ⟨(y 1).val / 64 - 12, by have := (y 1).isLt; simp at this; omega⟩ (y 0) ⟨(y 1).val % 64, by omega⟩

section
variable (s : FVec Ideal S256x768 .bf16) (q k v : FVec Ideal S256x256 .f32)

theorem kmix_s (z : S256x1024.Idx) (r : Fin 256) (d : Fin 768) (h0 : (z 0).val = r.val) (h1 : (z 1).val = d.val) :
    k0_pay3 (F := Ideal) s (ix2 r d) = kmix s q k v z := by
  unfold kmix
  rw [dif_pos (by omega)]
  have e4 : (⟨(z 1).val, by omega⟩ : Fin 768) = d := Fin.ext h1
  have e5 : (z 0 : Fin 256) = r := Fin.ext h0
  rw [e4, e5]
  pointwise [k0_pay3]

theorem kmix_x (z : S256x1024.Idx) (h : Fin 4) (r : Fin 256) (d : Fin 64)
    (h0 : (z 0).val = r.val) (h1 : (z 1).val = 768 + h.val * 64 + d.val) :
    xheadAt q k v h r d = kmix s q k v z := by
  unfold kmix
  rw [dif_neg (by omega)]
  have e2 : (⟨(z 1).val / 64 - 12, by omega⟩ : Fin 4) = h := Fin.ext (by simp only; omega)
  have e4 : (⟨(z 1).val % 64, by omega⟩ : Fin 64) = d := Fin.ext (by simp only; omega)
  have e5 : (z 0 : Fin 256) = r := Fin.ext h0
  rw [e2, e4, e5]
end

theorem idx_whole (z) : (Rect.unit (s := S256x1024) ![0, 0] ![256, 1024] inb_S256x1024_S256x1024_0_0).toLoadRect.idx z = z := by
  funext a
  apply Fin.ext
  fin_cases a <;> exact (Nat.zero_add _).trans (Nat.one_mul _)

variable (m : (ℓ : Loc nD τ sig) → Buf (Elt Ideal) ℓ)

/-- The blocks' indices at each grid point. -/
theorem idx : ∀ t : Fin cfg0.N, win0_0.index t = ![t.val, 0] ∧ win0_1.index t = ![t.val, 3] ∧ win0_2.index t = ![t.val, 0]
    ∧ win0_3.index t = ![t.val / 32, 0] ∧ win0_4.index t = ![t.val / 32, 1] ∧ win0_5.index t = ![0, 0] ∧ win0_6.index t = ![t.val, 0] :=
  (by decide +kernel : ∀ t : Fin grid0.N, _)

theorem lt_N (t : Fin cfg0.N) : t.val < 64 := t.isLt.trans_eq (by decide)

/-- Row `r` of block `t`. -/
def rowOf (t : Fin cfg0.N) (r : Fin 256) : Fin 16384 := ⟨t.val * 256 + r.val, by have := lt_N t; omega⟩

section
variable (c : Dev nD) (t : Fin cfg0.N)

/-- The arguments. -/
abbrev aS : FVec Ideal S16384x768 .bf16 := m ((c.tc : Thread nD τ).loc main_arg0)
abbrev aP : FVec Ideal S16384x1024 .f32 := m ((c.tc : Thread nD τ).loc main_arg1)
abbrev aX : FVec Ideal S16384x1024 .f32 := m ((c.tc : Thread nD τ).loc main_arg2)
abbrev aKV : FVec Ideal S512x512 .f32 := m ((c.tc : Thread nD τ).loc main_arg3)
abbrev aW : FVec Ideal S1024x1024 .f32 := m ((c.tc : Thread nD τ).loc main_arg4)

theorem b0 (r : Fin 256) (k : Fin 768) : iblk m c 0 t (ix2 r k) = aS m c (ix2 (rowOf t r) k) := by
  blk_point [iblk, V, idx t, rowOf]
theorem b1 (r k : Fin 256) : iblk m c 1 t (ix2 r k) = aP m c (ix2 (rowOf t r) ⟨768 + k.val, by omega⟩) := by
  blk_point [iblk, V, idx t, rowOf]
theorem b2 (r : Fin 256) (k : Fin 1024) : iblk m c 2 t (ix2 r k) = aX m c (ix2 (rowOf t r) k) := by
  blk_point [iblk, V, idx t, rowOf]
theorem b3 (r k : Fin 256) : iblk m c 3 t (ix2 r k) = aKV m c (ix2 ⟨t.val / 32 * 256 + r.val, by have := lt_N t; omega⟩ ⟨k.val, by omega⟩) := by
  blk_point [iblk, V, idx t]
theorem b4 (r k : Fin 256) : iblk m c 4 t (ix2 r k) = aKV m c (ix2 ⟨t.val / 32 * 256 + r.val, by have := lt_N t; omega⟩ ⟨256 + k.val, by omega⟩) := by
  blk_point [iblk, V, idx t]
theorem b5 (r k : Fin 1024) : iblk m c 5 t (ix2 r k) = aW m c (ix2 r k) := by
  blk_point [iblk, V, idx t]
theorem b6 (r : Fin 256) (k : Fin 1024) : ((View.whole main_v1).slice (win0_6.rect t)).emb (ix2 r k) = ix2 (rowOf t r) k := by
  blk_ext [rowOf, idx t]

theorem mix_at (r : Fin 256) (k : Fin 1024) : kmix (iblk m c 0 t) (iblk m c 1 t) (iblk m c 3 t) (iblk m c 4 t) (ix2 r k)
    = tmix (aS m c) (aP m c) (aKV m c) (rowOf t r) k := by
  have ht := lt_N t
  have e3 : (rowOf t r).val / 8192 = t.val / 32 := by unfold rowOf; simp only; omega
  by_cases hk : k.val < 768
  · unfold tmix
    rw [dif_pos hk, ← kmix_s _ _ _ _ (ix2 r k) r ⟨k.val, hk⟩ rfl rfl]
    refine Eq.trans ?_ (b0 m c t r ⟨k.val, hk⟩)
    pointwise [k0_pay3]
  · unfold tmix
    rw [dif_neg hk, ← kmix_x _ _ _ _ (ix2 r k) ⟨k.val / 64 - 12, by omega⟩ r
      ⟨k.val % 64, by omega⟩ rfl (show k.val = 768 + (k.val / 64 - 12) * 64 + k.val % 64 by omega)]
    unfold xheadAt
    refine softRow_congr (fun j => Finset.sum_congr rfl fun e _ => ?_) (fun j => ?_)
    · rw [b1, b3]
      simp only [e3]
      try rfl
    · rw [b4]
      simp only [e3]
      try rfl
end

set_option maxHeartbeats 1600000 in
theorem final (c : Dev nD) : (dats m 0 c).arrAt 6 (cfgs 0).N = tailG (aS m c) (aP m c) (aX m c) (aKV m c) (aW m c) := by
  refine (dats m 0 c).arrAt_eq_of_covers 6 _ (by decide +kernel) fun t _ y => ?_
  blk_simp
  rw [after0_6]
  unfold outsAt0
  frame_out
  refine Eq.trans (congrArg (fun z => k0_pay2 (iblk m c 2 t) z (iblk m c 5 t) y) (a₂ := kmix (iblk m c 0 t) (iblk m c 1 t)
    (iblk m c 3 t) (iblk m c 4 t)) ?_) ?_
  · rw [View.readCov_eq_canon']
    funext z
    refine (congrArg _ (idx_whole z)).trans ?_
    canon_tiles u hh using View.cover_of_tiledBy _ ![256, 64] (by sl_kernel_rfl) z
    case piece0 =>
      idx_vars u
      exact (xh3 _ _ _ _ _).trans (kmix_x _ _ _ _ z 3 _ _ (by omega) (by omega))
    case piece1 =>
      idx_vars u
      exact (xh2 _ _ _ _ _).trans (kmix_x _ _ _ _ z 2 _ _ (by omega) (by omega))
    case piece2 =>
      idx_vars u
      exact (xh1 _ _ _ _ _).trans (kmix_x _ _ _ _ z 1 _ _ (by omega) (by omega))
    case piece3 =>
      idx_vars u
      exact (xh0 _ _ _ _ _).trans (kmix_x _ _ _ _ z 0 _ _ (by omega) (by omega))
    case piece4 =>
      idx_vars u
      exact kmix_s _ _ _ _ z _ _ (by omega) (by omega)
  · have hm := mix_at m c t
    idx_vars y
    generalize kmix _ _ _ _ = mx at hm ⊢
    pointwise [k0_pay2, tailG, hm]
    rw [b6]
    simp only [b2, b5]
    rfl

end Cert.TailBProof
-- ==== Proof.TailBPair.lean ====
/- The second layer's output product: the five claims. -/
module

public import proofs.«01_k».proof.Defs
public import proofs.«01_k».proof.Proof.Gen.TailB.Frame
public import proofs.«01_k».proof.Proof.Gen.TailBIdeal.Frame
public import proofs.«01_k».proof.Proof.Gen.TailBRefIdeal
public import proofs.«01_k».proof.Proof.TailBValue
public import proofs.«01_k».proof.Proof.TailBRef

@[expose] public section

set_option maxRecDepth 16384

noncomputable section

namespace Cert.TailBProof

open Idealize.ShloMosaic Idealize.ShloMosaic.TcCoe Idealize.SL.Sem

theorem quiescent : Cert.quiescent_TailB := fun m g _ => Cert.TailB.Gen.frame m g

theorem quiescentIdeal : Cert.quiescent_TailBIdeal := fun m g _ => Cert.TailBIdeal.Gen.frame m g

theorem quiescentRef : Cert.quiescent_TailBRefIdeal := fun m g _ =>
  (θ_run Cert.TailBRefIdeal.defs _ _).mono
    (fun r h => ⟨fun c => (h c).2, sem_eq_zero_of_no_sems (by decide) r.2⟩)
    (Cert.TailBRefIdeal.Value.run (F := Ideal) m g)

theorem preserves : Cert.preserves_TailB_TailBIdeal := by
  trivial

theorem algebraic : Cert.algebraic_TailBIdeal_TailBRefIdeal := by
  pair_intro
  · run_from Cert.TailBIdeal.Gen.run_main m g
  · run_from Cert.TailBRefIdeal.Value.run m' g'
    rw [final]
    obtain ⟨h0, h1, h2, h3, h4⟩ := hagree c
    refine (res_eq m' c).trans ((tRes_eq _ _ _ _ _).trans ?_)
    rw [h0, h1, h2, h3, h4]

end Cert.TailBProof
-- ==== Proof.MixSSpec.lean ====
/- The sample's attention call: its results as functions of its arguments, in closed form. -/
module

public import proofs.«01_k».proof.Proof.AttnSpec
public import Idealize.ShloMosaic.Lib.Pipeline.ValueKit
public import Idealize.ShloMosaic.Lib.Pointwise
public import Idealize.ShloMosaic.Lib.Claim

@[expose] public section

noncomputable section

namespace Cert.MixSProof

open Idealize.ShloMosaic Idealize.ShloMosaic.TcCoe Idealize.SL.Sem
open Cert.AttnProof (ninf scl softRow)

/-- One row of attention with a sink over the cached and the new keys: the scores `s`, the values `v`, the sink's score `sk`. -/
def winRow (s v : Fin 136 → EReal) (sk : EReal) : EReal :=
  ∑ j, Ideal.div (Ideal.exp (s j - max (Finset.fold max ninf s Finset.univ) sk))
    (∑ j, Ideal.exp (s j - max (Finset.fold max ninf s Finset.univ) sk)
      + Ideal.exp (sk - max (Finset.fold max ninf s Finset.univ) sk)) * v j

theorem winRow_congr {s s' v v' : Fin 136 → EReal} {k k' : EReal} (h1 : ∀ j, s j = s' j) (h2 : ∀ j, v j = v' j) (h3 : k = k') :
    winRow s v k = winRow s' v' k' := by
  rw [funext h1, funext h2, h3]

/-- Whether the `r`-th new row attends to the `j`-th key. -/
def inWin (r j : ℕ) : Prop := j ≤ r + 128 ∧ r ≤ j

instance (r j : ℕ) : Decidable (inWin r j) := inferInstanceAs (Decidable (_ ∧ _))

/-- The `j`-th row of sequence `b`: the cached rows, then the new ones, which stand in the projection from column `o`. -/
def rowAt (p : FVec Ideal ⟨2, ![1024, 1536]⟩ .f32) (ch : FVec Ideal ⟨3, ![128, 128, 256]⟩ .f32) (o : ℕ) (ho : o ≤ 1280)
    (b : Fin 128) (j : Fin 136) (k : Fin 256) : EReal :=
  if h : j.val < 128 then ch (ix3 b ⟨j.val, h⟩ k) else p (ix2 ⟨b.val * 8 + (j.val - 128), by omega⟩ ⟨o + k.val, by omega⟩)

/-- The attention output of row `R` at column `k`: twelve heads over the window, then four over the memory. -/
def mixS (p : FVec Ideal ⟨2, ![1024, 1536]⟩ .f32) (ck cv : FVec Ideal ⟨3, ![128, 128, 256]⟩ .f32)
    (mk mv : FVec Ideal ⟨3, ![128, 256, 256]⟩ .f32) (sinks : FVec Ideal ⟨1, ![12]⟩ .f32) (R : Fin 1024) (k : Fin 1024) : EReal :=
  if h : k.val < 768 then
    winRow (fun j => if inWin (R.val % 8) j.val then
        ∑ e : Fin 64, p (ix2 R ⟨k.val / 192 * 192 + k.val / 64 % 3 * 64 + e.val, by omega⟩) * scl
          * rowAt p ck 768 (by decide) ⟨R.val / 8, by omega⟩ j ⟨k.val / 192 * 64 + e.val, by omega⟩ else ninf)
      (fun j => rowAt p cv 1024 (by decide) ⟨R.val / 8, by omega⟩ j ⟨k.val / 192 * 64 + k.val % 64, by omega⟩)
      (sinks (ix1 ⟨k.val / 64, by omega⟩))
  else
    softRow (fun j => ∑ e : Fin 64, p (ix2 R ⟨1280 + ((k.val / 64 - 12) * 64 + e.val), by omega⟩) * scl
        * mk (ix3 ⟨R.val / 8, by omega⟩ j ⟨(k.val / 64 - 12) * 64 + e.val, by omega⟩))
      (fun j => mv (ix3 ⟨R.val / 8, by omega⟩ j ⟨(k.val / 64 - 12) * 64 + k.val % 64, by omega⟩))

/-- The call's first result. -/
def outG (p : FVec Ideal ⟨2, ![1024, 1536]⟩ .f32) (x : FVec Ideal ⟨2, ![1024, 1024]⟩ .f32) (ck cv : FVec Ideal ⟨3, ![128, 128, 256]⟩ .f32)
    (mk mv : FVec Ideal ⟨3, ![128, 256, 256]⟩ .f32) (sinks : FVec Ideal ⟨1, ![12]⟩ .f32) (w : FVec Ideal ⟨2, ![1024, 1024]⟩ .f32) :
    FVec Ideal ⟨2, ![1024, 1024]⟩ .f32 :=
  fun y => x y + ∑ k : Fin 1024, mixS p ck cv mk mv sinks (y 0) k * w (ix2 k (y 1))

/-- A cache after the call: the last 128 rows. -/
def cacheG (p : FVec Ideal ⟨2, ![1024, 1536]⟩ .f32) (ch : FVec Ideal ⟨3, ![128, 128, 256]⟩ .f32) (o : ℕ) (ho : o ≤ 1280) :
    FVec Ideal ⟨3, ![128, 128, 256]⟩ .f32 :=
  fun y => rowAt p ch o ho (y 0) ⟨8 + (y 1).val, by have := (y 1).isLt; simp at this; omega⟩ (y 2)

/-- The mask's test, as a bit. -/
theorem inWin_bit (r j : ℕ) (hr : r < 8) (hj : j < 136) :
    IntOp.andi (IntOp.cmpi .sge (IntOp.subi (IntOp.addi (BitVec.ofNat 32 r) 128#32) (BitVec.ofNat 32 j)) 0#32)
        (IntOp.cmpi .sle (IntOp.subi (IntOp.addi (BitVec.ofNat 32 r) 128#32) (BitVec.ofNat 32 j)) 128#32)
      = if inWin r j then 1#1 else 0#1 := by
  have e1 := Cert.AttnProof.toInt_sub_small (r + 128) j (by omega) (by omega)
  rw [Cert.AttnProof.addi_ofNat, Cert.AttnProof.sge_ite _ _ _ 0 e1 rfl, Cert.AttnProof.sle_ite _ _ _ 128 e1 rfl, Cert.AttnProof.andi_ite]
  exact if_congr (by unfold inWin; push_cast; omega) rfl rfl

theorem remsi_8 : ∀ r : Fin 24, IntOp.remsi .vector (BitVec.ofNat 32 r.val) 8#32 = BitVec.ofNat 32 (r.val % 8) := by
  decide +kernel

end Cert.MixSProof
-- ==== Proof.MixSHeads.lean ====
/- The sample's attention call: each head of one sequence, read at a row and a column. -/
module

public import proofs.«01_k».proof.Proof.Gen.MixSIdeal.Value
public import proofs.«01_k».proof.Proof.AttnHeads
public import proofs.«01_k».proof.Proof.MixSSpec
public import Idealize.ShloMosaic.Lib.Pipeline.ValueKit
public import Idealize.ShloMosaic.Lib.Pointwise
public import Idealize.ShloMosaic.Lib.Claim

@[expose] public section

set_option maxRecDepth 16384

noncomputable section

namespace Cert.MixSProof

open Idealize.ShloMosaic Idealize.ShloMosaic.TcCoe Idealize.SL.Sem
open Idealize.ShloMosaic.Pipeline (Dat)
open Cert.AttnProof (ninf scl softRow slt_one slt_zero sel1 sel0)
open Cert.MixSIdeal Cert.MixSIdeal.Gen

theorem s0a (r : Fin 8) : IntOp.cmpi .slt (BitVec.ofNat 32 ↑r) 8#32 = 1#1 := slt_one _ _ (by omega) (by decide)
theorem s0b (r : Fin 8) : IntOp.cmpi .slt (BitVec.ofNat 32 ↑r) 16#32 = 1#1 := slt_one _ _ (by omega) (by decide)
theorem s1a (r : Fin 8) : IntOp.cmpi .slt (BitVec.ofNat 32 (8 + ↑r)) 8#32 = 0#1 := slt_zero _ _ (by omega) (by omega)
theorem s1b (r : Fin 8) : IntOp.cmpi .slt (BitVec.ofNat 32 (8 + ↑r)) 16#32 = 1#1 := slt_one _ _ (by omega) (by decide)
theorem s2a (r : Fin 8) : IntOp.cmpi .slt (BitVec.ofNat 32 (16 + ↑r)) 8#32 = 0#1 := slt_zero _ _ (by omega) (by omega)
theorem s2b (r : Fin 8) : IntOp.cmpi .slt (BitVec.ofNat 32 (16 + ↑r)) 16#32 = 0#1 := slt_zero _ _ (by omega) (by omega)

/-- Head `3 h + g` of one sequence: row `r`, column `d`. -/
def headAt (Q : FVec Ideal S8x768 .f32) (K : FVec Ideal S136x256 .f32) (V : FVec Ideal S136x256 .bf16) (M : IVec S24x136 1) (sk : EReal)
    (h : Fin 4) (g : Fin 3) (r : Fin 8) (d : Fin 64) : EReal :=
  winRow (fun j => Scalar.select (M (ix2 ⟨g.val * 8 + r.val, by omega⟩ j))
      (∑ e : Fin 64, Q (ix2 r ⟨h.val * 192 + g.val * 64 + e.val, by omega⟩) * K (ix2 j ⟨h.val * 64 + e.val, by omega⟩)) ninf)
    (fun j => V (ix2 j ⟨h.val * 64 + d.val, by omega⟩)) sk

/-- Cross-attention head `h` of one sequence: row `r`, column `d`. -/
def xheadAt (Q : FVec Ideal S8x256 .f32) (K V : FVec Ideal S1x256x256 .f32) (h : Fin 4) (r : Fin 8) (d : Fin 64) : EReal :=
  softRow (fun j => ∑ e : Fin 64, Q (ix2 r ⟨h.val * 64 + e.val, by omega⟩) * Ideal.ofBits .f32 0x3E000000#32
      * K (ix3 0 j ⟨h.val * 64 + e.val, by omega⟩))
    (fun j => V (ix3 0 j ⟨h.val * 64 + d.val, by omega⟩))

section
variable (M : IVec S24x136 1) (Q : FVec Ideal S8x768 .f32) (K : FVec Ideal S136x256 .f32) (vn : FVec Ideal S8x256 .f32)
  (vc : FVec Ideal S128x256 .f32) (V : FVec Ideal S136x256 .bf16) (s0 s1 s2 : EReal) (r : Fin 8) (d : Fin 64)

set_option maxHeartbeats 1600000 in
theorem hd00 : k0_pay16 (F := Ideal) M Q vn vc K s2 s1 s0 (ix2 r d) = headAt Q K (k0_pay14 vn vc) M s0 0 0 r d := by
  pointwise [k0_pay16, k0_pay15, k0_pay13, headAt, winRow]
  simp only [s0a, s0b, s1a, s1b, s2a, s2b, sel1, sel0]

set_option maxHeartbeats 1600000 in
theorem hd01 : k0_pay17 (F := Ideal) (k0_pay15 M Q vn vc K s2 s1 s0) (ix2 r d) = headAt Q K (k0_pay14 vn vc) M s1 0 1 r d := by
  pointwise [k0_pay17, k0_pay15, k0_pay13, headAt, winRow]
  simp only [s0a, s0b, s1a, s1b, s2a, s2b, sel1, sel0]

set_option maxHeartbeats 1600000 in
theorem hd02 : k0_pay18 (F := Ideal) (k0_pay15 M Q vn vc K s2 s1 s0) (ix2 r d) = headAt Q K (k0_pay14 vn vc) M s2 0 2 r d := by
  pointwise [k0_pay18, k0_pay15, k0_pay13, headAt, winRow]
  simp only [s0a, s0b, s1a, s1b, s2a, s2b, sel1, sel0]
  simp only [show ¬ (16 + (r : ℕ) < 8) by omega, show ¬ (16 + (r : ℕ) - 8 < 8) by omega, dite_false,
    show 16 + (r : ℕ) - 8 - 8 = r by omega]

set_option maxHeartbeats 1600000 in
theorem hd10 : k0_pay27 (F := Ideal) (k0_pay19 V) (k0_pay23 M Q (k0_pay13 K) s2 s1 s0) (k0_pay24 M Q (k0_pay13 K) s2 s1 s0) (k0_pay25 M Q (k0_pay13 K) s2 s1 s0) (ix2 r d) = headAt Q K (V) M s0 1 0 r d := by
  pointwise [k0_pay27, k0_pay26, k0_pay25, k0_pay24, k0_pay23, k0_pay22, k0_pay21, k0_pay20, k0_pay19, k0_pay13, headAt, winRow]
  simp only [s0a, s0b, s1a, s1b, s2a, s2b, sel1, sel0]

set_option maxHeartbeats 1600000 in
theorem hd11 : k0_pay28 (F := Ideal) (k0_pay19 V) (k0_pay23 M Q (k0_pay13 K) s2 s1 s0) (k0_pay24 M Q (k0_pay13 K) s2 s1 s0) (k0_pay25 M Q (k0_pay13 K) s2 s1 s0) (ix2 r d) = headAt Q K (V) M s1 1 1 r d := by
  pointwise [k0_pay28, k0_pay26, k0_pay25, k0_pay24, k0_pay23, k0_pay22, k0_pay21, k0_pay20, k0_pay19, k0_pay13, headAt, winRow]
  simp only [s0a, s0b, s1a, s1b, s2a, s2b, sel1, sel0]

set_option maxHeartbeats 1600000 in
theorem hd12 : k0_pay29 (F := Ideal) (k0_pay19 V) (k0_pay23 M Q (k0_pay13 K) s2 s1 s0) (k0_pay24 M Q (k0_pay13 K) s2 s1 s0) (k0_pay25 M Q (k0_pay13 K) s2 s1 s0) (ix2 r d) = headAt Q K (V) M s2 1 2 r d := by
  pointwise [k0_pay29, k0_pay26, k0_pay25, k0_pay24, k0_pay23, k0_pay22, k0_pay21, k0_pay20, k0_pay19, k0_pay13, headAt, winRow]
  simp only [s0a, s0b, s1a, s1b, s2a, s2b, sel1, sel0]
  simp only [show ¬ (16 + (r : ℕ) < 8) by omega, show ¬ (16 + (r : ℕ) - 8 < 8) by omega, dite_false,
    show 16 + (r : ℕ) - 8 - 8 = r by omega]

set_option maxHeartbeats 1600000 in
theorem hd20 : k0_pay34 (F := Ideal) (k0_pay30 V) (k0_pay31 s2 s1 s0) (k0_pay32 M Q (k0_pay13 K)) (ix2 r d) = headAt Q K (V) M s0 2 0 r d := by
  pointwise [k0_pay34, k0_pay33, k0_pay30, k0_pay31, k0_pay32, k0_pay13, headAt, winRow]
  simp only [s0a, s0b, s1a, s1b, s2a, s2b, sel1, sel0]

set_option maxHeartbeats 1600000 in
theorem hd21 : k0_pay35 (F := Ideal) (k0_pay30 V) (k0_pay31 s2 s1 s0) (k0_pay32 M Q (k0_pay13 K)) (ix2 r d) = headAt Q K (V) M s1 2 1 r d := by
  pointwise [k0_pay35, k0_pay33, k0_pay30, k0_pay31, k0_pay32, k0_pay13, headAt, winRow]
  simp only [s0a, s0b, s1a, s1b, s2a, s2b, sel1, sel0]

set_option maxHeartbeats 1600000 in
theorem hd22 : k0_pay36 (F := Ideal) (k0_pay30 V) (k0_pay31 s2 s1 s0) (k0_pay32 M Q (k0_pay13 K)) (ix2 r d) = headAt Q K (V) M s2 2 2 r d := by
  pointwise [k0_pay36, k0_pay33, k0_pay30, k0_pay31, k0_pay32, k0_pay13, headAt, winRow]
  simp only [s0a, s0b, s1a, s1b, s2a, s2b, sel1, sel0]
  simp only [show ¬ (16 + (r : ℕ) < 8) by omega, show ¬ (16 + (r : ℕ) - 8 < 8) by omega, dite_false,
    show 16 + (r : ℕ) - 8 - 8 = r by omega]

set_option maxHeartbeats 1600000 in
theorem hd30 : k0_pay42 (F := Ideal) M (k0_pay37 Q) (k0_pay38 (k0_pay13 K)) (k0_pay39 V) (iota Kind.tc S24x1 32 [0] iota_S24x1_d0_w32) (k0_pay40 s2 s1) 8#32 s0 (ix2 r d) = headAt Q K (V) M s0 3 0 r d := by
  pointwise [k0_pay42, k0_pay41, k0_pay37, k0_pay38, k0_pay39, k0_pay40, k0_pay13, headAt, winRow]
  simp only [s0a, s0b, s1a, s1b, s2a, s2b, sel1, sel0]

set_option maxHeartbeats 1600000 in
theorem hd31 : k0_pay43 (F := Ideal) M (k0_pay37 Q) (k0_pay38 (k0_pay13 K)) (k0_pay39 V) (iota Kind.tc S24x1 32 [0] iota_S24x1_d0_w32) (k0_pay40 s2 s1) 8#32 s0 (ix2 r d) = headAt Q K (V) M s1 3 1 r d := by
  pointwise [k0_pay43, k0_pay41, k0_pay37, k0_pay38, k0_pay39, k0_pay40, k0_pay13, headAt, winRow]
  simp only [s0a, s0b, s1a, s1b, s2a, s2b, sel1, sel0]

set_option maxHeartbeats 1600000 in
theorem hd32 : k0_pay44 (F := Ideal) M (k0_pay37 Q) (k0_pay38 (k0_pay13 K)) (k0_pay39 V) (iota Kind.tc S24x1 32 [0] iota_S24x1_d0_w32) (k0_pay40 s2 s1) 8#32 s0 (ix2 r d) = headAt Q K (V) M s2 3 2 r d := by
  pointwise [k0_pay44, k0_pay41, k0_pay37, k0_pay38, k0_pay39, k0_pay40, k0_pay13, headAt, winRow]
  simp only [s0a, s0b, s1a, s1b, s2a, s2b, sel1, sel0]
  simp only [show ¬ (16 + (r : ℕ) < 8) by omega, show ¬ (16 + (r : ℕ) - 8 < 8) by omega, dite_false,
    show 16 + (r : ℕ) - 8 - 8 = r by omega]

end

section
variable (q : FVec Ideal S8x256 .f32) (k v : FVec Ideal S1x256x256 .f32) (r : Fin 8) (d : Fin 64)

theorem xh0 : k0_pay48 (F := Ideal) q (k0_pay45 k) v (ix2 r d) = xheadAt q k v 0 r d := by
  pointwise [k0_pay48, k0_pay45, k0_pay46, k0_pay47, xheadAt, softRow]

theorem xh1 : k0_pay49 (F := Ideal) q (k0_pay45 k) v (ix2 r d) = xheadAt q k v 1 r d := by
  pointwise [k0_pay49, k0_pay45, k0_pay46, k0_pay47, xheadAt, softRow]

theorem xh2 : k0_pay2 (F := Ideal) (k0_pay46 v) (k0_pay50 q) (k0_pay51 (k0_pay45 k)) (constant S8x256 .f32 0x00000000#32) (ix2 r d)
    = xheadAt q k v 2 r d := by
  pointwise [k0_pay2, k0_pay45, k0_pay46, k0_pay47, k0_pay50, k0_pay51, xheadAt, softRow]

theorem xh3 : k0_pay3 (F := Ideal) (k0_pay45 k) (k0_pay46 v) (k0_pay47 q) (ix2 r d) = xheadAt q k v 3 r d := by
  pointwise [k0_pay3, k0_pay45, k0_pay46, k0_pay47, xheadAt, softRow]

end

end Cert.MixSProof
-- ==== Proof.MixSTrip.lean ====
/- The sample's attention call: what one trip of the kernel's loop stores. -/
module

public import proofs.«01_k».proof.Proof.MixSHeads
public import proofs.«01_k».proof.Proof.AttnValue
public import Idealize.ShloMosaic.Lib.Pipeline.ValueKit
public import Idealize.ShloMosaic.Lib.Pipeline.ReadBack
public import Idealize.ShloMosaic.Lib.WholeRead
public import Idealize.ShloMosaic.Lib.Pointwise
public import Idealize.ShloMosaic.Lib.Claim

@[expose] public section

set_option maxRecDepth 16384

noncomputable section

namespace Cert.MixSProof

open Idealize.ShloMosaic Idealize.ShloMosaic.TcCoe Idealize.SL.Sem
open Idealize.ShloMosaic.Pipeline (Dat)
open Cert.AttnProof (ninf scl softRow softRow_congr select_ite)
open Cert.MixSIdeal Cert.MixSIdeal.Gen

/-- The `j`-th row of a grid point's sequence `b`. -/
def rowB (x1 : FVec Ideal S128x1536 .f32) (x : FVec Ideal S16x128x256 .f32) (o : ℕ) (ho : o ≤ 1280)
    (b : Fin 16) (j : Fin 136) (k : Fin 256) : EReal :=
  if h : j.val < 128 then x (ix3 b ⟨j.val, h⟩ k) else x1 (ix2 ⟨b.val * 8 + (j.val - 128), by omega⟩ ⟨o + k.val, by omega⟩)

/-- The attention outputs of one grid point. -/
def mixB (x0 : FVec Ideal S1x12 .f32) (x1 : FVec Ideal S128x1536 .f32) (x3 x4 : FVec Ideal S16x128x256 .f32)
    (x5 x6 : FVec Ideal S16x256x256 .f32) : FVec Ideal S128x1024 .f32 := fun z =>
  if h : (z 1).val < 768 then
    winRow (fun j => if inWin ((z 0).val % 8) j.val then
        ∑ e : Fin 64, x1 (ix2 (z 0) ⟨(z 1).val / 192 * 192 + (z 1).val / 64 % 3 * 64 + e.val, by omega⟩) * scl
          * rowB x1 x3 768 (by decide) ⟨(z 0).val / 8, by have := (z 0).isLt; simp at this; omega⟩ j ⟨(z 1).val / 192 * 64 + e.val, by omega⟩ else ninf)
      (fun j => rowB x1 x4 1024 (by decide) ⟨(z 0).val / 8, by have := (z 0).isLt; simp at this; omega⟩ j ⟨(z 1).val / 192 * 64 + (z 1).val % 64, by omega⟩)
      (x0 (ix2 0 ⟨(z 1).val / 64, by omega⟩))
  else
    softRow (fun j => ∑ e : Fin 64, x1 (ix2 (z 0) ⟨1280 + (((z 1).val / 64 - 12) * 64 + e.val), by have := (z 1).isLt; simp at this; omega⟩) * scl
        * x5 (ix3 ⟨(z 0).val / 8, by have := (z 0).isLt; simp at this; omega⟩ j ⟨((z 1).val / 64 - 12) * 64 + e.val, by have := (z 1).isLt; simp at this; omega⟩))
      (fun j => x6 (ix3 ⟨(z 0).val / 8, by have := (z 0).isLt; simp at this; omega⟩ j ⟨((z 1).val / 64 - 12) * 64 + (z 1).val % 64, by have := (z 1).isLt; simp at this; omega⟩))

/-- A grid point's block of a cache after the call. -/
def cacheB (x1 : FVec Ideal S128x1536 .f32) (x : FVec Ideal S16x128x256 .f32) (o : ℕ) (ho : o ≤ 1280) : FVec Ideal S16x128x256 .f32 :=
  fun y => rowB x1 x o ho (y 0) ⟨8 + (y 1).val, by have := (y 1).isLt; simp at this; omega⟩ (y 2)

/-- The offsets of the loop's accesses. -/
theorem offs : ∀ k : Fin k0_t1_loop.trips, k.val < 16
    ∧ k0_off1 k = ![8 * k.val, 0]
    ∧ k0_off2 k = ![8 * k.val, 768]
    ∧ k0_off3 k = ![8 * k.val, 1024]
    ∧ k0_off4 k = ![8 * k.val, 1280]
    ∧ k0_off5 k = ![k.val, 0, 0]
    ∧ k0_off6 k = ![k.val, 0, 0]
    ∧ k0_off7 k = ![k.val, 120, 0]
    ∧ k0_off8 k = ![8 * k.val, 0]
    ∧ k0_off9 k = ![8 * k.val, 64]
    ∧ k0_off10 k = ![8 * k.val, 128]
    ∧ k0_off11 k = ![8 * k.val, 192]
    ∧ k0_off12 k = ![8 * k.val, 256]
    ∧ k0_off13 k = ![8 * k.val, 320]
    ∧ k0_off14 k = ![8 * k.val, 384]
    ∧ k0_off15 k = ![8 * k.val, 448]
    ∧ k0_off16 k = ![8 * k.val, 512]
    ∧ k0_off17 k = ![8 * k.val, 576]
    ∧ k0_off18 k = ![8 * k.val, 640]
    ∧ k0_off19 k = ![8 * k.val, 704]
    ∧ k0_off20 k = ![k.val, 0, 0]
    ∧ k0_off21 k = ![8 * k.val, 768]
    ∧ k0_off22 k = ![8 * k.val, 832]
    ∧ k0_off23 k = ![8 * k.val, 896]
    ∧ k0_off24 k = ![8 * k.val, 960] := by
  decide +kernel

theorem mask_at (r : Fin 24) (j : Fin 136) : k0_pay1 (ix2 r j) = if inWin (r.val % 8) j.val then 1#1 else 0#1 := by
  refine Eq.trans ?_ (inWin_bit (r.val % 8) j (by omega) j.isLt)
  rw [← remsi_8]
  pointwise [k0_pay1]

section
variable (arg1 : Memref sig .tc .smem S1x12 .f32) (harg1 : arg1.IsWhole) (arg2 : Memref sig .tc .vmem S128x1536 .f32) (harg2 : arg2.IsWhole) (arg4 : Memref sig .tc .vmem S16x128x256 .f32) (harg4 : arg4.IsWhole) (arg6 : Memref sig .tc .vmem S16x256x256 .f32) (harg6 : arg6.IsWhole)
  (x0 : Vec Ideal S1x12 .f32) (x1 : Vec Ideal S128x1536 .f32) (x3 : Vec Ideal S16x128x256 .f32) (x5 : Vec Ideal S16x256x256 .f32)

theorem sink_at (n : ℕ) (hn : n < 12)
    (h : ∀ a, (![0, n] : Fin 2 → ℕ) a + S1x1.size a ≤ S1x12.size a)
    (hp : 0 < (Rect.unit (s := S1x12) ![0, n] S1x1.size h).shape.numel) :
    View.readAt (Elt Ideal) arg1.view (Rect.unit (s := S1x12) ![0, n] S1x1.size h).toLoadRect (harg1.unread x0) (Shape.Idx.first hp)
      = x0 (ix2 0 ⟨n, hn⟩) := by
  rw [harg1.readAt_unread]
  refine congrArg x0 ?_
  funext a
  apply Fin.ext
  have e : ((Shape.Idx.first hp) a).val = 0 := Nat.lt_one_iff.mp (by have := ((Shape.Idx.first hp) a).isLt; fin_cases a <;> exact this)
  fin_cases a
  · exact (Nat.zero_add _).trans ((Nat.one_mul _).trans e)
  · exact congrArg (n + ·) ((Nat.one_mul _).trans e)

theorem ld2 (off : Fin 2 → ℕ) {a b : ℕ} (h) (r : Fin a) (j : Fin b) (R : Fin 128) (J : Fin 1536)
    (h0 : R.val = off 0 + r.val) (h1 : J.val = off 1 + j.val) :
    View.readAt (Elt Ideal) arg2.view (Rect.unit (s := S128x1536) off ![a, b] h).toLoadRect (harg2.unread x1) (ix2 r j) = x1 (ix2 R J) := by
  rw [harg2.readAt_unread]
  refine congrArg x1 ?_
  funext a
  apply Fin.ext
  fin_cases a
  · exact (congrArg (off 0 + ·) (Nat.one_mul _)).trans h0.symm
  · exact (congrArg (off 1 + ·) (Nat.one_mul _)).trans h1.symm

theorem ld3 {n : ℕ} (off : Fin 3 → ℕ) {a b c : ℕ} (arg : Memref sig .tc .vmem ⟨3, ![16, n, 256]⟩ .f32) (harg : arg.IsWhole)
    (x : Vec Ideal ⟨3, ![16, n, 256]⟩ .f32) (h) (r : Fin a) (j : Fin b) (k : Fin c) (R : Fin 16) (J : Fin n) (K : Fin 256)
    (h0 : R.val = off 0 + r.val) (h1 : J.val = off 1 + j.val) (h2 : K.val = off 2 + k.val) :
    View.readAt (Elt Ideal) arg.view (Rect.unit (s := ⟨3, ![16, n, 256]⟩) off ![a, b, c] h).toLoadRect (harg.unread x) (ix3 r j k) = x (ix3 R J K) := by
  rw [harg.readAt_unread]
  refine congrArg x ?_
  funext a
  apply Fin.ext
  fin_cases a
  · exact (congrArg (off 0 + ·) (Nat.one_mul _)).trans h0.symm
  · exact (congrArg (off 1 + ·) (Nat.one_mul _)).trans h1.symm
  · exact (congrArg (off 2 + ·) (Nat.one_mul _)).trans h2.symm
end

theorem pay12_at (n : FVec Ideal S8x256 .f32) (ch : FVec Ideal S1x128x256 .f32) (j : Fin 136) (k : Fin 256) : k0_pay12 (F := Ideal) n ch (ix2 j k)
    = if h : j.val < 128 then ch (ix3 0 ⟨j.val, h⟩ k) else n (ix2 ⟨j.val - 128, by omega⟩ k) := by
  pointwise [k0_pay12, k0_pay6]

theorem pay14_at (n : FVec Ideal S8x256 .f32) (ch : FVec Ideal S1x128x256 .f32) (j : Fin 136) (k : Fin 256) : k0_pay14 (F := Ideal) n (k0_pay7 ch) (ix2 j k)
    = if h : j.val < 128 then ch (ix3 0 ⟨j.val, h⟩ k) else n (ix2 ⟨j.val - 128, by omega⟩ k) := by
  pointwise [k0_pay14, k0_pay7]

theorem pay5_at (q : FVec Ideal S8x768 .f32) (r : Fin 8) (k : Fin 768) : k0_pay5 (F := Ideal) q (ix2 r k) = q (ix2 r k) * scl := by
  pointwise [k0_pay5]

theorem pay8_at (ch : FVec Ideal S1x128x256 .f32) (i : Fin 1) (j : Fin 120) (k : Fin 256) : k0_pay8 (F := Ideal) ch (ix3 i j k)
    = ch (ix3 0 ⟨8 + j.val, by omega⟩ k) := by
  pointwise [k0_pay8, k0_pay6]

theorem pay10_at (ch : FVec Ideal S1x128x256 .f32) (i : Fin 1) (j : Fin 120) (k : Fin 256) : k0_pay10 (F := Ideal) ch (ix3 i j k)
    = ch (ix3 0 ⟨8 + j.val, by omega⟩ k) := by
  pointwise [k0_pay10, k0_pay7]

theorem pay9_at (n : FVec Ideal S8x256 .f32) (i : Fin 1) (j : Fin 8) (k : Fin 256) : k0_pay9 (F := Ideal) n (ix3 i j k) = n (ix2 j k) := by
  pointwise [k0_pay9]

theorem pay11_at (n : FVec Ideal S8x256 .f32) (i : Fin 1) (j : Fin 8) (k : Fin 256) : k0_pay11 (F := Ideal) n (ix3 i j k) = n (ix2 j k) := by
  pointwise [k0_pay11]

section
variable (x0 : FVec Ideal S1x12 .f32) (x1 : FVec Ideal S128x1536 .f32) (x3 x4 : FVec Ideal S16x128x256 .f32) (x5 x6 : FVec Ideal S16x256x256 .f32)
  (k : Fin 16) (q : FVec Ideal S8x768 .f32) (n1 n2 xq : FVec Ideal S8x256 .f32) (c1 c2 : FVec Ideal S1x128x256 .f32) (m1 m2 : FVec Ideal S1x256x256 .f32)

/-- What one trip loads, named by its places in the blocks. -/
structure Loads : Prop where
  q : ∀ (r : Fin 8) (j : Fin 768), q (ix2 r j) = x1 (ix2 ⟨k.val * 8 + r.val, by omega⟩ ⟨j.val, by omega⟩)
  n1 : ∀ (r : Fin 8) (j : Fin 256), n1 (ix2 r j) = x1 (ix2 ⟨k.val * 8 + r.val, by omega⟩ ⟨768 + j.val, by omega⟩)
  n2 : ∀ (r : Fin 8) (j : Fin 256), n2 (ix2 r j) = x1 (ix2 ⟨k.val * 8 + r.val, by omega⟩ ⟨1024 + j.val, by omega⟩)
  xq : ∀ (r : Fin 8) (j : Fin 256), xq (ix2 r j) = x1 (ix2 ⟨k.val * 8 + r.val, by omega⟩ ⟨1280 + j.val, by omega⟩)
  c1 : ∀ (r : Fin 128) (j : Fin 256), c1 (ix3 0 r j) = x3 (ix3 k r j)
  c2 : ∀ (r : Fin 128) (j : Fin 256), c2 (ix3 0 r j) = x4 (ix3 k r j)
  m1 : ∀ r j : Fin 256, m1 (ix3 0 r j) = x5 (ix3 k r j)
  m2 : ∀ r j : Fin 256, m2 (ix3 0 r j) = x6 (ix3 k r j)

variable {x1 x3 x4 x5 x6 k q n1 n2 xq c1 c2 m1 m2} (L : Loads x1 x3 x4 x5 x6 k q n1 n2 xq c1 c2 m1 m2)
include L

theorem key_at (j : Fin 136) (e : Fin 256) : k0_pay12 (F := Ideal) n1 c1 (ix2 j e) = rowB x1 x3 768 (by decide) k j e := by
  rw [pay12_at]
  unfold rowB
  by_cases hj : j.val < 128
  · rw [dif_pos hj, dif_pos hj, L.c1]
  · rw [dif_neg hj, dif_neg hj, L.n1]

theorem val_at (j : Fin 136) (e : Fin 256) : k0_pay14 (F := Ideal) n2 (k0_pay7 c2) (ix2 j e) = rowB x1 x4 1024 (by decide) k j e := by
  rw [pay14_at]
  unfold rowB
  by_cases hj : j.val < 128
  · rw [dif_pos hj, dif_pos hj, L.c2]
  · rw [dif_neg hj, dif_neg hj, L.n2]

theorem mixB_head (z : S128x1024.Idx) (h : Fin 4) (g : Fin 3) (r : Fin 8) (d : Fin 64) (s : EReal)
    (hs : s = x0 (ix2 0 ⟨h.val * 3 + g.val, by omega⟩))
    (h0 : (z 0).val = k.val * 8 + r.val) (h1 : (z 1).val = h.val * 192 + g.val * 64 + d.val) :
    headAt (k0_pay5 (F := Ideal) q) (k0_pay12 n1 c1) (k0_pay14 n2 (k0_pay7 c2)) k0_pay1 s h g r d = mixB x0 x1 x3 x4 x5 x6 z := by
  unfold mixB headAt
  rw [dif_pos (by omega)]
  have e0 : (z 0 : Fin 128) = ⟨k.val * 8 + r.val, by omega⟩ := Fin.ext h0
  have e1 : (z 1).val / 192 = h.val := by omega
  have e2 : (z 1).val / 64 % 3 = g.val := by omega
  have e3 : (z 1).val / 64 = h.val * 3 + g.val := by omega
  have e4 : (z 1).val % 64 = d.val := by omega
  have e5 : (z 0).val / 8 = k.val := by omega
  have e6 : (z 0).val % 8 = r.val := by omega
  have e7 : (g.val * 8 + r.val) % 8 = r.val := by omega
  refine winRow_congr (fun j => ?_) (fun j => ?_) ?_
  · rw [mask_at, select_ite]
    simp only [e1, e2, e5, e6, e7]
    refine if_congr Iff.rfl (Finset.sum_congr rfl fun e _ => ?_) rfl
    rw [pay5_at, key_at L, L.q]
    simp only [e0, Fin.eta, show (k.val * 8 + r.val) / 8 = k.val by omega]
    rfl
  · rw [val_at L]
    simp only [e1, e4, e5, Fin.eta]
  · rw [hs]
    simp only [e3]

theorem mixB_x (z : S128x1024.Idx) (h : Fin 4) (r : Fin 8) (d : Fin 64)
    (h0 : (z 0).val = k.val * 8 + r.val) (h1 : (z 1).val = 768 + h.val * 64 + d.val) :
    xheadAt xq m1 m2 h r d = mixB x0 x1 x3 x4 x5 x6 z := by
  unfold mixB xheadAt
  rw [dif_neg (by omega)]
  have e0 : (z 0 : Fin 128) = ⟨k.val * 8 + r.val, by omega⟩ := Fin.ext h0
  have e3 : (z 1).val / 64 - 12 = h.val := by omega
  have e4 : (z 1).val % 64 = d.val := by omega
  have e5 : (z 0).val / 8 = k.val := by omega
  refine softRow_congr (fun j => Finset.sum_congr rfl fun e _ => ?_) (fun j => ?_)
  · rw [L.xq, L.m1]
    simp only [e0, e3, e5, Fin.eta, show (k.val * 8 + r.val) / 8 = k.val by omega]
    rfl
  · rw [L.m2]
    simp only [e3, e4, e5, Fin.eta]
end

end Cert.MixSProof
-- ==== Proof.MixSValue.lean ====
/- The sample's attention call: the arrays the kernel leaves are the closed forms of the arguments. -/
module

public import proofs.«01_k».proof.Proof.MixSTrip
public import proofs.«01_k».proof.Proof.AttnValue
public import Idealize.ShloMosaic.Lib.Pipeline.ValueKit
public import Idealize.ShloMosaic.Lib.Pipeline.ReadBack
public import Idealize.ShloMosaic.Lib.WholeRead
public import Idealize.ShloMosaic.Lib.Pointwise
public import Idealize.ShloMosaic.Lib.Claim

@[expose] public section

set_option maxRecDepth 16384

noncomputable section

namespace Cert.MixSProof

open Idealize.ShloMosaic Idealize.ShloMosaic.TcCoe Idealize.SL.Sem
open Idealize.ShloMosaic.Pipeline (Dat)
open Cert.AttnProof (ninf scl softRow softRow_congr select_ite)
open Cert.MixSIdeal Cert.MixSIdeal.Gen

theorem piecesOf_append {S : Shape} {e : EltTy} (G : S.Idx → Elt Ideal e) : ∀ (L L' : List (View.Piece (Elt Ideal) S e)),
    View.PiecesOf G L → View.PiecesOf G L' → View.PiecesOf G (L ++ L')
  | [], _, _, h => h
  | _ :: L, L', h1, h2 => ⟨h1.1, piecesOf_append G L L' h1.2 h2⟩

theorem piece2 (k n : ℕ) (off : Fin 2 → ℕ) (ho : off = ![8 * k, n]) (h : ∀ a, off a + S8x64.size a ≤ S128x1024.size a)
    (pay : FVec Ideal S8x64 .f32) (G : S128x1024.Idx → EReal)
    (H : ∀ (z : S128x1024.Idx) (r : Fin 8) (d : Fin 64), (z 0).val = k * 8 + r.val → (z 1).val = n + d.val → pay (ix2 r d) = G z)
    (u : S8x64.Idx) : pay u = G ((Rect.unit (s := S128x1024) off S8x64.size h).emb u) := by
  subst ho
  idx_vars u
  refine H _ u0 u1 ?_ ?_
  · refine (ValueKit.rect_emb_unit_val _ _ _ _ _).trans ?_
    show 8 * k + u0.val = _
    omega
  · exact ValueKit.rect_emb_unit_val _ _ _ _ _

theorem piece3 {w : ℕ} (k n : ℕ) (off : Fin 3 → ℕ) (ho : off = ![k, n, 0]) (h : ∀ a, off a + (⟨3, ![1, w, 256]⟩ : Shape).size a ≤ S16x128x256.size a)
    (pay : FVec Ideal ⟨3, ![1, w, 256]⟩ .f32) (G : S16x128x256.Idx → EReal)
    (H : ∀ (z : S16x128x256.Idx) (i : Fin 1) (r : Fin w) (d : Fin 256), (z 0).val = k → (z 1).val = n + r.val → (z 2).val = d.val → pay (ix3 i r d) = G z)
    (u : (⟨3, ![1, w, 256]⟩ : Shape).Idx) : pay u = G ((Rect.unit (s := S16x128x256) off (⟨3, ![1, w, 256]⟩ : Shape).size h).emb u) := by
  subst ho
  have eu : u = ix3 (u 0) (u 1) (u 2) := by
    funext a
    match a with
    | ⟨0, _⟩ => rfl
    | ⟨1, _⟩ => rfl
    | ⟨2, _⟩ => rfl
  refine (congrArg pay eu).trans (H _ (u 0) (u 1) (u 2) ?_ ?_ ?_)
  · refine (ValueKit.rect_emb_unit_val _ _ _ _ _).trans ?_
    have h0 : (u 0).val < 1 := (u 0).isLt
    show k + (u 0).val = _
    omega
  · exact ValueKit.rect_emb_unit_val _ _ _ _ _
  · exact (ValueKit.rect_emb_unit_val _ _ _ _ _).trans (Nat.zero_add _)

section
variable (𝒱 : Variants) (c : Dev nD) (bd : Option 𝒱.V) (i : grid0.Coords) (arg1 : Memref sig .tc .smem S1x12 .f32) (harg1 : arg1.IsWhole) (arg2 : Memref sig .tc .vmem S128x1536 .f32) (harg2 : arg2.IsWhole) (arg3 : Memref sig .tc .vmem S128x1024 .f32) (harg3 : arg3.IsWhole) (arg4 : Memref sig .tc .vmem S16x128x256 .f32) (harg4 : arg4.IsWhole) (arg5 : Memref sig .tc .vmem S16x128x256 .f32) (harg5 : arg5.IsWhole) (arg6 : Memref sig .tc .vmem S16x256x256 .f32) (harg6 : arg6.IsWhole) (arg7 : Memref sig .tc .vmem S16x256x256 .f32) (harg7 : arg7.IsWhole) (arg8 : Memref sig .tc .vmem S1024x1024 .bf16) (harg8 : arg8.IsWhole) (arg9 : Memref sig .tc .vmem S128x1024 .f32) (harg9 : arg9.IsWhole) (arg10 : Memref sig .tc .vmem S16x128x256 .f32) (harg10 : arg10.IsWhole) (arg11 : Memref sig .tc .vmem S16x128x256 .f32) (harg11 : arg11.IsWhole) (arg12 : Memref sig .tc .vmem S128x1024 .f32) (harg12 : arg12.IsWhole)
  (x0 : Vec Ideal S1x12 .f32) (x1 : Vec Ideal S128x1536 .f32) (x3 x4 : Vec Ideal S16x128x256 .f32) (x5 x6 : Vec Ideal S16x256x256 .f32) (k : Fin k0_t1_loop.trips)

theorem loads : Loads x1 x3 x4 x5 x6 ⟨k.val, (offs k).1⟩
    (View.readAt (Elt Ideal) arg2.view (Rect.unit (s := S128x1536) (k0_off1 k) S8x768.size (k0_off1_inb k)).toLoadRect (harg2.unread x1))
    (View.readAt (Elt Ideal) arg2.view (Rect.unit (s := S128x1536) (k0_off2 k) S8x256.size (k0_off2_inb k)).toLoadRect (harg2.unread x1))
    (View.readAt (Elt Ideal) arg2.view (Rect.unit (s := S128x1536) (k0_off3 k) S8x256.size (k0_off3_inb k)).toLoadRect (harg2.unread x1))
    (View.readAt (Elt Ideal) arg2.view (Rect.unit (s := S128x1536) (k0_off4 k) S8x256.size (k0_off4_inb k)).toLoadRect (harg2.unread x1))
    (View.readAt (Elt Ideal) arg4.view (Rect.unit (s := S16x128x256) (k0_off5 k) S1x128x256.size (k0_off5_inb k)).toLoadRect (harg4.unread x3))
    (View.readAt (Elt Ideal) arg5.view (Rect.unit (s := S16x128x256) (k0_off5 k) S1x128x256.size (k0_off5_inb k)).toLoadRect (harg5.unread x4))
    (View.readAt (Elt Ideal) arg6.view (Rect.unit (s := S16x256x256) (k0_off20 k) S1x256x256.size (k0_off20_inb k)).toLoadRect (harg6.unread x5))
    (View.readAt (Elt Ideal) arg7.view (Rect.unit (s := S16x256x256) (k0_off20 k) S1x256x256.size (k0_off20_inb k)).toLoadRect (harg7.unread x6)) := by
  obtain ⟨hk, o1, o2, o3, o4, o5, o6, o7, o8, o9, o10, o11, o12, o13, o14, o15, o16, o17, o18, o19, o20, o21, o22, o23, o24⟩ := offs k
  have a0 : ∀ (o r : ℕ) (off : Fin 2 → ℕ), off = ![8 * k.val, o] → k.val * 8 + r = off 0 + r := fun o r off h => by
    subst h; show _ = 8 * k.val + r; omega
  have a1 : ∀ (o j : ℕ) (off : Fin 2 → ℕ), off = ![8 * k.val, o] → o + j = off 1 + j := fun o j off h => by subst h; rfl
  have a2 : ∀ (j : ℕ) (off : Fin 3 → ℕ), off = ![k.val, 0, 0] → j = off 1 + j := fun j off h => by subst h; exact (Nat.zero_add _).symm
  have a3 : ∀ (j : ℕ) (off : Fin 3 → ℕ), off = ![k.val, 0, 0] → j = off 2 + j := fun j off h => by subst h; exact (Nat.zero_add _).symm
  exact ⟨fun r j => ld2 _ _ _ _ _ r j _ _ (a0 0 _ _ o1) ((Nat.zero_add _).symm.trans (a1 0 _ _ o1)),
    fun r j => ld2 _ _ _ _ _ r j _ _ (a0 _ _ _ o2) (a1 _ _ _ o2), fun r j => ld2 _ _ _ _ _ r j _ _ (a0 _ _ _ o3) (a1 _ _ _ o3),
    fun r j => ld2 _ _ _ _ _ r j _ _ (a0 _ _ _ o4) (a1 _ _ _ o4),
    fun r j => ld3 _ _ _ _ _ 0 r j _ _ _ (congrFun o5 0).symm (a2 _ _ o5) (a3 _ _ o5),
    fun r j => ld3 _ _ _ _ _ 0 r j _ _ _ (congrFun o5 0).symm (a2 _ _ o5) (a3 _ _ o5),
    fun r j => ld3 _ _ _ _ _ 0 r j _ _ _ (congrFun o20 0).symm (a2 _ _ o20) (a3 _ _ o20),
    fun r j => ld3 _ _ _ _ _ 0 r j _ _ _ (congrFun o20 0).symm (a2 _ _ o20) (a3 _ _ o20)⟩

theorem tripA : View.PiecesOf (Val := Elt Ideal) (e := .f32) (cacheB x1 x3 768 (by decide))
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 (harg1.unread x0) (harg2.unread x1) (harg4.unread x3) (harg5.unread x4) (harg6.unread x5) (harg7.unread x6) k).1 := by
  have L := loads arg2 harg2 arg4 harg4 arg5 harg5 arg6 harg6 arg7 harg7 x1 x3 x4 x5 x6 k
  obtain ⟨hk, o1, o2, o3, o4, o5, o6, o7, o8, o9, o10, o11, o12, o13, o14, o15, o16, o17, o18, o19, o20, o21, o22, o23, o24⟩ := offs k
  unfold trip_k0_t1
  dsimp only
  refine ⟨piece3 k.val 120 (k0_off7 k) o7 (k0_off7_inb k) _ _ fun z i r d h0 h1 h2 => (pay9_at _ _ _ _).trans ((L.n1 r d).trans ?_),
    piece3 k.val 0 (k0_off6 k) o6 (k0_off6_inb k) _ _ fun z i r d h0 h1 h2 => (pay8_at _ _ _ _).trans ((L.c1 _ d).trans ?_), trivial⟩
  · unfold cacheB rowB
    rw [dif_neg (by simp only; omega)]
    have e0 : (z 0 : Fin 16) = ⟨k.val, hk⟩ := Fin.ext h0
    have e2 : (z 2 : Fin 256) = d := Fin.ext h2
    simp only [e0, h1, e2, show 8 + (120 + r.val) - 128 = r.val by omega]
  · unfold cacheB rowB
    rw [dif_pos (by simp only; omega)]
    have e0 : (z 0 : Fin 16) = ⟨k.val, hk⟩ := Fin.ext h0
    have e2 : (z 2 : Fin 256) = d := Fin.ext h2
    simp only [e0, h1, e2, Nat.zero_add]
    rfl

theorem tripB : View.PiecesOf (Val := Elt Ideal) (e := .f32) (cacheB x1 x4 1024 (by decide))
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 (harg1.unread x0) (harg2.unread x1) (harg4.unread x3) (harg5.unread x4) (harg6.unread x5) (harg7.unread x6) k).2.1 := by
  have L := loads arg2 harg2 arg4 harg4 arg5 harg5 arg6 harg6 arg7 harg7 x1 x3 x4 x5 x6 k
  obtain ⟨hk, o1, o2, o3, o4, o5, o6, o7, o8, o9, o10, o11, o12, o13, o14, o15, o16, o17, o18, o19, o20, o21, o22, o23, o24⟩ := offs k
  unfold trip_k0_t1
  dsimp only
  refine ⟨piece3 k.val 120 (k0_off7 k) o7 (k0_off7_inb k) _ _ fun z i r d h0 h1 h2 => (pay11_at _ _ _ _).trans ((L.n2 r d).trans ?_),
    piece3 k.val 0 (k0_off6 k) o6 (k0_off6_inb k) _ _ fun z i r d h0 h1 h2 => (pay10_at _ _ _ _).trans ((L.c2 _ d).trans ?_), trivial⟩
  · unfold cacheB rowB
    rw [dif_neg (by simp only; omega)]
    have e0 : (z 0 : Fin 16) = ⟨k.val, hk⟩ := Fin.ext h0
    have e2 : (z 2 : Fin 256) = d := Fin.ext h2
    simp only [e0, h1, e2, show 8 + (120 + r.val) - 128 = r.val by omega]
  · unfold cacheB rowB
    rw [dif_pos (by simp only; omega)]
    have e0 : (z 0 : Fin 16) = ⟨k.val, hk⟩ := Fin.ext h0
    have e2 : (z 2 : Fin 256) = d := Fin.ext h2
    simp only [e0, h1, e2, Nat.zero_add]
    rfl

set_option maxHeartbeats 1600000 in
theorem tripC : View.PiecesOf (Val := Elt Ideal) (e := .f32) (mixB x0 x1 x3 x4 x5 x6)
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 (harg1.unread x0) (harg2.unread x1) (harg4.unread x3) (harg5.unread x4) (harg6.unread x5) (harg7.unread x6) k).2.2.1 := by
  have L := loads arg2 harg2 arg4 harg4 arg5 harg5 arg6 harg6 arg7 harg7 x1 x3 x4 x5 x6 k
  obtain ⟨hk, o1, o2, o3, o4, o5, o6, o7, o8, o9, o10, o11, o12, o13, o14, o15, o16, o17, o18, o19, o20, o21, o22, o23, o24⟩ := offs k
  unfold trip_k0_t1
  dsimp only
  sl_unfold_words
  refine ⟨?_, ?_, ?_, ?_, ?_, ?_, ?_, ?_, ?_, ?_, ?_, ?_, ?_, ?_, ?_, ?_, trivial⟩
  · exact piece2 k.val 960 (k0_off24 k) o24 (k0_off24_inb k) _ _ fun z r d h0 h1 =>
      (xh3 _ _ _ _ _).trans (mixB_x x0 L z 3 r d h0 (by omega))
  · exact piece2 k.val 896 (k0_off23 k) o23 (k0_off23_inb k) _ _ fun z r d h0 h1 =>
      (xh2 _ _ _ _ _).trans (mixB_x x0 L z 2 r d h0 (by omega))
  · exact piece2 k.val 832 (k0_off22 k) o22 (k0_off22_inb k) _ _ fun z r d h0 h1 =>
      (xh1 _ _ _ _ _).trans (mixB_x x0 L z 1 r d h0 (by omega))
  · exact piece2 k.val 768 (k0_off21 k) o21 (k0_off21_inb k) _ _ fun z r d h0 h1 =>
      (xh0 _ _ _ _ _).trans (mixB_x x0 L z 0 r d h0 (by omega))
  · exact piece2 k.val 704 (k0_off19 k) o19 (k0_off19_inb k) _ _ fun z r d h0 h1 =>
      (hd32 _ _ _ _ _ _ _ _ _).trans (mixB_head x0 L z 3 2 r d _ (sink_at arg1 harg1 x0 11 (by decide) _ _) h0 (by omega))
  · exact piece2 k.val 640 (k0_off18 k) o18 (k0_off18_inb k) _ _ fun z r d h0 h1 =>
      (hd31 _ _ _ _ _ _ _ _ _).trans (mixB_head x0 L z 3 1 r d _ (sink_at arg1 harg1 x0 10 (by decide) _ _) h0 (by omega))
  · exact piece2 k.val 576 (k0_off17 k) o17 (k0_off17_inb k) _ _ fun z r d h0 h1 =>
      (hd30 _ _ _ _ _ _ _ _ _).trans (mixB_head x0 L z 3 0 r d _ (sink_at arg1 harg1 x0 9 (by decide) _ _) h0 (by omega))
  · exact piece2 k.val 512 (k0_off16 k) o16 (k0_off16_inb k) _ _ fun z r d h0 h1 =>
      (hd22 _ _ _ _ _ _ _ _ _).trans (mixB_head x0 L z 2 2 r d _ (sink_at arg1 harg1 x0 8 (by decide) _ _) h0 (by omega))
  · exact piece2 k.val 448 (k0_off15 k) o15 (k0_off15_inb k) _ _ fun z r d h0 h1 =>
      (hd21 _ _ _ _ _ _ _ _ _).trans (mixB_head x0 L z 2 1 r d _ (sink_at arg1 harg1 x0 7 (by decide) _ _) h0 (by omega))
  · exact piece2 k.val 384 (k0_off14 k) o14 (k0_off14_inb k) _ _ fun z r d h0 h1 =>
      (hd20 _ _ _ _ _ _ _ _ _).trans (mixB_head x0 L z 2 0 r d _ (sink_at arg1 harg1 x0 6 (by decide) _ _) h0 (by omega))
  · exact piece2 k.val 320 (k0_off13 k) o13 (k0_off13_inb k) _ _ fun z r d h0 h1 =>
      (hd12 _ _ _ _ _ _ _ _ _).trans (mixB_head x0 L z 1 2 r d _ (sink_at arg1 harg1 x0 5 (by decide) _ _) h0 (by omega))
  · exact piece2 k.val 256 (k0_off12 k) o12 (k0_off12_inb k) _ _ fun z r d h0 h1 =>
      (hd11 _ _ _ _ _ _ _ _ _).trans (mixB_head x0 L z 1 1 r d _ (sink_at arg1 harg1 x0 4 (by decide) _ _) h0 (by omega))
  · exact piece2 k.val 192 (k0_off11 k) o11 (k0_off11_inb k) _ _ fun z r d h0 h1 =>
      (hd10 _ _ _ _ _ _ _ _ _).trans (mixB_head x0 L z 1 0 r d _ (sink_at arg1 harg1 x0 3 (by decide) _ _) h0 (by omega))
  · exact piece2 k.val 128 (k0_off10 k) o10 (k0_off10_inb k) _ _ fun z r d h0 h1 =>
      (hd02 _ _ _ _ _ _ _ _ _ _).trans (mixB_head x0 L z 0 2 r d _ (sink_at arg1 harg1 x0 2 (by decide) _ _) h0 (by omega))
  · exact piece2 k.val 64 (k0_off9 k) o9 (k0_off9_inb k) _ _ fun z r d h0 h1 =>
      (hd01 _ _ _ _ _ _ _ _ _ _).trans (mixB_head x0 L z 0 1 r d _ (sink_at arg1 harg1 x0 1 (by decide) _ _) h0 (by omega))
  · exact piece2 k.val 0 (k0_off8 k) o8 (k0_off8_inb k) _ _ fun z r d h0 h1 =>
      (hd00 _ _ _ _ _ _ _ _ _ _).trans (mixB_head x0 L z 0 0 r d _ (sink_at arg1 harg1 x0 0 (by decide) _ _) h0 (by omega))

theorem allA : ∀ n ≤ k0_t1_loop.trips, View.PiecesOf (Val := Elt Ideal) (e := .f32) (cacheB x1 x3 768 (by decide))
    (pb_k0_t1 (F := Ideal) 𝒱 c bd i arg1 harg1 arg2 harg2 arg3 harg3 arg4 harg4 arg5 harg5 arg6 harg6 arg7 harg7 arg8 harg8 arg9 harg9 arg10 harg10 arg11 harg11 arg12 harg12 (harg1.unread x0) (harg2.unread x1) (harg4.unread x3) (harg5.unread x4) (harg6.unread x5) (harg7.unread x6) n).1
  | 0, _ => trivial
  | n + 1, hn => by
    rw [pb_k0_t1_succ _ _ _ _ _ _ _ _ _ _ _ _ _ _ _ _ _ _ _ _ _ _ _ _ _ _ _ _ _ _ _ _ _ _ ⟨n, hn⟩]
    refine piecesOf_append _ _ _ ?_ (allA n (Nat.le_of_succ_le hn))
    exact tripA 𝒱 c bd i arg1 harg1 arg2 harg2 arg3 harg3 arg4 harg4 arg5 harg5 arg6 harg6 arg7 harg7 arg8 harg8 arg9 harg9 arg10 harg10 arg11 harg11 arg12 harg12 x0 x1 x3 x4 x5 x6 ⟨n, hn⟩

theorem allB : ∀ n ≤ k0_t1_loop.trips, View.PiecesOf (Val := Elt Ideal) (e := .f32) (cacheB x1 x4 1024 (by decide))
    (pb_k0_t1 (F := Ideal) 𝒱 c bd i arg1 harg1 arg2 harg2 arg3 harg3 arg4 harg4 arg5 harg5 arg6 harg6 arg7 harg7 arg8 harg8 arg9 harg9 arg10 harg10 arg11 harg11 arg12 harg12 (harg1.unread x0) (harg2.unread x1) (harg4.unread x3) (harg5.unread x4) (harg6.unread x5) (harg7.unread x6) n).2.1
  | 0, _ => trivial
  | n + 1, hn => by
    rw [pb_k0_t1_succ _ _ _ _ _ _ _ _ _ _ _ _ _ _ _ _ _ _ _ _ _ _ _ _ _ _ _ _ _ _ _ _ _ _ ⟨n, hn⟩]
    refine piecesOf_append _ _ _ ?_ (allB n (Nat.le_of_succ_le hn))
    exact tripB 𝒱 c bd i arg1 harg1 arg2 harg2 arg3 harg3 arg4 harg4 arg5 harg5 arg6 harg6 arg7 harg7 arg8 harg8 arg9 harg9 arg10 harg10 arg11 harg11 arg12 harg12 x0 x1 x3 x4 x5 x6 ⟨n, hn⟩

theorem allC : ∀ n ≤ k0_t1_loop.trips, View.PiecesOf (Val := Elt Ideal) (e := .f32) (mixB x0 x1 x3 x4 x5 x6)
    (pb_k0_t1 (F := Ideal) 𝒱 c bd i arg1 harg1 arg2 harg2 arg3 harg3 arg4 harg4 arg5 harg5 arg6 harg6 arg7 harg7 arg8 harg8 arg9 harg9 arg10 harg10 arg11 harg11 arg12 harg12 (harg1.unread x0) (harg2.unread x1) (harg4.unread x3) (harg5.unread x4) (harg6.unread x5) (harg7.unread x6) n).2.2
  | 0, _ => trivial
  | n + 1, hn => by
    rw [pb_k0_t1_succ _ _ _ _ _ _ _ _ _ _ _ _ _ _ _ _ _ _ _ _ _ _ _ _ _ _ _ _ _ _ _ _ _ _ ⟨n, hn⟩]
    refine piecesOf_append _ _ _ ?_ (allC n (Nat.le_of_succ_le hn))
    exact tripC 𝒱 c bd i arg1 harg1 arg2 harg2 arg3 harg3 arg4 harg4 arg5 harg5 arg6 harg6 arg7 harg7 arg8 harg8 arg9 harg9 arg10 harg10 arg11 harg11 arg12 harg12 x0 x1 x3 x4 x5 x6 ⟨n, hn⟩

end

variable (m : (ℓ : Loc nD τ sig) → Buf (Elt Ideal) ℓ)

/-- The blocks' indices at each grid point. -/
theorem idx : ∀ t : Fin cfg0.N, win0_0.index t = ![0, 0] ∧ win0_1.index t = ![t.val, 0] ∧ win0_2.index t = ![t.val, 0]
    ∧ win0_3.index t = ![t.val, 0, 0] ∧ win0_4.index t = ![t.val, 0, 0] ∧ win0_5.index t = ![t.val, 0, 0]
    ∧ win0_6.index t = ![t.val, 0, 0] ∧ win0_7.index t = ![0, 0] ∧ win0_8.index t = ![t.val, 0]
    ∧ win0_9.index t = ![t.val, 0, 0] ∧ win0_10.index t = ![t.val, 0, 0] :=
  (by decide +kernel : ∀ t : Fin grid0.N, _)

theorem lt_N (t : Fin cfg0.N) : t.val < 8 := t.isLt.trans_eq (by decide)

/-- Row `r` of block `t`. -/
def rowOf (t : Fin cfg0.N) (r : Fin 128) : Fin 1024 := ⟨t.val * 128 + r.val, by have := lt_N t; omega⟩

/-- Sequence `b` of block `t`. -/
def seqOf (t : Fin cfg0.N) (b : Fin 16) : Fin 128 := ⟨t.val * 16 + b.val, by have := lt_N t; omega⟩

section
variable (c : Dev nD) (t : Fin cfg0.N)

/-- The arguments. -/
abbrev aP : FVec Ideal S1024x1536 .f32 := m ((c.tc : Thread nD τ).loc main_arg0)
abbrev aX : FVec Ideal S1024x1024 .f32 := m ((c.tc : Thread nD τ).loc main_arg1)
abbrev aCK : FVec Ideal S128x128x256 .f32 := m ((c.tc : Thread nD τ).loc main_arg2)
abbrev aCV : FVec Ideal S128x128x256 .f32 := m ((c.tc : Thread nD τ).loc main_arg3)
abbrev aMK : FVec Ideal S128x256x256 .f32 := m ((c.tc : Thread nD τ).loc main_arg4)
abbrev aMV : FVec Ideal S128x256x256 .f32 := m ((c.tc : Thread nD τ).loc main_arg5)
abbrev aSk : FVec Ideal S12 .f32 := m ((c.tc : Thread nD τ).loc main_arg6)
abbrev aW : FVec Ideal S1024x1024 .f32 := m ((c.tc : Thread nD τ).loc main_arg7)

theorem b0 (k : Fin 12) : iblk m c 0 t (ix2 0 k) = aSk m c (ix1 k) := by
  blk_point [iblk, V, idx t]
theorem b1 (r : Fin 128) (k : Fin 1536) : iblk m c 1 t (ix2 r k) = aP m c (ix2 (rowOf t r) k) := by
  blk_point [iblk, V, idx t, rowOf]
theorem b2 (r : Fin 128) (k : Fin 1024) : iblk m c 2 t (ix2 r k) = aX m c (ix2 (rowOf t r) k) := by
  blk_point [iblk, V, idx t, rowOf]
theorem b3 (b : Fin 16) (j : Fin 128) (k : Fin 256) : iblk m c 3 t (ix3 b j k) = aCK m c (ix3 (seqOf t b) j k) := by
  blk_point [iblk, V, idx t, seqOf]
theorem b4 (b : Fin 16) (j : Fin 128) (k : Fin 256) : iblk m c 4 t (ix3 b j k) = aCV m c (ix3 (seqOf t b) j k) := by
  blk_point [iblk, V, idx t, seqOf]
theorem b5 (b : Fin 16) (j k : Fin 256) : iblk m c 5 t (ix3 b j k) = aMK m c (ix3 (seqOf t b) j k) := by
  blk_point [iblk, V, idx t, seqOf]
theorem b6 (b : Fin 16) (j k : Fin 256) : iblk m c 6 t (ix3 b j k) = aMV m c (ix3 (seqOf t b) j k) := by
  blk_point [iblk, V, idx t, seqOf]
theorem b7 (r k : Fin 1024) : iblk m c 7 t (ix2 r k) = aW m c (ix2 r k) := by
  blk_point [iblk, V, idx t]
theorem b8 (r : Fin 128) (k : Fin 1024) : ((View.whole main_v2_0).slice (win0_8.rect t)).emb (ix2 r k) = ix2 (rowOf t r) k := by
  blk_ext [rowOf, idx t]
theorem b9 (b : Fin 16) (j : Fin 128) (k : Fin 256) : ((View.whole main_v2_1).slice (win0_9.rect t)).emb (ix3 b j k) = ix3 (seqOf t b) j k := by
  blk_ext [seqOf, idx t]
theorem b10 (b : Fin 16) (j : Fin 128) (k : Fin 256) : ((View.whole main_v2_2).slice (win0_10.rect t)).emb (ix3 b j k) = ix3 (seqOf t b) j k := by
  blk_ext [seqOf, idx t]

theorem row_at (x : FVec Ideal S16x128x256 .f32) (ch : FVec Ideal S128x128x256 .f32)
    (hx : ∀ (b : Fin 16) (j : Fin 128) (k : Fin 256), x (ix3 b j k) = ch (ix3 (seqOf t b) j k)) (o : ℕ) (ho : o ≤ 1280)
    (b : Fin 16) (j : Fin 136) (k : Fin 256) : rowB (iblk m c 1 t) x o ho b j k = rowAt (aP m c) ch o ho (seqOf t b) j k := by
  unfold rowB rowAt
  by_cases hj : j.val < 128
  · rw [dif_pos hj, dif_pos hj, hx]
  · rw [dif_neg hj, dif_neg hj, b1]
    exact congrArg (fun R => aP m c (ix2 R ⟨o + k.val, by omega⟩)) (Fin.ext (by unfold rowOf seqOf; simp only; omega))

theorem mix_at (r : Fin 128) (k : Fin 1024) : mixB (iblk m c 0 t) (iblk m c 1 t) (iblk m c 3 t) (iblk m c 4 t) (iblk m c 5 t) (iblk m c 6 t) (ix2 r k)
    = mixS (aP m c) (aCK m c) (aCV m c) (aMK m c) (aMV m c) (aSk m c) (rowOf t r) k := by
  have ht := lt_N t
  have e1 : (⟨(rowOf t r).val / 8, by omega⟩ : Fin 128) = seqOf t ⟨r.val / 8, by omega⟩ := Fin.ext (by unfold rowOf seqOf; simp only; omega)
  have e2 : (rowOf t r).val % 8 = r.val % 8 := by unfold rowOf; simp only; omega
  unfold mixB mixS
  by_cases hk : k.val < 768
  · refine (dif_pos hk).trans (Eq.trans ?_ (dif_pos hk).symm)
    refine winRow_congr (fun j => ?_) (fun j => ?_) (b0 m c t _)
    · simp only [e1, e2]
      refine if_congr Iff.rfl (Finset.sum_congr rfl fun e _ => ?_) rfl
      rw [← row_at m c t _ _ (b3 m c t)]
      exact congrArg (· * scl * _) (b1 m c t _ _)
    · simp only [e1]
      exact row_at m c t _ _ (b4 m c t) _ _ _ _ _
  · refine (dif_neg hk).trans (Eq.trans ?_ (dif_neg hk).symm)
    refine softRow_congr (fun j => Finset.sum_congr rfl fun e _ => ?_) (fun j => ?_)
    · simp only [e1]
      rw [← b5]
      exact congrArg (· * scl * _) (b1 m c t _ _)
    · simp only [e1]
      exact b6 m c t _ _ _
end

theorem final9 (c : Dev nD) : (dats m 0 c).arrAt 9 (cfgs 0).N = cacheG (aP m c) (aCK m c) 768 (by decide) := by
  refine (dats m 0 c).arrAt_eq_of_covers 9 _ (by decide +kernel) fun t _ y => ?_
  blk_simp
  rw [after0_9]
  unfold outsAt0
  frame_out
  refine (View.canon_apply_of_pieces (cacheB (iblk m c 1 t) (iblk m c 3 t) 768 (by decide)) _
    (fun p hp => View.PiecesOf.mem (allA _ _ _ _ _ _ _ _ _ _ _ _ _ _ _ _ _ _ _ _ _ _ _ _ _ _ _ _ _ _ _ _ _ _ _ le_rfl) p hp) y
    (View.cover_of_tiledBy _ ![1, 8, 256] (by sl_kernel_rfl) y)).trans ?_
  idx_vars y
  rw [b9]
  exact row_at m c t _ _ (b3 m c t) _ _ _ _ _

theorem final10 (c : Dev nD) : (dats m 0 c).arrAt 10 (cfgs 0).N = cacheG (aP m c) (aCV m c) 1024 (by decide) := by
  refine (dats m 0 c).arrAt_eq_of_covers 10 _ (by decide +kernel) fun t _ y => ?_
  blk_simp
  rw [after0_10]
  unfold outsAt0
  frame_out
  refine (View.canon_apply_of_pieces (cacheB (iblk m c 1 t) (iblk m c 4 t) 1024 (by decide)) _
    (fun p hp => View.PiecesOf.mem (allB _ _ _ _ _ _ _ _ _ _ _ _ _ _ _ _ _ _ _ _ _ _ _ _ _ _ _ _ _ _ _ _ _ _ _ le_rfl) p hp) y
    (View.cover_of_tiledBy _ ![1, 8, 256] (by sl_kernel_rfl) y)).trans ?_
  idx_vars y
  rw [b10]
  exact row_at m c t _ _ (b4 m c t) _ _ _ _ _

set_option maxHeartbeats 1600000 in
theorem final8 (c : Dev nD) : (dats m 0 c).arrAt 8 (cfgs 0).N
    = outG (aP m c) (aX m c) (aCK m c) (aCV m c) (aMK m c) (aMV m c) (aSk m c) (aW m c) := by
  refine (dats m 0 c).arrAt_eq_of_covers 8 _ (by decide +kernel) fun t _ y => ?_
  blk_simp
  rw [after0_8]
  unfold outsAt0
  frame_out
  refine Eq.trans (congrArg (fun z => k0_pay4 (iblk m c 2 t) z (iblk m c 7 t) y)
    (a₂ := mixB (iblk m c 0 t) (iblk m c 1 t) (iblk m c 3 t) (iblk m c 4 t) (iblk m c 5 t) (iblk m c 6 t)) ?_) ?_
  · rw [View.readCov_eq_canon']
    funext z
    refine (congrArg _ (Cert.AttnProof.idx_whole z)).trans ?_
    exact View.canon_apply_of_pieces _ _
      (fun p hp => View.PiecesOf.mem (allC _ _ _ _ _ _ _ _ _ _ _ _ _ _ _ _ _ _ _ _ _ _ _ _ _ _ _ _ _ _ _ _ _ _ _ le_rfl) p hp) z
      (View.cover_of_tiledBy _ ![8, 64] (by sl_kernel_rfl) z)
  · have hm := mix_at m c t
    idx_vars y
    generalize mixB _ _ _ _ _ _ = mx at hm ⊢
    pointwise [k0_pay4, outG, hm]
    rw [b8]
    simp only [b2, b7]
    rfl

end Cert.MixSProof
-- ==== Proof.MixSRef.lean ====
/- The sample's attention call's reference: its terms cut at named stages. -/
module

public import proofs.«01_k».proof.Proof.Gen.MixSRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.MixSProof

open Idealize.ShloMosaic Idealize.ShloMosaic.TcCoe Idealize.SL.Sem
open Cert.MixSRefIdeal Cert.MixSRefIdeal.Gen Cert.MixSRefIdeal.Value

/-- The cached keys and the new ones. -/
def rKK (p : FVec Ideal S1024x1536 .f32) (ck : FVec Ideal S128x128x256 .f32) : FVec Ideal S128x136x4x64 .f32 :=
  (concatenate S128x136x4x64 1 [⟨S128x128x4x64, ((shapeCast _ ck shapeCasts_S128x128x256_S128x128x4x64) : FVec Ideal S128x128x4x64 .f32)⟩, ⟨S128x8x4x64, ((shapeCast _ (extractStridedSlice S128x8x256 ![0, 0, 768] (shapeCast _ p shapeCasts_S1024x1536_S128x8x1536) slices_S128x8x1536_S128x8x256_0_0_768) shapeCasts_S128x8x256_S128x8x4x64) : FVec Ideal S128x8x4x64 .f32)⟩] concatenates_S128x128x4x64_S128x8x4x64_S128x136x4x64_d1)

/-- The cached values and the new ones. -/
def rVV (p : FVec Ideal S1024x1536 .f32) (cv : FVec Ideal S128x128x256 .f32) : FVec Ideal S128x136x4x64 .f32 :=
  (concatenate S128x136x4x64 1 [⟨S128x128x4x64, ((shapeCast _ cv shapeCasts_S128x128x256_S128x128x4x64) : FVec Ideal S128x128x4x64 .f32)⟩, ⟨S128x8x4x64, ((shapeCast _ (extractStridedSlice S128x8x256 ![0, 0, 1024] (shapeCast _ p shapeCasts_S1024x1536_S128x8x1536) slices_S128x8x1536_S128x8x256_0_0_1024) shapeCasts_S128x8x256_S128x8x4x64) : FVec Ideal S128x8x4x64 .f32)⟩] concatenates_S128x128x4x64_S128x8x4x64_S128x136x4x64_d1)

/-- The queries by head. -/
def rQ (p : FVec Ideal S1024x1536 .f32) : FVec Ideal S128x8x4x3x64 .f32 :=
  (shapeCast _ (extractStridedSlice S128x8x768 ![0, 0, 0] (shapeCast _ p shapeCasts_S1024x1536_S128x8x1536) slices_S128x8x1536_S128x8x768_0_0_0) shapeCasts_S128x8x768_S128x8x4x3x64)

/-- The mask. -/
def rMask  : IVec S8x136 1 :=
  (andi (cmpi .sge (subi (broadcastInDim S8x136 ![0, 1] bcast_S8x1_S8x136_0_1 (addi (broadcastInDim S8x1 ![0] bcast_S8_S8x1_0 (iotaInDim S8 32 0)) (broadcastInDim S8x1 ![] bcast_S_S8x1 (constantI S_ 32 128#32)))) (broadcastInDim S8x136 ![0, 1] bcast_S1x136_S8x136_0_1 (broadcastInDim S1x136 ![1] bcast_S136_S1x136_1 (iotaInDim S136 32 0)))) (broadcastInDim S8x136 ![] bcast_S_S8x136 (constantI S_ 32 0#32))) (cmpi .sle (subi (broadcastInDim S8x136 ![0, 1] bcast_S8x1_S8x136_0_1 (addi (broadcastInDim S8x1 ![0] bcast_S8_S8x1_0 (iotaInDim S8 32 0)) (broadcastInDim S8x1 ![] bcast_S_S8x1 (constantI S_ 32 128#32)))) (broadcastInDim S8x136 ![0, 1] bcast_S1x136_S8x136_0_1 (broadcastInDim S1x136 ![1] bcast_S136_S1x136_1 (iotaInDim S136 32 0)))) (broadcastInDim S8x136 ![] bcast_S_S8x136 (constantI S_ 32 128#32))))

/-- The masked scores. -/
def rS (kk : FVec Ideal S128x136x4x64 .f32) (q : FVec Ideal S128x8x4x3x64 .f32) (mask : IVec S8x136 1) : FVec Ideal S128x4x3x8x136 .f32 :=
  (select (broadcastInDim S128x4x3x8x136 ![3, 4] bcast_S8x136_S128x4x3x8x136_3_4 mask) (mulf (transpose S128x4x3x8x136 [0, 1, 4, 3, 2] (Host.dotGeneral (φ₁ := .f32) (φ₂ := .f32) dot_S128x136x4x64_S128x8x4x3x64_S128x4x136x8x3_3_4_1_13_02_02 none kk q) transposes_S128x4x136x8x3_S128x4x3x8x136_0_1_4_3_2) (broadcastInDim S128x4x3x8x136 ![] bcast_S_S128x4x3x8x136 (constant S_ .f32 0x3E000000#32))) (broadcastInDim S128x4x3x8x136 ![] bcast_S_S128x4x3x8x136 (id (constant S_ .f32 0xFF800000#32))))

/-- The row maxima. -/
def rMr (s : FVec Ideal S128x4x3x8x136 .f32) : FVec Ideal S128x4x3x8 .f32 :=
  (Host.reduce FloatOps.maximumf s (constant S_ .f32 0xFF800000#32) reducesTo_S128x4x3x8x136_S128x4x3x8_d4 h_S_)

/-- The row maxima, the sink's score included. -/
def rM (r : FVec Ideal S128x4x3x8 .f32) (sinks : FVec Ideal S12 .f32) : FVec Ideal S128x4x3x8x1 .f32 :=
  (maximumf (broadcastInDim S128x4x3x8x1 ![0, 1, 2, 3] bcast_S128x4x3x8_S128x4x3x8x1_0_1_2_3 r) (broadcastInDim S128x4x3x8x1 ![0, 1, 2, 3, 4] bcast_S1x4x3x1x1_S128x4x3x8x1_0_1_2_3_4 (broadcastInDim S1x4x3x1x1 ![1, 2, 3, 4] bcast_S4x3x1x1_S1x4x3x1x1_1_2_3_4 (broadcastInDim S4x3x1x1 ![0, 1] bcast_S4x3_S4x3x1x1_0_1 (shapeCast _ sinks shapeCasts_S12_S4x3)))))

/-- The exponentials. -/
def rE (s : FVec Ideal S128x4x3x8x136 .f32) (mx : FVec Ideal S128x4x3x8x1 .f32) : FVec Ideal S128x4x3x8x136 .f32 :=
  (Host.exp (subf s (broadcastInDim S128x4x3x8x136 ![0, 1, 2, 3, 4] bcast_S128x4x3x8x1_S128x4x3x8x136_0_1_2_3_4 mx)))

/-- The row sums. -/
def rL (e : FVec Ideal S128x4x3x8x136 .f32) : FVec Ideal S128x4x3x8 .f32 :=
  (Host.reduceAdd e (constant S_ .f32 0x00000000#32) reducesTo_S128x4x3x8x136_S128x4x3x8_d4 h_S_)

/-- The weights. -/
def rW (e : FVec Ideal S128x4x3x8x136 .f32) (l : FVec Ideal S128x4x3x8 .f32) (mx : FVec Ideal S128x4x3x8x1 .f32) (sinks : FVec Ideal S12 .f32) : FVec Ideal S128x4x3x8x136 .f32 :=
  (Host.divf e (broadcastInDim S128x4x3x8x136 ![0, 1, 2, 3, 4] bcast_S128x4x3x8x1_S128x4x3x8x136_0_1_2_3_4 (addf (broadcastInDim S128x4x3x8x1 ![0, 1, 2, 3] bcast_S128x4x3x8_S128x4x3x8x1_0_1_2_3 l) (Host.exp (subf (broadcastInDim S128x4x3x8x1 ![0, 1, 2, 3, 4] bcast_S1x4x3x1x1_S128x4x3x8x1_0_1_2_3_4 (broadcastInDim S1x4x3x1x1 ![1, 2, 3, 4] bcast_S4x3x1x1_S1x4x3x1x1_1_2_3_4 (broadcastInDim S4x3x1x1 ![0, 1] bcast_S4x3_S4x3x1x1_0_1 (shapeCast _ sinks shapeCasts_S12_S4x3)))) mx)))))

/-- The attention's output. -/
def rO (vv : FVec Ideal S128x136x4x64 .f32) (wt : FVec Ideal S128x4x3x8x136 .f32) : FVec Ideal S128x8x768 .f32 :=
  (shapeCast _ (transpose S128x8x4x3x64 [0, 4, 1, 3, 2] (Host.dotGeneral (φ₁ := .f32) (φ₂ := .f32) dot_S128x136x4x64_S128x4x3x8x136_S128x4x64x3x8_1_4_3_23_02_01 none vv wt) transposes_S128x4x64x3x8_S128x8x4x3x64_0_4_1_3_2) shapeCasts_S128x8x4x3x64_S128x8x768)

/-- The scores against the memory. -/
def rXS (p : FVec Ideal S1024x1536 .f32) (mk : FVec Ideal S128x256x256 .f32) : FVec Ideal S128x4x8x256 .f32 :=
  (mulf (Host.dotGeneral (φ₁ := .f32) (φ₂ := .f32) dot_S128x8x4x64_S128x256x4x64_S128x4x8x256_3_3_1_1_02_02 none (shapeCast _ (extractStridedSlice S128x8x256 ![0, 0, 1280] (shapeCast _ p shapeCasts_S1024x1536_S128x8x1536) slices_S128x8x1536_S128x8x256_0_0_1280) shapeCasts_S128x8x256_S128x8x4x64) (shapeCast _ mk shapeCasts_S128x256x256_S128x256x4x64)) (broadcastInDim S128x4x8x256 ![] bcast_S_S128x4x8x256 (constant S_ .f32 0x3E000000#32)))

/-- The row maxima against the memory. -/
def rXMr (s : FVec Ideal S128x4x8x256 .f32) : FVec Ideal S128x4x8 .f32 :=
  (Host.reduce FloatOps.maximumf s (constant S_ .f32 0xFF800000#32) reducesTo_S128x4x8x256_S128x4x8_d3 h_S_)

/-- The exponentials against the memory. -/
def rXE (s : FVec Ideal S128x4x8x256 .f32) (r : FVec Ideal S128x4x8 .f32) : FVec Ideal S128x4x8x256 .f32 :=
  (Host.exp (subf s (broadcastInDim S128x4x8x256 ![0, 1, 2, 3] bcast_S128x4x8x1_S128x4x8x256_0_1_2_3 (broadcastInDim S128x4x8x1 ![0, 1, 2] bcast_S128x4x8_S128x4x8x1_0_1_2 (maximumf (broadcastInDim S128x4x8 ![] bcast_S_S128x4x8 (constant S_ .f32 0xFF800000#32)) r)))))

/-- The row sums against the memory. -/
def rXL (e : FVec Ideal S128x4x8x256 .f32) : FVec Ideal S128x4x8 .f32 :=
  (Host.reduceAdd e (constant S_ .f32 0x00000000#32) reducesTo_S128x4x8x256_S128x4x8_d3 h_S_)

/-- The weights of the memory. -/
def rXW (e : FVec Ideal S128x4x8x256 .f32) (l : FVec Ideal S128x4x8 .f32) : FVec Ideal S128x4x8x256 .f32 :=
  (Host.divf e (broadcastInDim S128x4x8x256 ![0, 1, 2, 3] bcast_S128x4x8x1_S128x4x8x256_0_1_2_3 (broadcastInDim S128x4x8x1 ![0, 1, 2] bcast_S128x4x8_S128x4x8x1_0_1_2 l)))

/-- The cross-attention's output. -/
def rXO (mv : FVec Ideal S128x256x256 .f32) (wt : FVec Ideal S128x4x8x256 .f32) : FVec Ideal S128x8x256 .f32 :=
  (shapeCast _ (transpose S128x8x4x64 [0, 3, 1, 2] (Host.dotGeneral (φ₁ := .f32) (φ₂ := .f32) dot_S128x256x4x64_S128x4x8x256_S128x4x64x8_1_3_3_2_02_01 none (shapeCast _ mv shapeCasts_S128x256x256_S128x256x4x64) wt) transposes_S128x4x64x8_S128x8x4x64_0_3_1_2) shapeCasts_S128x8x4x64_S128x8x256)

/-- The output projection and the residual. -/
def rOut (x : FVec Ideal S1024x1024 .f32) (o : FVec Ideal S128x8x768 .f32) (xo : FVec Ideal S128x8x256 .f32) (w : FVec Ideal S1024x1024 .f32) : FVec Ideal S1024x1024 .f32 :=
  shapeCast _ (addf (shapeCast _ x shapeCasts_S1024x1024_S128x8x1024) (Host.dotGeneral (φ₁ := .f32) (φ₂ := .f32) dot_S128x8x1024_S1024x1024_S128x8x1024_2_0_01_1_n_n none (concatenate S128x8x1024 2 [⟨S128x8x768, (o : FVec Ideal S128x8x768 .f32)⟩, ⟨S128x8x256, (xo : FVec Ideal S128x8x256 .f32)⟩] concatenates_S128x8x768_S128x8x256_S128x8x1024_d2) w)) shapeCasts_S128x8x1024_S1024x1024

/-- The weights of the scores. -/
def rWt (s : FVec Ideal S128x4x3x8x136 .f32) (sinks : FVec Ideal S12 .f32) : FVec Ideal S128x4x3x8x136 .f32 :=
  rW (rE s (rM (rMr s) sinks)) (rL (rE s (rM (rMr s) sinks))) (rM (rMr s) sinks) sinks

/-- The weights of the scores against the memory. -/
def rXWt (s : FVec Ideal S128x4x8x256 .f32) : FVec Ideal S128x4x8x256 .f32 :=
  rXW (rXE s (rXMr s)) (rXL (rXE s (rXMr s)))

/-- The reference's first result of its arguments. -/
def rRes (p : FVec Ideal S1024x1536 .f32) (x : FVec Ideal S1024x1024 .f32) (ck cv : FVec Ideal S128x128x256 .f32)
    (mk mv : FVec Ideal S128x256x256 .f32) (sinks : FVec Ideal S12 .f32) (w : FVec Ideal S1024x1024 .f32) : FVec Ideal S1024x1024 .f32 :=
  rOut x (rO (rVV p cv) (rWt (rS (rKK p ck) (rQ p) rMask) sinks)) (rXO mv (rXWt (rXS p mk))) w

/-- The last 128 rows of the cached and the new ones. -/
def rCache (kk : FVec Ideal S128x136x4x64 .f32) : FVec Ideal S128x128x256 .f32 :=
  shapeCast _ (extractStridedSlice S128x128x4x64 ![0, 8, 0, 0] kk slices_S128x136x4x64_S128x128x4x64_0_8_0_0) shapeCasts_S128x128x4x64_S128x128x256

variable (m : (ℓ : Loc nD τ sig) → Buf (Elt Ideal) ℓ)

set_option maxHeartbeats 1600000 in
theorem res_eq (c : Dev nD) : res_out0 m c = rRes (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) := by
  unfold res_out0 res_main_v79 rRes rOut rO rVV rWt rW rL rE rM rMr rS rKK rQ rMask rXO rXWt rXW rXL rXE rXMr rXS
  rfl

end Cert.MixSProof
-- ==== Proof.MixSRefAt.lean ====
/- The sample's attention call's reference read stage by stage, and its closed form. -/
module

public import proofs.«01_k».proof.Proof.MixSRef
public import proofs.«01_k».proof.Proof.AttnReduce
public import proofs.«01_k».proof.Proof.AttnPure
public import proofs.«01_k».proof.Proof.MixSSpec
public import Idealize.ShloMosaic.Lib.Pipeline.ValueKit
public import Idealize.ShloMosaic.Lib.Pointwise
public import Idealize.ShloMosaic.Lib.Claim

@[expose] public section

set_option maxRecDepth 16384

noncomputable section

namespace Cert.MixSProof

open Idealize.ShloMosaic Idealize.ShloMosaic.TcCoe Idealize.SL.Sem
open Cert.AttnProof (ninf scl softRow select_ite max_r4 sum_r4 scores_eq ninf_eq)
open Cert.MixSRefIdeal Cert.MixSRefIdeal.Gen Cert.MixSRefIdeal.Value

section
variable {n0 n1 n2 n3 n4 : Nat}

theorem max_r5 (v : FVec Ideal ⟨5, ![n0, n1, n2, n3, n4]⟩ .f32) (c : FVec Ideal ⟨0, ![]⟩ .f32)
    (h : (⟨5, ![n0, n1, n2, n3, n4]⟩ : Shape).ReducesTo [4] ⟨4, ![n0, n1, n2, n3]⟩) (h0)
    (a : Fin n0) (b : Fin n1) (d : Fin n2) (e : Fin n3) :
    Host.reduce FloatOps.maximumf v c h h0 (ix4 a b d e)
      = Finset.univ.fold max (c (Shape.Idx.first h0)) fun k : Fin n4 => v (ix5 a b d e k) := by
  simp only [pointwise]

theorem sum_r5 (v : FVec Ideal ⟨5, ![n0, n1, n2, n3, n4]⟩ .f32) (c : FVec Ideal ⟨0, ![]⟩ .f32)
    (h : (⟨5, ![n0, n1, n2, n3, n4]⟩ : Shape).ReducesTo [4] ⟨4, ![n0, n1, n2, n3]⟩) (h0)
    (a : Fin n0) (b : Fin n1) (d : Fin n2) (e : Fin n3) :
    Host.reduceAdd v c h h0 (ix4 a b d e)
      = c (Shape.Idx.first h0) + ∑ k : Fin n4, v (ix5 a b d e k) :=
  by simp only [pointwise, Ideal.hostReduceAdd_def]
end

theorem rMr_at (s : FVec Ideal S128x4x3x8x136 .f32) (b : Fin 128) (h : Fin 4) (g : Fin 3) (r : Fin 8) :
    rMr s (ix4 b h g r) = Finset.univ.fold max (Ideal.ofBits .f32 4286578688#32) fun k : Fin 136 => s (ix5 b h g r k) :=
  max_r5 s _ _ _ b h g r

theorem rL_at (e : FVec Ideal S128x4x3x8x136 .f32) (b : Fin 128) (h : Fin 4) (g : Fin 3) (r : Fin 8) :
    rL e (ix4 b h g r) = ∑ k : Fin 136, e (ix5 b h g r k) :=
  (sum_r5 e _ _ _ b h g r).trans (by pointwise)

theorem rXMr_at (s : FVec Ideal S128x4x8x256 .f32) (b : Fin 128) (h : Fin 4) (r : Fin 8) :
    rXMr s (ix3 b h r) = Finset.univ.fold max (Ideal.ofBits .f32 4286578688#32) fun k : Fin 256 => s (ix4 b h r k) :=
  max_r4 s _ _ _ b h r

theorem rXL_at (e : FVec Ideal S128x4x8x256 .f32) (b : Fin 128) (h : Fin 4) (r : Fin 8) :
    rXL e (ix3 b h r) = ∑ k : Fin 256, e (ix4 b h r k) :=
  (sum_r4 e _ _ _ b h r).trans (by pointwise)

theorem rM_at (v : FVec Ideal S128x4x3x8 .f32) (sinks : FVec Ideal S12 .f32) (b : Fin 128) (h : Fin 4) (g : Fin 3) (r : Fin 8) :
    rM v sinks (ix5 b h g r 0) = max (v (ix4 b h g r)) (sinks (ix1 ⟨h.val * 3 + g.val, by omega⟩)) := by
  pointwise [rM]

theorem rE_at (s : FVec Ideal S128x4x3x8x136 .f32) (mx : FVec Ideal S128x4x3x8x1 .f32) (b : Fin 128) (h : Fin 4) (g : Fin 3) (r : Fin 8) (k : Fin 136) :
    rE s mx (ix5 b h g r k) = Ideal.exp (s (ix5 b h g r k) - mx (ix5 b h g r 0)) := by
  pointwise [rE]

theorem rW_at (e : FVec Ideal S128x4x3x8x136 .f32) (l : FVec Ideal S128x4x3x8 .f32) (mx : FVec Ideal S128x4x3x8x1 .f32) (sinks : FVec Ideal S12 .f32) (b : Fin 128) (h : Fin 4) (g : Fin 3) (r : Fin 8) (k : Fin 136) :
    rW e l mx sinks (ix5 b h g r k) = Ideal.div (e (ix5 b h g r k)) (l (ix4 b h g r) + Ideal.exp (sinks (ix1 ⟨h.val * 3 + g.val, by omega⟩) - mx (ix5 b h g r 0))) := by
  pointwise [rW]

theorem rXE_at (s : FVec Ideal S128x4x8x256 .f32) (v : FVec Ideal S128x4x8 .f32) (b : Fin 128) (h : Fin 4) (r : Fin 8) (k : Fin 256) :
    rXE s v (ix4 b h r k) = Ideal.exp (s (ix4 b h r k) - max (Ideal.ofBits .f32 4286578688#32) (v (ix3 b h r))) := by
  pointwise [rXE]

theorem rXW_at (e : FVec Ideal S128x4x8x256 .f32) (l : FVec Ideal S128x4x8 .f32) (b : Fin 128) (h : Fin 4) (r : Fin 8) (k : Fin 256) :
    rXW e l (ix4 b h r k) = Ideal.div (e (ix4 b h r k)) (l (ix3 b h r)) := by
  pointwise [rXW]

theorem rMask_at (r : Fin 8) (j : Fin 136) : rMask (ix2 r j) = if inWin r j then 1#1 else 0#1 := by
  refine Eq.trans ?_ (inWin_bit r j r.isLt j.isLt)
  pointwise [rMask]

theorem rS_at (kk : FVec Ideal S128x136x4x64 .f32) (q : FVec Ideal S128x8x4x3x64 .f32)
    (b : Fin 128) (h : Fin 4) (g : Fin 3) (r : Fin 8) (j : Fin 136) :
    rS kk q rMask (ix5 b h g r j)
      = if inWin r j then (∑ e : Fin 64, kk (ix4 b j h e) * q (ix5 b r h g e)) * scl else ninf := by
  have e : ∀ M, rS kk q M (ix5 b h g r j) = Scalar.select (M (ix2 r j)) ((∑ e : Fin 64, kk (ix4 b j h e) * q (ix5 b r h g e)) * scl) ninf := by
    intro M
    pointwise [rS]
    rfl
  rw [e, rMask_at, select_ite]

theorem rWt_at (s : FVec Ideal S128x4x3x8x136 .f32) (sinks : FVec Ideal S12 .f32)
    (b : Fin 128) (h : Fin 4) (g : Fin 3) (r : Fin 8) (v : Fin 136 → EReal) :
    ∑ j, v j * rWt s sinks (ix5 b h g r j)
      = winRow (fun j => s (ix5 b h g r j)) v (sinks (ix1 ⟨h.val * 3 + g.val, by omega⟩)) := by
  unfold rWt winRow
  refine Finset.sum_congr rfl fun j _ => ?_
  rw [mul_comm, rW_at, rL_at]
  simp only [rE_at, rM_at, rMr_at]

theorem rXWt_at (s : FVec Ideal S128x4x8x256 .f32) (b : Fin 128) (h : Fin 4) (r : Fin 8) (v : Fin 256 → EReal) :
    ∑ j, v j * rXWt s (ix4 b h r j) = softRow (fun j => s (ix4 b h r j)) v := by
  unfold rXWt softRow
  refine Finset.sum_congr rfl fun j _ => ?_
  rw [mul_comm, rXW_at, rXL_at]
  simp only [rXE_at, rXMr_at]
  rw [max_eq_right]
  rw [show Ideal.ofBits .f32 4286578688#32 = ⊥ from ninf_eq]
  exact bot_le

theorem rO_at (vv : FVec Ideal S128x136x4x64 .f32) (wt : FVec Ideal S128x4x3x8x136 .f32) (b : Fin 128) (r : Fin 8) (k : Fin 768) :
    rO vv wt (ix3 b r k) = ∑ x : Fin 136, vv (ix4 b x ⟨k.val / 192, by omega⟩ ⟨k.val % 64, by omega⟩)
      * wt (ix5 b ⟨k.val / 192, by omega⟩ ⟨k.val / 64 % 3, by omega⟩ r x) := by
  pointwise [rO]

theorem rXS_at (p : FVec Ideal S1024x1536 .f32) (mk : FVec Ideal S128x256x256 .f32) (b : Fin 128) (h : Fin 4) (r : Fin 8) (g : Fin 256) :
    rXS p mk (ix4 b h r g) = (∑ x : Fin 64, p (ix2 ⟨b.val * 8 + r.val, by omega⟩ ⟨1280 + (h.val * 64 + x.val), by omega⟩)
      * mk (ix3 b g ⟨h.val * 64 + x.val, by omega⟩)) * scl := by
  pointwise [rXS]

theorem rXO_at (mv : FVec Ideal S128x256x256 .f32) (s : FVec Ideal S128x4x8x256 .f32) (b : Fin 128) (r : Fin 8) (c : Fin 256) :
    rXO mv s (ix3 b r c) = ∑ x : Fin 256, mv (ix3 b x c) * s (ix4 b ⟨c.val / 64, by omega⟩ r x) := by
  pointwise [rXO]

theorem rOut_at (x : FVec Ideal S1024x1024 .f32) (o : FVec Ideal S128x8x768 .f32) (xo : FVec Ideal S128x8x256 .f32)
    (w : FVec Ideal S1024x1024 .f32) (R : Fin 1024) (c : Fin 1024) :
    rOut x o xo w (ix2 R c) = x (ix2 R c)
      + (∑ k : Fin 768, o (ix3 ⟨R.val / 8, by omega⟩ ⟨R.val % 8, by omega⟩ k) * w (ix2 ⟨k.val, by omega⟩ c)
        + ∑ k : Fin 256, xo (ix3 ⟨R.val / 8, by omega⟩ ⟨R.val % 8, by omega⟩ k) * w (ix2 ⟨768 + k.val, by omega⟩ c)) := by
  pointwise [rOut]

theorem rQ_at (p : FVec Ideal S1024x1536 .f32) (b : Fin 128) (r : Fin 8) (h : Fin 4) (g : Fin 3) (e : Fin 64) :
    rQ p (ix5 b r h g e) = p (ix2 ⟨b.val * 8 + r.val, by omega⟩ ⟨h.val * 192 + g.val * 64 + e.val, by omega⟩) := by
  pointwise [rQ]

theorem rKK_at (p : FVec Ideal S1024x1536 .f32) (ck : FVec Ideal S128x128x256 .f32) (b : Fin 128) (j : Fin 136) (h : Fin 4) (e : Fin 64) :
    rKK p ck (ix4 b j h e) = rowAt p ck 768 (by decide) b j ⟨h.val * 64 + e.val, by omega⟩ := by
  pointwise [rKK, rowAt]

theorem rVV_at (p : FVec Ideal S1024x1536 .f32) (cv : FVec Ideal S128x128x256 .f32) (b : Fin 128) (j : Fin 136) (h : Fin 4) (e : Fin 64) :
    rVV p cv (ix4 b j h e) = rowAt p cv 1024 (by decide) b j ⟨h.val * 64 + e.val, by omega⟩ := by
  pointwise [rVV, rowAt]

theorem rCache_at (kk : FVec Ideal S128x136x4x64 .f32) (b : Fin 128) (j : Fin 128) (c : Fin 256) :
    rCache kk (ix3 b j c) = kk (ix4 b ⟨8 + j.val, by omega⟩ ⟨c.val / 64, by omega⟩ ⟨c.val % 64, by omega⟩) := by
  pointwise [rCache]

/-- The reference's keys' cache in closed form. -/
theorem cacheK_eq (p : FVec Ideal S1024x1536 .f32) (ck : FVec Ideal S128x128x256 .f32) :
    rCache (rKK p ck) = cacheG p ck 768 (by decide) := by
  funext y
  idx_vars y
  rw [rCache_at, rKK_at]
  unfold cacheG
  exact congrArg (rowAt p ck 768 _ y0 _) (Fin.ext (show y2.val / 64 * 64 + y2.val % 64 = y2.val by omega))

/-- The reference's values' cache in closed form. -/
theorem cacheV_eq (p : FVec Ideal S1024x1536 .f32) (cv : FVec Ideal S128x128x256 .f32) :
    rCache (rVV p cv) = cacheG p cv 1024 (by decide) := by
  funext y
  idx_vars y
  rw [rCache_at, rVV_at]
  unfold cacheG
  exact congrArg (rowAt p cv 1024 _ y0 _) (Fin.ext (show y2.val / 64 * 64 + y2.val % 64 = y2.val by omega))

theorem read_row (p : FVec Ideal S1024x1536 .f32) (A B : Fin 1024) (c d : Fin 1536) (h : A.val = B.val) (h' : c.val = d.val) :
    p (ix2 A c) = p (ix2 B d) := by
  rw [Fin.ext h, Fin.ext h']

theorem att_at (p : FVec Ideal S1024x1536 .f32) (ck cv : FVec Ideal S128x128x256 .f32) (mk mv : FVec Ideal S128x256x256 .f32)
    (sinks : FVec Ideal S12 .f32) (R : Fin 1024) (k : Fin 768) :
    rO (rVV p cv) (rWt (rS (rKK p ck) (rQ p) rMask) sinks) (ix3 ⟨R.val / 8, by omega⟩ ⟨R.val % 8, by omega⟩ k)
      = mixS p ck cv mk mv sinks R ⟨k.val, by omega⟩ := by
  rw [rO_at, rWt_at _ sinks _ _ _ _ (fun x => rVV p cv (ix4 _ x _ _))]
  unfold mixS
  rw [dif_pos k.isLt]
  refine winRow_congr (fun j => ?_) (fun j => rVV_at p cv _ _ _ _) (congrArg (fun a => sinks (ix1 a)) (Fin.ext (by simp only; omega)))
  rw [rS_at]
  refine if_congr Iff.rfl ?_ rfl
  rw [← scores_eq]
  refine congrArg (· * scl) (Finset.sum_congr rfl fun e _ => ?_)
  rw [rKK_at, rQ_at]
  exact congrArg (rowAt p ck 768 _ _ j _ * ·) (read_row p _ _ _ _ (by simp only; omega) rfl)

theorem xatt_at (p : FVec Ideal S1024x1536 .f32) (ck cv : FVec Ideal S128x128x256 .f32) (mk mv : FVec Ideal S128x256x256 .f32)
    (sinks : FVec Ideal S12 .f32) (R : Fin 1024) (k : Fin 256) :
    rXO mv (rXWt (rXS p mk)) (ix3 ⟨R.val / 8, by omega⟩ ⟨R.val % 8, by omega⟩ k)
      = mixS p ck cv mk mv sinks R ⟨768 + k.val, by omega⟩ := by
  rw [rXO_at, rXWt_at _ _ _ _ (fun x => mv (ix3 _ x k))]
  unfold mixS
  rw [dif_neg (by simp only; omega)]
  have hk : (768 + k.val) / 64 - 12 = k.val / 64 := by omega
  have hk' : k.val / 64 * 64 + (768 + k.val) % 64 = k.val := by omega
  simp only [hk, hk']
  congr 1
  funext j
  rw [rXS_at, ← scores_eq]
  refine congrArg (· * scl) (Finset.sum_congr rfl fun e _ => ?_)
  rw [mul_comm]
  exact congrArg (mk _ * ·) (read_row p _ _ _ _ (by simp only; omega) rfl)

/-- The reference's first result in closed form. -/
theorem rRes_eq (p : FVec Ideal S1024x1536 .f32) (x : FVec Ideal S1024x1024 .f32) (ck cv : FVec Ideal S128x128x256 .f32)
    (mk mv : FVec Ideal S128x256x256 .f32) (sinks : FVec Ideal S12 .f32) (w : FVec Ideal S1024x1024 .f32) :
    rRes p x ck cv mk mv sinks w = outG p x ck cv mk mv sinks w := by
  funext y
  idx_vars y
  unfold rRes outG
  rw [rOut_at]
  simp only [att_at p ck cv mk mv sinks, xatt_at p ck cv mk mv sinks]
  refine congrArg (x (ix2 y0 y1) + ·) ?_
  exact (Fin.sum_univ_add (a := 768) (b := 256) fun k : Fin 1024 => mixS p ck cv mk mv sinks y0 k * w (ix2 k y1)).symm

end Cert.MixSProof
-- ==== Proof.MixSPair.lean ====
/- The sample's attention call: the five claims. -/
module

public import proofs.«01_k».proof.Defs
public import proofs.«01_k».proof.Proof.Gen.MixS.Frame
public import proofs.«01_k».proof.Proof.Gen.MixSIdeal.Frame
public import proofs.«01_k».proof.Proof.Gen.MixSRefIdeal
public import proofs.«01_k».proof.Proof.MixSValue
public import proofs.«01_k».proof.Proof.MixSRefAt

@[expose] public section

set_option maxRecDepth 16384

noncomputable section

namespace Cert.MixSProof

open Idealize.ShloMosaic Idealize.ShloMosaic.TcCoe Idealize.SL.Sem

theorem quiescent : Cert.quiescent_MixS := fun m g _ => Cert.MixS.Gen.frame m g

theorem quiescentIdeal : Cert.quiescent_MixSIdeal := fun m g _ => Cert.MixSIdeal.Gen.frame m g

theorem quiescentRef : Cert.quiescent_MixSRefIdeal := fun m g _ =>
  (θ_run Cert.MixSRefIdeal.defs _ _).mono
    (fun r h => ⟨fun c => (h c).2.2.2, sem_eq_zero_of_no_sems (by decide) r.2⟩)
    (Cert.MixSRefIdeal.Value.run (F := Ideal) m g)

theorem preserves : Cert.preserves_MixS_MixSIdeal := by
  trivial

theorem algebraic : Cert.algebraic_MixSIdeal_MixSRefIdeal := by
  pair_intro
  · run_from Cert.MixSIdeal.Gen.run_main m g
  · run_from Cert.MixSRefIdeal.Value.run m' g'
    · rw [final8]
      obtain ⟨h0, h1, h2, h3, h4, h5, h6, h7⟩ := hagree c
      refine (res_eq m' c).trans ((rRes_eq _ _ _ _ _ _ _ _).trans ?_)
      rw [h0, h1, h2, h3, h4, h5, h6, h7]
    · rw [final9]
      obtain ⟨h0, h1, h2, h3, h4, h5, h6, h7⟩ := hagree c
      refine (cacheK_eq _ _).trans ?_
      rw [h2]
    · rw [final10]
      obtain ⟨h0, h1, h2, h3, h4, h5, h6, h7⟩ := hagree c
      refine (cacheV_eq _ _).trans ?_
      rw [h3]

end Cert.MixSProof
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.AttnIdeal.Value
public import proofs.«01_k».proof.Proof.Gen.ProjIdeal.Value
public import proofs.«01_k».proof.Proof.Gen.AttnRefIdeal.Run
public import proofs.«01_k».proof.Proof.Gen.ProjRefIdeal.Run
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.MemKvIdeal.Value
public import proofs.«01_k».proof.Proof.Gen.MemKvRefIdeal.Run
public import proofs.«01_k».proof.Proof.Gen.Ffn
public import proofs.«01_k».proof.Proof.Gen.Ffn.Skeleton
public import proofs.«01_k».proof.Proof.Gen.Ffn.Launch
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnRefIdeal
public import proofs.«01_k».proof.Proof.Gen.FfnRefIdeal.Run
public import proofs.«01_k».proof.Proof.Gen.Pre_experts_named
public import proofs.«01_k».proof.Proof.Gen.Dense
public import proofs.«01_k».proof.Proof.Gen.Dense.Skeleton
public import proofs.«01_k».proof.Proof.Gen.Dense.Launch
public import proofs.«01_k».proof.Proof.Gen.DenseIdeal
public import proofs.«01_k».proof.Proof.Gen.DenseIdeal.Skeleton
public import proofs.«01_k».proof.Proof.Gen.DenseIdeal.Launch
public import proofs.«01_k».proof.Proof.Gen.DenseRefIdeal
public import proofs.«01_k».proof.Proof.Gen.DenseRefIdeal.Run
public import proofs.«01_k».proof.Proof.Gen.ProjB
public import proofs.«01_k».proof.Proof.Gen.ProjB.Skeleton
public import proofs.«01_k».proof.Proof.Gen.ProjB.Launch
public import proofs.«01_k».proof.Proof.Gen.ProjB.Points
public import proofs.«01_k».proof.Proof.Gen.ProjB.Frame
public import proofs.«01_k».proof.Proof.Gen.ProjBIdeal
public import proofs.«01_k».proof.Proof.Gen.ProjBIdeal.Skeleton
public import proofs.«01_k».proof.Proof.Gen.ProjBIdeal.Launch
public import proofs.«01_k».proof.Proof.Gen.ProjBIdeal.Points
public import proofs.«01_k».proof.Proof.Gen.ProjBIdeal.Frame
public import proofs.«01_k».proof.Proof.Gen.ProjBIdeal.Value
public import proofs.«01_k».proof.Proof.Gen.ProjBRefIdeal
public import proofs.«01_k».proof.Proof.Gen.ProjBRefIdeal.Run
public import proofs.«01_k».proof.Proof.Gen.TailB
public import proofs.«01_k».proof.Proof.Gen.TailB.Skeleton
public import proofs.«01_k».proof.Proof.Gen.TailB.Launch
public import proofs.«01_k».proof.Proof.Gen.TailB.Points
public import proofs.«01_k».proof.Proof.Gen.TailB.Frame
public import proofs.«01_k».proof.Proof.Gen.TailBIdeal
public import proofs.«01_k».proof.Proof.Gen.TailBIdeal.Skeleton
public import proofs.«01_k».proof.Proof.Gen.TailBIdeal.Launch
public import proofs.«01_k».proof.Proof.Gen.TailBIdeal.Points
public import proofs.«01_k».proof.Proof.Gen.TailBIdeal.Frame
public import proofs.«01_k».proof.Proof.Gen.TailBIdeal.Value
public import proofs.«01_k».proof.Proof.Gen.TailBRefIdeal
public import proofs.«01_k».proof.Proof.Gen.TailBRefIdeal.Run
public import proofs.«01_k».proof.Proof.Gen.MixS
public import proofs.«01_k».proof.Proof.Gen.MixS.Skeleton
public import proofs.«01_k».proof.Proof.Gen.MixS.Launch
public import proofs.«01_k».proof.Proof.Gen.MixS.Points
public import proofs.«01_k».proof.Proof.Gen.MixS.Frame
public import proofs.«01_k».proof.Proof.Gen.MixSIdeal
public import proofs.«01_k».proof.Proof.Gen.MixSIdeal.Skeleton
public import proofs.«01_k».proof.Proof.Gen.MixSIdeal.Launch
public import proofs.«01_k».proof.Proof.Gen.MixSIdeal.Points
public import proofs.«01_k».proof.Proof.Gen.MixSIdeal.Frame
public import proofs.«01_k».proof.Proof.Gen.MixSIdeal.Value
public import proofs.«01_k».proof.Proof.Gen.MixSRefIdeal
public import proofs.«01_k».proof.Proof.Gen.MixSRefIdeal.Run
public import proofs.«01_k».proof.Proof.AttnPair
public import proofs.«01_k».proof.Proof.ProjPair
public import proofs.«01_k».proof.Proof.MemKvPair
public import proofs.«01_k».proof.Proof.FfnPair
public import proofs.«01_k».proof.Proof.DensePair
public import proofs.«01_k».proof.Proof.ProjBPair
public import proofs.«01_k».proof.Proof.TailBPair
public import proofs.«01_k».proof.Proof.MixSPair
public import Idealize.ShloMosaic.Adequacy
public import Idealize.ShloMosaic.Init

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts, Cert.Proj.Gen.facts, Cert.ProjIdeal.Gen.facts, Cert.ProjRefIdeal.Gen.facts,
  Cert.MemKv.Gen.facts, Cert.MemKvIdeal.Gen.facts, Cert.MemKvRefIdeal.Gen.facts,
  Cert.Ffn.Gen.facts, Cert.FfnIdeal.Gen.facts, Cert.FfnRefIdeal.Gen.facts,
  Cert.Dense.Gen.facts, Cert.DenseIdeal.Gen.facts, Cert.DenseRefIdeal.Gen.facts,
  Cert.ProjB.Gen.facts, Cert.ProjBIdeal.Gen.facts, Cert.ProjBRefIdeal.Gen.facts,
  Cert.TailB.Gen.facts, Cert.TailBIdeal.Gen.facts, Cert.TailBRefIdeal.Gen.facts,
  Cert.MixS.Gen.facts, Cert.MixSIdeal.Gen.facts, Cert.MixSRefIdeal.Gen.facts,
  Cert.Pre_experts_named.Gen.facts,
  Cert.AttnProof.quiescent, Cert.AttnProof.quiescentIdeal, Cert.AttnProof.quiescentRef,
  Cert.ProjProof.quiescent, Cert.ProjProof.quiescentIdeal, Cert.ProjProof.quiescentRef,
  Cert.MemKvProof.quiescent, Cert.MemKvProof.quiescentIdeal, Cert.MemKvProof.quiescentRef,
  Cert.FfnProof.quiescent, Cert.FfnProof.quiescentIdeal, Cert.FfnProof.quiescentRef, Cert.FfnProof.quiescentRefNamed,
  Cert.DenseProof.quiescent, Cert.DenseProof.quiescentIdeal, Cert.DenseProof.quiescentRef,
  Cert.ProjBProof.quiescent, Cert.ProjBProof.quiescentIdeal, Cert.ProjBProof.quiescentRef,
  Cert.TailBProof.quiescent, Cert.TailBProof.quiescentIdeal, Cert.TailBProof.quiescentRef,
  Cert.MixSProof.quiescent, Cert.MixSProof.quiescentIdeal, Cert.MixSProof.quiescentRef,
  Cert.AttnProof.preserves, Cert.AttnProof.algebraic, Cert.ProjProof.preserves, Cert.ProjProof.algebraic,
  Cert.MemKvProof.preserves, Cert.MemKvProof.algebraic,
  Cert.FfnProof.preserves, Cert.FfnProof.algebraic, Cert.DenseProof.preserves, Cert.DenseProof.algebraic,
  Cert.ProjBProof.preserves, Cert.ProjBProof.algebraic,
  Cert.TailBProof.preserves, Cert.TailBProof.algebraic,
  Cert.MixSProof.preserves, Cert.MixSProof.algebraic⟩

end Cert.Proof

end
